-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x2048 : Shape := ⟨3, ![8, 8192, 2048]⟩
abbrev S2048 : Shape := ⟨1, ![2048]⟩
abbrev S200x4 : Shape := ⟨2, ![200, 4]⟩
abbrev S200 : Shape := ⟨1, ![200]⟩
abbrev S100x200 : Shape := ⟨2, ![100, 200]⟩
abbrev S100 : Shape := ⟨1, ![100]⟩
abbrev S1x100 : Shape := ⟨2, ![1, 100]⟩
abbrev S1 : Shape := ⟨1, ![1]⟩
abbrev S1x2048 : Shape := ⟨2, ![1, 2048]⟩
abbrev S4x200 : Shape := ⟨2, ![4, 200]⟩
abbrev S1x200 : Shape := ⟨2, ![1, 200]⟩
abbrev S200x100 : Shape := ⟨2, ![200, 100]⟩
abbrev S100x1 : Shape := ⟨2, ![100, 1]⟩
abbrev S1x1 : Shape := ⟨2, ![1, 1]⟩
abbrev S8x4 : Shape := ⟨2, ![8, 4]⟩
abbrev S1x1664x2048 : Shape := ⟨3, ![1, 1664, 2048]⟩
abbrev S1664x2048 : Shape := ⟨2, ![1664, 2048]⟩
abbrev S1x1664 : Shape := ⟨2, ![1, 1664]⟩
abbrev S1x1x1664 : Shape := ⟨3, ![1, 1, 1664]⟩
abbrev S1x1x1 : Shape := ⟨3, ![1, 1, 1]⟩
abbrev S4 : Shape := ⟨1, ![4]⟩
abbrev S1x4 : Shape := ⟨2, ![1, 4]⟩
abbrev S32x32 : Shape := ⟨2, ![32, 32]⟩
abbrev S16x2048 : Shape := ⟨2, ![16, 2048]⟩
abbrev S32 : Shape := ⟨1, ![32]⟩
abbrev S8x4x16 : Shape := ⟨3, ![8, 4, 16]⟩
abbrev S_ : Shape := ⟨0, ![]⟩
abbrev S16 : Shape := ⟨1, ![16]⟩
abbrev S1x1x16 : Shape := ⟨3, ![1, 1, 16]⟩
abbrev S1x16x2048 : Shape := ⟨3, ![1, 16, 2048]⟩
abbrev S1x16 : Shape := ⟨2, ![1, 16]⟩
abbrev S1x2x8 : Shape := ⟨3, ![1, 2, 8]⟩
abbrev S1x1x8 : Shape := ⟨3, ![1, 1, 8]⟩
abbrev S2x2x4 : Shape := ⟨3, ![2, 2, 4]⟩
abbrev S2x1x4 : Shape := ⟨3, ![2, 1, 4]⟩
abbrev S4x2x2 : Shape := ⟨3, ![4, 2, 2]⟩
abbrev S4x1x2 : Shape := ⟨3, ![4, 1, 2]⟩
abbrev S8x2x1 : Shape := ⟨3, ![8, 2, 1]⟩
abbrev S8x1x1 : Shape := ⟨3, ![8, 1, 1]⟩
abbrev S1x32 : Shape := ⟨2, ![1, 32]⟩
abbrev S8x1 : Shape := ⟨2, ![8, 1]⟩
abbrev S32x1 : Shape := ⟨2, ![32, 1]⟩
abbrev S1x32x1 : Shape := ⟨3, ![1, 32, 1]⟩
abbrev S8x200 : Shape := ⟨2, ![8, 200]⟩
abbrev S8x100 : Shape := ⟨2, ![8, 100]⟩
abbrev S8 : Shape := ⟨1, ![8]⟩

abbrev nBuf : Table → Nat
  | .hbm => 18
  | .local .tc .vmem => 13
  | .local .tc .smem => 1
  | .local .scVector .vmem => 5
  | _ => 0

abbrev bufTy : (tb : Table) → Fin (nBuf tb) → BufTy
  | .hbm, ⟨0, _⟩ => ⟨S8x8192x2048, .f32⟩
  | .hbm, ⟨1, _⟩ => ⟨S2048, .f32⟩
  | .hbm, ⟨2, _⟩ => ⟨S200x4, .f32⟩
  | .hbm, ⟨3, _⟩ => ⟨S200, .f32⟩
  | .hbm, ⟨4, _⟩ => ⟨S100x200, .f32⟩
  | .hbm, ⟨5, _⟩ => ⟨S100, .f32⟩
  | .hbm, ⟨6, _⟩ => ⟨S1x100, .f32⟩
  | .hbm, ⟨7, _⟩ => ⟨S1, .f32⟩
  | .hbm, ⟨8, _⟩ => ⟨S1x2048, .f32⟩
  | .hbm, ⟨9, _⟩ => ⟨S4x200, .f32⟩
  | .hbm, ⟨10, _⟩ => ⟨S1x200, .f32⟩
  | .hbm, ⟨11, _⟩ => ⟨S200x100, .f32⟩
  | .hbm, ⟨12, _⟩ => ⟨S1x100, .f32⟩
  | .hbm, ⟨13, _⟩ => ⟨S100x1, .f32⟩
  | .hbm, ⟨14, _⟩ => ⟨S1x1, .f32⟩
  | .hbm, ⟨15, _⟩ => ⟨S8x4, .f32⟩
  | .hbm, ⟨16, _⟩ => ⟨S32x32, .f32⟩
  | .hbm, ⟨17, _⟩ => ⟨S8x1, .f32⟩
  | .local .tc .vmem, ⟨0, _⟩ => ⟨S1x1664x2048, .f32⟩
  | .local .tc .vmem, ⟨1, _⟩ => ⟨S1x1664x2048, .f32⟩
  | .local .tc .vmem, ⟨2, _⟩ => ⟨S1x2048, .f32⟩
  | .local .tc .vmem, ⟨3, _⟩ => ⟨S8x4, .f32⟩
  | .local .tc .vmem, ⟨4, _⟩ => ⟨S8x4, .f32⟩
  | .local .tc .vmem, ⟨5, _⟩ => ⟨S32x32, .f32⟩
  | .local .tc .vmem, ⟨6, _⟩ => ⟨S4x200, .f32⟩
  | .local .tc .vmem, ⟨7, _⟩ => ⟨S1x200, .f32⟩
  | .local .tc .vmem, ⟨8, _⟩ => ⟨S200x100, .f32⟩
  | .local .tc .vmem, ⟨9, _⟩ => ⟨S1x100, .f32⟩
  | .local .tc .vmem, ⟨10, _⟩ => ⟨S100x1, .f32⟩
  | .local .tc .vmem, ⟨11, _⟩ => ⟨S1x1, .f32⟩
  | .local .tc .vmem, ⟨12, _⟩ => ⟨S8x1, .f32⟩
  | .local .tc .smem, ⟨0, _⟩ => ⟨S8x4, .f32⟩
  | .local .scVector .vmem, ⟨0, _⟩ => ⟨S16x2048, .f32⟩
  | .local .scVector .vmem, ⟨1, _⟩ => ⟨S16x2048, .f32⟩
  | .local .scVector .vmem, ⟨2, _⟩ => ⟨S2048, .f32⟩
  | .local .scVector .vmem, ⟨3, _⟩ => ⟨S32, .f32⟩
  | .local .scVector .vmem, ⟨4, _⟩ => ⟨S8x4x16, .f32⟩
  | _, _ => ⟨S8x8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0_scv : Ref sig .scVector := ⟨.hbm, 0, rfl⟩
abbrev main_arg1_scv : Ref sig .scVector := ⟨.hbm, 1, rfl⟩
abbrev main_v8_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc0_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem7_0 : DmaSem sig := 15
abbrev cc2_sem8_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v83 : Index := Scalar.indexCast arg0
  let c0_26 : Index := 0#32
  ![v83.toNat, 0]
def k0_off2 (i : grid0.Coords) : Fin 2 → Nat :=
  let arg0 : BitVec 32 := BitVec.ofNat 32 (i 0).val
  let v85 : Index := Scalar.indexCast arg0
  let c1_28 : Index := 1#32
  ![v85.toNat, 1]
def k0_off3 (i : grid0.Coords) : Fin 2 → Nat :=
  let arg0 : BitVec 32 := BitVec.ofNat 32 (i 0).val
  let v87 : Index := Scalar.indexCast arg0
  let c2_30 : Index := 2#32
  ![v87.toNat, 2]
def k0_off4 (i : grid0.Coords) : Fin 2 → Nat :=
  let arg0 : BitVec 32 := BitVec.ofNat 32 (i 0).val
  let v89 : Index := Scalar.indexCast arg0
  let c3_32 : Index := 3#32
  ![v89.toNat, 3]
def k0_off5 (i : grid0.Coords) : Fin 2 → Nat :=
  let arg0 : BitVec 32 := BitVec.ofNat 32 (i 0).val
  let v54 : Index := Scalar.indexCast arg0
  let c3 : Index := 3#32
  ![v54.toNat, 3]
def k0_off6 (i : grid0.Coords) : Fin 2 → Nat :=
  let arg0 : BitVec 32 := BitVec.ofNat 32 (i 0).val
  let v56 : Index := Scalar.indexCast arg0
  let c2 : Index := 2#32
  ![v56.toNat, 2]
def k0_off7 (i : grid0.Coords) : Fin 2 → Nat :=
  let arg0 : BitVec 32 := BitVec.ofNat 32 (i 0).val
  let v66 : Index := Scalar.indexCast arg0
  let c0_21 : Index := 0#32
  ![v66.toNat, 0]
def k0_off8 (i : grid0.Coords) : Fin 2 → Nat :=
  let arg0 : BitVec 32 := BitVec.ofNat 32 (i 0).val
  let v68 : Index := Scalar.indexCast arg0
  let c1 : Index := 1#32
  ![v68.toNat, 1]
def k0_cond2 (i : grid0.Coords) : BitVec 1 :=
  let arg0 : BitVec 32 := BitVec.ofNat 32 (i 0).val
  let c7_i32 : BitVec 32 := 7#32
  let v78 : BitVec 1 := Scalar.cmpi .eq arg0 c7_i32
  let arg1 : BitVec 32 := BitVec.ofNat 32 (i 1).val
  let c3_i32 : BitVec 32 := 3#32
  let v79 : BitVec 1 := Scalar.cmpi .eq arg1 c3_i32
  let v80 : BitVec 1 := Scalar.andi v78 v79
  let v81 : BitVec 32 := Scalar.extui v80
  let c0_i32_24 : BitVec 32 := 0#32
  let v82 : BitVec 1 := Scalar.cmpi .ne v81 c0_i32_24
  v82

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![2, 16], ![false, false]⟩

def k1_off1 (i : grid1.Coords) : Fin 3 → Nat :=
  let c0_i32_91 : BitVec 32 := 0#32
  let c6656_i32 : BitVec 32 := 6656#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v3 : BitVec 32 := Scalar.addi c6656_i32 v2
  let c0_i32_89 : BitVec 32 := 0#32
  let c3_i32_90 : BitVec 32 := 3#32
  let v167 : BitVec 32 := Scalar.remsi c0_i32_89 c3_i32_90
  let c16_i32 : BitVec 32 := 16#32
  let v168 : BitVec 32 := Scalar.muli v167 c16_i32
  let v169 : BitVec 32 := Scalar.addi v3 v168
  let c0_i32_92 : BitVec 32 := 0#32
  ![0, v169.toNat, 0]
@[reducible] def k1_t1_loop : Scf.Loop 32 :=
  let c0_i32_95 : BitVec 32 := 0#32
  let c24_i32 : BitVec 32 := 24#32
  let v174 : BitVec 32 := Scalar.addi c0_i32_95 c24_i32
  let c1_i32_96 : BitVec 32 := 1#32
  ⟨c0_i32_95, v174, c1_i32_96⟩
def k1_cond1 (k1_t1 : Fin k1_t1_loop.trips) : BitVec 1 :=
  let c0_i32_95 : BitVec 32 := 0#32
  let c1_i32_96 : BitVec 32 := 1#32
  let arg12 : BitVec 32 := Scf.iv c0_i32_95 c1_i32_96 k1_t1
  let c2_i32_228 : BitVec 32 := 2#32
  let v424 : BitVec 32 := Scalar.remsi arg12 c2_i32_228
  let c0_i32_229 : BitVec 32 := 0#32
  let v425 : BitVec 1 := Scalar.cmpi .eq v424 c0_i32_229
  let v426 : BitVec 32 := Scalar.extui v425
  let c0_i32_230 : BitVec 32 := 0#32
  let v427 : BitVec 1 := Scalar.cmpi .ne v426 c0_i32_230
  v427

def k1_cond2 (k1_t1 : Fin k1_t1_loop.trips) : BitVec 1 :=
  let c0_i32_95 : BitVec 32 := 0#32
  let c1_i32_96 : BitVec 32 := 1#32
  let arg12 : BitVec 32 := Scf.iv c0_i32_95 c1_i32_96 k1_t1
  let c1_i32_234 : BitVec 32 := 1#32
  let v432 : BitVec 32 := Scalar.addi arg12 c1_i32_234
  let c24_i32_235 : BitVec 32 := 24#32
  let v433 : BitVec 1 := Scalar.cmpi .slt v432 c24_i32_235
  let v434 : BitVec 32 := Scalar.extui v433
  let c0_i32_236 : BitVec 32 := 0#32
  let v435 : BitVec 1 := Scalar.cmpi .ne v434 c0_i32_236
  v435

def k1_off2 (i : grid1.Coords) (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c1_i32_343 : BitVec 32 := 1#32
  let v1096 : BitVec 32 := Scalar.addi arg12 c1_i32_343
  let c0_i32_345 : BitVec 32 := 0#32
  let v1098 : BitVec 1 := Scalar.cmpi .sgt v1096 c0_i32_345
  let v1099 : BitVec 32 := Scalar.extui v1098
  let c0_i32_346 : BitVec 32 := 0#32
  let v1100 : BitVec 1 := Scalar.cmpi .slt v1096 c0_i32_346
  let v1101 : BitVec 32 := Scalar.extui v1100
  let v1102 : BitVec 32 := Scalar.subi v1099 v1101
  let c3_i32_344 : BitVec 32 := 3#32
  let c0_i32_347 : BitVec 32 := 0#32
  let v1103 : BitVec 1 := Scalar.cmpi .sgt c3_i32_344 c0_i32_347
  let v1104 : BitVec 32 := Scalar.extui v1103
  let c0_i32_348 : BitVec 32 := 0#32
  let v1105 : BitVec 1 := Scalar.cmpi .slt c3_i32_344 c0_i32_348
  let v1106 : BitVec 32 := Scalar.extui v1105
  let v1107 : BitVec 32 := Scalar.subi v1104 v1106
  let v1108 : BitVec 1 := Scalar.cmpi .ne v1102 v1107
  let v1109 : BitVec 32 := Scalar.remsi v1096 c3_i32_344
  let c0_i32_349 : BitVec 32 := 0#32
  let v1110 : BitVec 1 := Scalar.cmpi .ne v1109 c0_i32_349
  let v1111 : BitVec 1 := Scalar.andi v1108 v1110
  let v1097 : BitVec 32 := Scalar.divsi v1096 c3_i32_344
  let c1_i32_350 : BitVec 32 := 1#32
  let v1112 : BitVec 32 := Scalar.subi v1097 c1_i32_350
  let v1113 : BitVec 32 := Scalar.select v1111 v1112 v1097
  let c6656_i32 : BitVec 32 := 6656#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v3 : BitVec 32 := Scalar.addi c6656_i32 v2
  let c3_i32_351 : BitVec 32 := 3#32
  let v1114 : BitVec 32 := Scalar.remsi v1096 c3_i32_351
  let c16_i32_352 : BitVec 32 := 16#32
  let v1115 : BitVec 32 := Scalar.muli v1114 c16_i32_352
  let v1116 : BitVec 32 := Scalar.addi v3 v1115
  let c0_i32_353 : BitVec 32 := 0#32
  ![v1113.toNat, v1116.toNat, 0]
def k1_off3 (i : grid1.Coords) (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_238 : BitVec 32 := 0#32
  let v437 : BitVec 1 := Scalar.cmpi .sgt arg12 c0_i32_238
  let v438 : BitVec 32 := Scalar.extui v437
  let c0_i32_239 : BitVec 32 := 0#32
  let v439 : BitVec 1 := Scalar.cmpi .slt arg12 c0_i32_239
  let v440 : BitVec 32 := Scalar.extui v439
  let v441 : BitVec 32 := Scalar.subi v438 v440
  let c3_i32_237 : BitVec 32 := 3#32
  let c0_i32_240 : BitVec 32 := 0#32
  let v442 : BitVec 1 := Scalar.cmpi .sgt c3_i32_237 c0_i32_240
  let v443 : BitVec 32 := Scalar.extui v442
  let c0_i32_241 : BitVec 32 := 0#32
  let v444 : BitVec 1 := Scalar.cmpi .slt c3_i32_237 c0_i32_241
  let v445 : BitVec 32 := Scalar.extui v444
  let v446 : BitVec 32 := Scalar.subi v443 v445
  let v447 : BitVec 1 := Scalar.cmpi .ne v441 v446
  let v448 : BitVec 32 := Scalar.remsi arg12 c3_i32_237
  let c0_i32_242 : BitVec 32 := 0#32
  let v449 : BitVec 1 := Scalar.cmpi .ne v448 c0_i32_242
  let v450 : BitVec 1 := Scalar.andi v447 v449
  let v436 : BitVec 32 := Scalar.divsi arg12 c3_i32_237
  let c1_i32_243 : BitVec 32 := 1#32
  let v451 : BitVec 32 := Scalar.subi v436 c1_i32_243
  let v452 : BitVec 32 := Scalar.select v450 v451 v436
  let c6656_i32 : BitVec 32 := 6656#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v3 : BitVec 32 := Scalar.addi c6656_i32 v2
  let c3_i32_244 : BitVec 32 := 3#32
  let v453 : BitVec 32 := Scalar.remsi arg12 c3_i32_244
  let c16_i32_245 : BitVec 32 := 16#32
  let v454 : BitVec 32 := Scalar.muli v453 c16_i32_245
  let v455 : BitVec 32 := Scalar.addi v3 v454
  let c0_i32_246 : BitVec 32 := 0#32
  ![v452.toNat, v455.toNat, 0]
def k1_off4 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v460 : Index := Scalar.indexCast v423
  let c0_i32_248 : BitVec 32 := 0#32
  let v461 : Index := Scalar.indexCast c0_i32_248
  let c0_249 : Index := 0#32
  ![v460.toNat, 0, 0]
def k1_off5 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v464 : Index := Scalar.indexCast v423
  let c1_i32_250 : BitVec 32 := 1#32
  let v465 : Index := Scalar.indexCast c1_i32_250
  let c0_251 : Index := 0#32
  ![v464.toNat, 1, 0]
def k1_off6 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v468 : Index := Scalar.indexCast v423
  let c2_i32_252 : BitVec 32 := 2#32
  let v469 : Index := Scalar.indexCast c2_i32_252
  let c0_253 : Index := 0#32
  ![v468.toNat, 2, 0]
def k1_off7 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v472 : Index := Scalar.indexCast v423
  let c3_i32_254 : BitVec 32 := 3#32
  let v473 : Index := Scalar.indexCast c3_i32_254
  let c0_255 : Index := 0#32
  ![v472.toNat, 3, 0]
@[reducible] def k1_t2_loop : Scf.Loop 32 :=
  let c0_i32_272 : BitVec 32 := 0#32
  let c32_i32 : BitVec 32 := 32#32
  let v492 : BitVec 32 := Scalar.addi c0_i32_272 c32_i32
  let c1_i32_273 : BitVec 32 := 1#32
  ⟨c0_i32_272, v492, c1_i32_273⟩
def k1_mult1 (k1_t2 : Fin k1_t2_loop.trips) : BitVec 32 :=
  let c0_i32_272 : BitVec 32 := 0#32
  let c1_i32_273 : BitVec 32 := 1#32
  let arg13 : BitVec 32 := Scf.iv c0_i32_272 c1_i32_273 k1_t2
  let c64_i32 : BitVec 32 := 64#32
  let v1096 : BitVec 32 := Scalar.muli arg13 c64_i32
  let c0_i32_343 : BitVec 32 := 0#32
  let v1097 : BitVec 32 := Scalar.addi v1096 c0_i32_343
  v1097
def k1_off8 (k1_t2 : Fin k1_t2_loop.trips) (c0_i32_343 : BitVec 32) : Fin 1 → Nat :=
  let c0_i32_272 : BitVec 32 := 0#32
  let c1_i32_273 : BitVec 32 := 1#32
  let arg13 : BitVec 32 := Scf.iv c0_i32_272 c1_i32_273 k1_t2
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off9 (k1_t2 : Fin k1_t2_loop.trips) (c0_i32_343 : BitVec 32) : Fin 2 → Nat :=
  let c0_i32_344 : BitVec 32 := 0#32
  let v1102 : Index := Scalar.indexCast c0_i32_344
  let c0_i32_272 : BitVec 32 := 0#32
  let c1_i32_273 : BitVec 32 := 1#32
  let arg13 : BitVec 32 := Scf.iv c0_i32_272 c1_i32_273 k1_t2
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![0, v1103.toNat]
def k1_off10 (k1_t2 : Fin k1_t2_loop.trips) (c0_i32_343 : BitVec 32) : Fin 2 → Nat :=
  let c1_i32_345 : BitVec 32 := 1#32
  let v1108 : Index := Scalar.indexCast c1_i32_345
  let c0_i32_272 : BitVec 32 := 0#32
  let c1_i32_273 : BitVec 32 := 1#32
  let arg13 : BitVec 32 := Scf.iv c0_i32_272 c1_i32_273 k1_t2
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![1, v1109.toNat]
def k1_off11 (k1_t2 : Fin k1_t2_loop.trips) (c0_i32_343 : BitVec 32) : Fin 2 → Nat :=
  let c2_i32_346 : BitVec 32 := 2#32
  let v1114 : Index := Scalar.indexCast c2_i32_346
  let c0_i32_272 : BitVec 32 := 0#32
  let c1_i32_273 : BitVec 32 := 1#32
  let arg13 : BitVec 32 := Scf.iv c0_i32_272 c1_i32_273 k1_t2
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![2, v1115.toNat]
def k1_off12 (k1_t2 : Fin k1_t2_loop.trips) (c0_i32_343 : BitVec 32) : Fin 2 → Nat :=
  let c3_i32_347 : BitVec 32 := 3#32
  let v1120 : Index := Scalar.indexCast c3_i32_347
  let c0_i32_272 : BitVec 32 := 0#32
  let c1_i32_273 : BitVec 32 := 1#32
  let arg13 : BitVec 32 := Scf.iv c0_i32_272 c1_i32_273 k1_t2
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![3, v1121.toNat]
def k1_mult2 (k1_t2 : Fin k1_t2_loop.trips) : BitVec 32 :=
  let c0_i32_272 : BitVec 32 := 0#32
  let c1_i32_273 : BitVec 32 := 1#32
  let arg13 : BitVec 32 := Scf.iv c0_i32_272 c1_i32_273 k1_t2
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult3 (k1_t2 : Fin k1_t2_loop.trips) : BitVec 32 :=
  let c0_i32_272 : BitVec 32 := 0#32
  let c1_i32_273 : BitVec 32 := 1#32
  let arg13 : BitVec 32 := Scf.iv c0_i32_272 c1_i32_273 k1_t2
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult4 (k1_t2 : Fin k1_t2_loop.trips) : BitVec 32 :=
  let c0_i32_272 : BitVec 32 := 0#32
  let c1_i32_273 : BitVec 32 := 1#32
  let arg13 : BitVec 32 := Scf.iv c0_i32_272 c1_i32_273 k1_t2
  let c64_i32_360 : BitVec 32 := 64#32
  let v1186 : BitVec 32 := Scalar.muli arg13 c64_i32_360
  let c48_i32_361 : BitVec 32 := 48#32
  let v1187 : BitVec 32 := Scalar.addi v1186 c48_i32_361
  v1187
@[reducible] def k1_t3_loop : Scf.Loop 32 :=
  let c0_i32_291 : BitVec 32 := 0#32
  let c32_i32_292 : BitVec 32 := 32#32
  let v642 : BitVec 32 := Scalar.addi c0_i32_291 c32_i32_292
  let c1_i32_293 : BitVec 32 := 1#32
  ⟨c0_i32_291, v642, c1_i32_293⟩
def k1_mult5 (k1_t3 : Fin k1_t3_loop.trips) : BitVec 32 :=
  let c0_i32_291 : BitVec 32 := 0#32
  let c1_i32_293 : BitVec 32 := 1#32
  let arg13 : BitVec 32 := Scf.iv c0_i32_291 c1_i32_293 k1_t3
  let c64_i32 : BitVec 32 := 64#32
  let v1096 : BitVec 32 := Scalar.muli arg13 c64_i32
  let c0_i32_343 : BitVec 32 := 0#32
  let v1097 : BitVec 32 := Scalar.addi v1096 c0_i32_343
  v1097
def k1_off13 (k1_t3 : Fin k1_t3_loop.trips) (c0_i32_343 : BitVec 32) : Fin 1 → Nat :=
  let c0_i32_291 : BitVec 32 := 0#32
  let c1_i32_293 : BitVec 32 := 1#32
  let arg13 : BitVec 32 := Scf.iv c0_i32_291 c1_i32_293 k1_t3
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off14 (k1_t3 : Fin k1_t3_loop.trips) (c0_i32_343 : BitVec 32) : Fin 2 → Nat :=
  let c4_i32_344 : BitVec 32 := 4#32
  let v1102 : Index := Scalar.indexCast c4_i32_344
  let c0_i32_291 : BitVec 32 := 0#32
  let c1_i32_293 : BitVec 32 := 1#32
  let arg13 : BitVec 32 := Scf.iv c0_i32_291 c1_i32_293 k1_t3
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![4, v1103.toNat]
def k1_off15 (k1_t3 : Fin k1_t3_loop.trips) (c0_i32_343 : BitVec 32) : Fin 2 → Nat :=
  let c5_i32_345 : BitVec 32 := 5#32
  let v1108 : Index := Scalar.indexCast c5_i32_345
  let c0_i32_291 : BitVec 32 := 0#32
  let c1_i32_293 : BitVec 32 := 1#32
  let arg13 : BitVec 32 := Scf.iv c0_i32_291 c1_i32_293 k1_t3
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![5, v1109.toNat]
def k1_off16 (k1_t3 : Fin k1_t3_loop.trips) (c0_i32_343 : BitVec 32) : Fin 2 → Nat :=
  let c6_i32_346 : BitVec 32 := 6#32
  let v1114 : Index := Scalar.indexCast c6_i32_346
  let c0_i32_291 : BitVec 32 := 0#32
  let c1_i32_293 : BitVec 32 := 1#32
  let arg13 : BitVec 32 := Scf.iv c0_i32_291 c1_i32_293 k1_t3
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![6, v1115.toNat]
def k1_off17 (k1_t3 : Fin k1_t3_loop.trips) (c0_i32_343 : BitVec 32) : Fin 2 → Nat :=
  let c7_i32_347 : BitVec 32 := 7#32
  let v1120 : Index := Scalar.indexCast c7_i32_347
  let c0_i32_291 : BitVec 32 := 0#32
  let c1_i32_293 : BitVec 32 := 1#32
  let arg13 : BitVec 32 := Scf.iv c0_i32_291 c1_i32_293 k1_t3
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![7, v1121.toNat]
def k1_mult6 (k1_t3 : Fin k1_t3_loop.trips) : BitVec 32 :=
  let c0_i32_291 : BitVec 32 := 0#32
  let c1_i32_293 : BitVec 32 := 1#32
  let arg13 : BitVec 32 := Scf.iv c0_i32_291 c1_i32_293 k1_t3
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult7 (k1_t3 : Fin k1_t3_loop.trips) : BitVec 32 :=
  let c0_i32_291 : BitVec 32 := 0#32
  let c1_i32_293 : BitVec 32 := 1#32
  let arg13 : BitVec 32 := Scf.iv c0_i32_291 c1_i32_293 k1_t3
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult8 (k1_t3 : Fin k1_t3_loop.trips) : BitVec 32 :=
  let c0_i32_291 : BitVec 32 := 0#32
  let c1_i32_293 : BitVec 32 := 1#32
  let arg13 : BitVec 32 := Scf.iv c0_i32_291 c1_i32_293 k1_t3
  let c64_i32_360 : BitVec 32 := 64#32
  let v1186 : BitVec 32 := Scalar.muli arg13 c64_i32_360
  let c48_i32_361 : BitVec 32 := 48#32
  let v1187 : BitVec 32 := Scalar.addi v1186 c48_i32_361
  v1187
@[reducible] def k1_t4_loop : Scf.Loop 32 :=
  let c0_i32_311 : BitVec 32 := 0#32
  let c32_i32_312 : BitVec 32 := 32#32
  let v792 : BitVec 32 := Scalar.addi c0_i32_311 c32_i32_312
  let c1_i32_313 : BitVec 32 := 1#32
  ⟨c0_i32_311, v792, c1_i32_313⟩
def k1_mult9 (k1_t4 : Fin k1_t4_loop.trips) : BitVec 32 :=
  let c0_i32_311 : BitVec 32 := 0#32
  let c1_i32_313 : BitVec 32 := 1#32
  let arg13 : BitVec 32 := Scf.iv c0_i32_311 c1_i32_313 k1_t4
  let c64_i32 : BitVec 32 := 64#32
  let v1096 : BitVec 32 := Scalar.muli arg13 c64_i32
  let c0_i32_343 : BitVec 32 := 0#32
  let v1097 : BitVec 32 := Scalar.addi v1096 c0_i32_343
  v1097
def k1_off18 (k1_t4 : Fin k1_t4_loop.trips) (c0_i32_343 : BitVec 32) : Fin 1 → Nat :=
  let c0_i32_311 : BitVec 32 := 0#32
  let c1_i32_313 : BitVec 32 := 1#32
  let arg13 : BitVec 32 := Scf.iv c0_i32_311 c1_i32_313 k1_t4
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off19 (k1_t4 : Fin k1_t4_loop.trips) (c0_i32_343 : BitVec 32) : Fin 2 → Nat :=
  let c8_i32_344 : BitVec 32 := 8#32
  let v1102 : Index := Scalar.indexCast c8_i32_344
  let c0_i32_311 : BitVec 32 := 0#32
  let c1_i32_313 : BitVec 32 := 1#32
  let arg13 : BitVec 32 := Scf.iv c0_i32_311 c1_i32_313 k1_t4
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![8, v1103.toNat]
def k1_off20 (k1_t4 : Fin k1_t4_loop.trips) (c0_i32_343 : BitVec 32) : Fin 2 → Nat :=
  let c9_i32_345 : BitVec 32 := 9#32
  let v1108 : Index := Scalar.indexCast c9_i32_345
  let c0_i32_311 : BitVec 32 := 0#32
  let c1_i32_313 : BitVec 32 := 1#32
  let arg13 : BitVec 32 := Scf.iv c0_i32_311 c1_i32_313 k1_t4
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![9, v1109.toNat]
def k1_off21 (k1_t4 : Fin k1_t4_loop.trips) (c0_i32_343 : BitVec 32) : Fin 2 → Nat :=
  let c10_i32_346 : BitVec 32 := 10#32
  let v1114 : Index := Scalar.indexCast c10_i32_346
  let c0_i32_311 : BitVec 32 := 0#32
  let c1_i32_313 : BitVec 32 := 1#32
  let arg13 : BitVec 32 := Scf.iv c0_i32_311 c1_i32_313 k1_t4
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![10, v1115.toNat]
def k1_off22 (k1_t4 : Fin k1_t4_loop.trips) (c0_i32_343 : BitVec 32) : Fin 2 → Nat :=
  let c11_i32_347 : BitVec 32 := 11#32
  let v1120 : Index := Scalar.indexCast c11_i32_347
  let c0_i32_311 : BitVec 32 := 0#32
  let c1_i32_313 : BitVec 32 := 1#32
  let arg13 : BitVec 32 := Scf.iv c0_i32_311 c1_i32_313 k1_t4
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![11, v1121.toNat]
def k1_mult10 (k1_t4 : Fin k1_t4_loop.trips) : BitVec 32 :=
  let c0_i32_311 : BitVec 32 := 0#32
  let c1_i32_313 : BitVec 32 := 1#32
  let arg13 : BitVec 32 := Scf.iv c0_i32_311 c1_i32_313 k1_t4
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult11 (k1_t4 : Fin k1_t4_loop.trips) : BitVec 32 :=
  let c0_i32_311 : BitVec 32 := 0#32
  let c1_i32_313 : BitVec 32 := 1#32
  let arg13 : BitVec 32 := Scf.iv c0_i32_311 c1_i32_313 k1_t4
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult12 (k1_t4 : Fin k1_t4_loop.trips) : BitVec 32 :=
  let c0_i32_311 : BitVec 32 := 0#32
  let c1_i32_313 : BitVec 32 := 1#32
  let arg13 : BitVec 32 := Scf.iv c0_i32_311 c1_i32_313 k1_t4
  let c64_i32_360 : BitVec 32 := 64#32
  let v1186 : BitVec 32 := Scalar.muli arg13 c64_i32_360
  let c48_i32_361 : BitVec 32 := 48#32
  let v1187 : BitVec 32 := Scalar.addi v1186 c48_i32_361
  v1187
@[reducible] def k1_t5_loop : Scf.Loop 32 :=
  let c0_i32_331 : BitVec 32 := 0#32
  let c32_i32_332 : BitVec 32 := 32#32
  let v942 : BitVec 32 := Scalar.addi c0_i32_331 c32_i32_332
  let c1_i32_333 : BitVec 32 := 1#32
  ⟨c0_i32_331, v942, c1_i32_333⟩
def k1_mult13 (k1_t5 : Fin k1_t5_loop.trips) : BitVec 32 :=
  let c0_i32_331 : BitVec 32 := 0#32
  let c1_i32_333 : BitVec 32 := 1#32
  let arg13 : BitVec 32 := Scf.iv c0_i32_331 c1_i32_333 k1_t5
  let c64_i32 : BitVec 32 := 64#32
  let v1096 : BitVec 32 := Scalar.muli arg13 c64_i32
  let c0_i32_343 : BitVec 32 := 0#32
  let v1097 : BitVec 32 := Scalar.addi v1096 c0_i32_343
  v1097
def k1_off23 (k1_t5 : Fin k1_t5_loop.trips) (c0_i32_343 : BitVec 32) : Fin 1 → Nat :=
  let c0_i32_331 : BitVec 32 := 0#32
  let c1_i32_333 : BitVec 32 := 1#32
  let arg13 : BitVec 32 := Scf.iv c0_i32_331 c1_i32_333 k1_t5
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off24 (k1_t5 : Fin k1_t5_loop.trips) (c0_i32_343 : BitVec 32) : Fin 2 → Nat :=
  let c12_i32_344 : BitVec 32 := 12#32
  let v1102 : Index := Scalar.indexCast c12_i32_344
  let c0_i32_331 : BitVec 32 := 0#32
  let c1_i32_333 : BitVec 32 := 1#32
  let arg13 : BitVec 32 := Scf.iv c0_i32_331 c1_i32_333 k1_t5
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![12, v1103.toNat]
def k1_off25 (k1_t5 : Fin k1_t5_loop.trips) (c0_i32_343 : BitVec 32) : Fin 2 → Nat :=
  let c13_i32_345 : BitVec 32 := 13#32
  let v1108 : Index := Scalar.indexCast c13_i32_345
  let c0_i32_331 : BitVec 32 := 0#32
  let c1_i32_333 : BitVec 32 := 1#32
  let arg13 : BitVec 32 := Scf.iv c0_i32_331 c1_i32_333 k1_t5
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![13, v1109.toNat]
def k1_off26 (k1_t5 : Fin k1_t5_loop.trips) (c0_i32_343 : BitVec 32) : Fin 2 → Nat :=
  let c14_i32_346 : BitVec 32 := 14#32
  let v1114 : Index := Scalar.indexCast c14_i32_346
  let c0_i32_331 : BitVec 32 := 0#32
  let c1_i32_333 : BitVec 32 := 1#32
  let arg13 : BitVec 32 := Scf.iv c0_i32_331 c1_i32_333 k1_t5
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![14, v1115.toNat]
def k1_off27 (k1_t5 : Fin k1_t5_loop.trips) (c0_i32_343 : BitVec 32) : Fin 2 → Nat :=
  let c15_i32_347 : BitVec 32 := 15#32
  let v1120 : Index := Scalar.indexCast c15_i32_347
  let c0_i32_331 : BitVec 32 := 0#32
  let c1_i32_333 : BitVec 32 := 1#32
  let arg13 : BitVec 32 := Scf.iv c0_i32_331 c1_i32_333 k1_t5
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![15, v1121.toNat]
def k1_mult14 (k1_t5 : Fin k1_t5_loop.trips) : BitVec 32 :=
  let c0_i32_331 : BitVec 32 := 0#32
  let c1_i32_333 : BitVec 32 := 1#32
  let arg13 : BitVec 32 := Scf.iv c0_i32_331 c1_i32_333 k1_t5
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult15 (k1_t5 : Fin k1_t5_loop.trips) : BitVec 32 :=
  let c0_i32_331 : BitVec 32 := 0#32
  let c1_i32_333 : BitVec 32 := 1#32
  let arg13 : BitVec 32 := Scf.iv c0_i32_331 c1_i32_333 k1_t5
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult16 (k1_t5 : Fin k1_t5_loop.trips) : BitVec 32 :=
  let c0_i32_331 : BitVec 32 := 0#32
  let c1_i32_333 : BitVec 32 := 1#32
  let arg13 : BitVec 32 := Scf.iv c0_i32_331 c1_i32_333 k1_t5
  let c64_i32_360 : BitVec 32 := 64#32
  let v1186 : BitVec 32 := Scalar.muli arg13 c64_i32_360
  let c48_i32_361 : BitVec 32 := 48#32
  let v1187 : BitVec 32 := Scalar.addi v1186 c48_i32_361
  v1187
def k1_cond3 (k1_t1 : Fin k1_t1_loop.trips) : BitVec 1 :=
  let c0_i32_95 : BitVec 32 := 0#32
  let c1_i32_96 : BitVec 32 := 1#32
  let arg12 : BitVec 32 := Scf.iv c0_i32_95 c1_i32_96 k1_t1
  let c2_i32_231 : BitVec 32 := 2#32
  let v428 : BitVec 32 := Scalar.remsi arg12 c2_i32_231
  let c1_i32_232 : BitVec 32 := 1#32
  let v429 : BitVec 1 := Scalar.cmpi .eq v428 c1_i32_232
  let v430 : BitVec 32 := Scalar.extui v429
  let c0_i32_233 : BitVec 32 := 0#32
  let v431 : BitVec 1 := Scalar.cmpi .ne v430 c0_i32_233
  v431

def k1_cond4 (k1_t1 : Fin k1_t1_loop.trips) : BitVec 1 :=
  let c0_i32_95 : BitVec 32 := 0#32
  let c1_i32_96 : BitVec 32 := 1#32
  let arg12 : BitVec 32 := Scf.iv c0_i32_95 c1_i32_96 k1_t1
  let c1_i32_234 : BitVec 32 := 1#32
  let v432 : BitVec 32 := Scalar.addi arg12 c1_i32_234
  let c24_i32_235 : BitVec 32 := 24#32
  let v433 : BitVec 1 := Scalar.cmpi .slt v432 c24_i32_235
  let v434 : BitVec 32 := Scalar.extui v433
  let c0_i32_236 : BitVec 32 := 0#32
  let v435 : BitVec 1 := Scalar.cmpi .ne v434 c0_i32_236
  v435

def k1_off28 (i : grid1.Coords) (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c1_i32_343 : BitVec 32 := 1#32
  let v1096 : BitVec 32 := Scalar.addi arg12 c1_i32_343
  let c0_i32_345 : BitVec 32 := 0#32
  let v1098 : BitVec 1 := Scalar.cmpi .sgt v1096 c0_i32_345
  let v1099 : BitVec 32 := Scalar.extui v1098
  let c0_i32_346 : BitVec 32 := 0#32
  let v1100 : BitVec 1 := Scalar.cmpi .slt v1096 c0_i32_346
  let v1101 : BitVec 32 := Scalar.extui v1100
  let v1102 : BitVec 32 := Scalar.subi v1099 v1101
  let c3_i32_344 : BitVec 32 := 3#32
  let c0_i32_347 : BitVec 32 := 0#32
  let v1103 : BitVec 1 := Scalar.cmpi .sgt c3_i32_344 c0_i32_347
  let v1104 : BitVec 32 := Scalar.extui v1103
  let c0_i32_348 : BitVec 32 := 0#32
  let v1105 : BitVec 1 := Scalar.cmpi .slt c3_i32_344 c0_i32_348
  let v1106 : BitVec 32 := Scalar.extui v1105
  let v1107 : BitVec 32 := Scalar.subi v1104 v1106
  let v1108 : BitVec 1 := Scalar.cmpi .ne v1102 v1107
  let v1109 : BitVec 32 := Scalar.remsi v1096 c3_i32_344
  let c0_i32_349 : BitVec 32 := 0#32
  let v1110 : BitVec 1 := Scalar.cmpi .ne v1109 c0_i32_349
  let v1111 : BitVec 1 := Scalar.andi v1108 v1110
  let v1097 : BitVec 32 := Scalar.divsi v1096 c3_i32_344
  let c1_i32_350 : BitVec 32 := 1#32
  let v1112 : BitVec 32 := Scalar.subi v1097 c1_i32_350
  let v1113 : BitVec 32 := Scalar.select v1111 v1112 v1097
  let c6656_i32 : BitVec 32 := 6656#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v3 : BitVec 32 := Scalar.addi c6656_i32 v2
  let c3_i32_351 : BitVec 32 := 3#32
  let v1114 : BitVec 32 := Scalar.remsi v1096 c3_i32_351
  let c16_i32_352 : BitVec 32 := 16#32
  let v1115 : BitVec 32 := Scalar.muli v1114 c16_i32_352
  let v1116 : BitVec 32 := Scalar.addi v3 v1115
  let c0_i32_353 : BitVec 32 := 0#32
  ![v1113.toNat, v1116.toNat, 0]
def k1_off29 (i : grid1.Coords) (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_238 : BitVec 32 := 0#32
  let v437 : BitVec 1 := Scalar.cmpi .sgt arg12 c0_i32_238
  let v438 : BitVec 32 := Scalar.extui v437
  let c0_i32_239 : BitVec 32 := 0#32
  let v439 : BitVec 1 := Scalar.cmpi .slt arg12 c0_i32_239
  let v440 : BitVec 32 := Scalar.extui v439
  let v441 : BitVec 32 := Scalar.subi v438 v440
  let c3_i32_237 : BitVec 32 := 3#32
  let c0_i32_240 : BitVec 32 := 0#32
  let v442 : BitVec 1 := Scalar.cmpi .sgt c3_i32_237 c0_i32_240
  let v443 : BitVec 32 := Scalar.extui v442
  let c0_i32_241 : BitVec 32 := 0#32
  let v444 : BitVec 1 := Scalar.cmpi .slt c3_i32_237 c0_i32_241
  let v445 : BitVec 32 := Scalar.extui v444
  let v446 : BitVec 32 := Scalar.subi v443 v445
  let v447 : BitVec 1 := Scalar.cmpi .ne v441 v446
  let v448 : BitVec 32 := Scalar.remsi arg12 c3_i32_237
  let c0_i32_242 : BitVec 32 := 0#32
  let v449 : BitVec 1 := Scalar.cmpi .ne v448 c0_i32_242
  let v450 : BitVec 1 := Scalar.andi v447 v449
  let v436 : BitVec 32 := Scalar.divsi arg12 c3_i32_237
  let c1_i32_243 : BitVec 32 := 1#32
  let v451 : BitVec 32 := Scalar.subi v436 c1_i32_243
  let v452 : BitVec 32 := Scalar.select v450 v451 v436
  let c6656_i32 : BitVec 32 := 6656#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v3 : BitVec 32 := Scalar.addi c6656_i32 v2
  let c3_i32_244 : BitVec 32 := 3#32
  let v453 : BitVec 32 := Scalar.remsi arg12 c3_i32_244
  let c16_i32_245 : BitVec 32 := 16#32
  let v454 : BitVec 32 := Scalar.muli v453 c16_i32_245
  let v455 : BitVec 32 := Scalar.addi v3 v454
  let c0_i32_246 : BitVec 32 := 0#32
  ![v452.toNat, v455.toNat, 0]
def k1_off30 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v460 : Index := Scalar.indexCast v423
  let c0_i32_248 : BitVec 32 := 0#32
  let v461 : Index := Scalar.indexCast c0_i32_248
  let c0_249 : Index := 0#32
  ![v460.toNat, 0, 0]
def k1_off31 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v464 : Index := Scalar.indexCast v423
  let c1_i32_250 : BitVec 32 := 1#32
  let v465 : Index := Scalar.indexCast c1_i32_250
  let c0_251 : Index := 0#32
  ![v464.toNat, 1, 0]
def k1_off32 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v468 : Index := Scalar.indexCast v423
  let c2_i32_252 : BitVec 32 := 2#32
  let v469 : Index := Scalar.indexCast c2_i32_252
  let c0_253 : Index := 0#32
  ![v468.toNat, 2, 0]
def k1_off33 (k1_t1 : Fin k1_t1_loop.trips) : Fin 3 → Nat :=
  let c0_i32_95 : BitVec 32 := 0#32
  let c1_i32_96 : BitVec 32 := 1#32
  let arg12 : BitVec 32 := Scf.iv c0_i32_95 c1_i32_96 k1_t1
  let c0_i32_222 : BitVec 32 := 0#32
  let v408 : BitVec 1 := Scalar.cmpi .sgt arg12 c0_i32_222
  let v409 : BitVec 32 := Scalar.extui v408
  let c0_i32_223 : BitVec 32 := 0#32
  let v410 : BitVec 1 := Scalar.cmpi .slt arg12 c0_i32_223
  let v411 : BitVec 32 := Scalar.extui v410
  let v412 : BitVec 32 := Scalar.subi v409 v411
  let c3_i32_221 : BitVec 32 := 3#32
  let c0_i32_224 : BitVec 32 := 0#32
  let v413 : BitVec 1 := Scalar.cmpi .sgt c3_i32_221 c0_i32_224
  let v414 : BitVec 32 := Scalar.extui v413
  let c0_i32_225 : BitVec 32 := 0#32
  let v415 : BitVec 1 := Scalar.cmpi .slt c3_i32_221 c0_i32_225
  let v416 : BitVec 32 := Scalar.extui v415
  let v417 : BitVec 32 := Scalar.subi v414 v416
  let v418 : BitVec 1 := Scalar.cmpi .ne v412 v417
  let v419 : BitVec 32 := Scalar.remsi arg12 c3_i32_221
  let c0_i32_226 : BitVec 32 := 0#32
  let v420 : BitVec 1 := Scalar.cmpi .ne v419 c0_i32_226
  let v421 : BitVec 1 := Scalar.andi v418 v420
  let v407 : BitVec 32 := Scalar.divsi arg12 c3_i32_221
  let c1_i32_227 : BitVec 32 := 1#32
  let v422 : BitVec 32 := Scalar.subi v407 c1_i32_227
  let v423 : BitVec 32 := Scalar.select v421 v422 v407
  let v472 : Index := Scalar.indexCast v423
  let c3_i32_254 : BitVec 32 := 3#32
  let v473 : Index := Scalar.indexCast c3_i32_254
  let c0_255 : Index := 0#32
  ![v472.toNat, 3, 0]
@[reducible] def k1_t6_loop : Scf.Loop 32 :=
  let c0_i32_272 : BitVec 32 := 0#32
  let c32_i32 : BitVec 32 := 32#32
  let v492 : BitVec 32 := Scalar.addi c0_i32_272 c32_i32
  let c1_i32_273 : BitVec 32 := 1#32
  ⟨c0_i32_272, v492, c1_i32_273⟩
def k1_mult17 (k1_t6 : Fin k1_t6_loop.trips) : BitVec 32 :=
  let c0_i32_272 : BitVec 32 := 0#32
  let c1_i32_273 : BitVec 32 := 1#32
  let arg13 : BitVec 32 := Scf.iv c0_i32_272 c1_i32_273 k1_t6
  let c64_i32 : BitVec 32 := 64#32
  let v1096 : BitVec 32 := Scalar.muli arg13 c64_i32
  let c0_i32_343 : BitVec 32 := 0#32
  let v1097 : BitVec 32 := Scalar.addi v1096 c0_i32_343
  v1097
def k1_off34 (k1_t6 : Fin k1_t6_loop.trips) (c0_i32_343 : BitVec 32) : Fin 1 → Nat :=
  let c0_i32_272 : BitVec 32 := 0#32
  let c1_i32_273 : BitVec 32 := 1#32
  let arg13 : BitVec 32 := Scf.iv c0_i32_272 c1_i32_273 k1_t6
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off35 (k1_t6 : Fin k1_t6_loop.trips) (c0_i32_343 : BitVec 32) : Fin 2 → Nat :=
  let c0_i32_344 : BitVec 32 := 0#32
  let v1102 : Index := Scalar.indexCast c0_i32_344
  let c0_i32_272 : BitVec 32 := 0#32
  let c1_i32_273 : BitVec 32 := 1#32
  let arg13 : BitVec 32 := Scf.iv c0_i32_272 c1_i32_273 k1_t6
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![0, v1103.toNat]
def k1_off36 (k1_t6 : Fin k1_t6_loop.trips) (c0_i32_343 : BitVec 32) : Fin 2 → Nat :=
  let c1_i32_345 : BitVec 32 := 1#32
  let v1108 : Index := Scalar.indexCast c1_i32_345
  let c0_i32_272 : BitVec 32 := 0#32
  let c1_i32_273 : BitVec 32 := 1#32
  let arg13 : BitVec 32 := Scf.iv c0_i32_272 c1_i32_273 k1_t6
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![1, v1109.toNat]
def k1_off37 (k1_t6 : Fin k1_t6_loop.trips) (c0_i32_343 : BitVec 32) : Fin 2 → Nat :=
  let c2_i32_346 : BitVec 32 := 2#32
  let v1114 : Index := Scalar.indexCast c2_i32_346
  let c0_i32_272 : BitVec 32 := 0#32
  let c1_i32_273 : BitVec 32 := 1#32
  let arg13 : BitVec 32 := Scf.iv c0_i32_272 c1_i32_273 k1_t6
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![2, v1115.toNat]
def k1_off38 (k1_t6 : Fin k1_t6_loop.trips) (c0_i32_343 : BitVec 32) : Fin 2 → Nat :=
  let c3_i32_347 : BitVec 32 := 3#32
  let v1120 : Index := Scalar.indexCast c3_i32_347
  let c0_i32_272 : BitVec 32 := 0#32
  let c1_i32_273 : BitVec 32 := 1#32
  let arg13 : BitVec 32 := Scf.iv c0_i32_272 c1_i32_273 k1_t6
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![3, v1121.toNat]
def k1_mult18 (k1_t6 : Fin k1_t6_loop.trips) : BitVec 32 :=
  let c0_i32_272 : BitVec 32 := 0#32
  let c1_i32_273 : BitVec 32 := 1#32
  let arg13 : BitVec 32 := Scf.iv c0_i32_272 c1_i32_273 k1_t6
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult19 (k1_t6 : Fin k1_t6_loop.trips) : BitVec 32 :=
  let c0_i32_272 : BitVec 32 := 0#32
  let c1_i32_273 : BitVec 32 := 1#32
  let arg13 : BitVec 32 := Scf.iv c0_i32_272 c1_i32_273 k1_t6
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult20 (k1_t6 : Fin k1_t6_loop.trips) : BitVec 32 :=
  let c0_i32_272 : BitVec 32 := 0#32
  let c1_i32_273 : BitVec 32 := 1#32
  let arg13 : BitVec 32 := Scf.iv c0_i32_272 c1_i32_273 k1_t6
  let c64_i32_360 : BitVec 32 := 64#32
  let v1186 : BitVec 32 := Scalar.muli arg13 c64_i32_360
  let c48_i32_361 : BitVec 32 := 48#32
  let v1187 : BitVec 32 := Scalar.addi v1186 c48_i32_361
  v1187
@[reducible] def k1_t7_loop : Scf.Loop 32 :=
  let c0_i32_291 : BitVec 32 := 0#32
  let c32_i32_292 : BitVec 32 := 32#32
  let v642 : BitVec 32 := Scalar.addi c0_i32_291 c32_i32_292
  let c1_i32_293 : BitVec 32 := 1#32
  ⟨c0_i32_291, v642, c1_i32_293⟩
def k1_mult21 (k1_t7 : Fin k1_t7_loop.trips) : BitVec 32 :=
  let c0_i32_291 : BitVec 32 := 0#32
  let c1_i32_293 : BitVec 32 := 1#32
  let arg13 : BitVec 32 := Scf.iv c0_i32_291 c1_i32_293 k1_t7
  let c64_i32 : BitVec 32 := 64#32
  let v1096 : BitVec 32 := Scalar.muli arg13 c64_i32
  let c0_i32_343 : BitVec 32 := 0#32
  let v1097 : BitVec 32 := Scalar.addi v1096 c0_i32_343
  v1097
def k1_off39 (k1_t7 : Fin k1_t7_loop.trips) (c0_i32_343 : BitVec 32) : Fin 1 → Nat :=
  let c0_i32_291 : BitVec 32 := 0#32
  let c1_i32_293 : BitVec 32 := 1#32
  let arg13 : BitVec 32 := Scf.iv c0_i32_291 c1_i32_293 k1_t7
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off40 (k1_t7 : Fin k1_t7_loop.trips) (c0_i32_343 : BitVec 32) : Fin 2 → Nat :=
  let c4_i32_344 : BitVec 32 := 4#32
  let v1102 : Index := Scalar.indexCast c4_i32_344
  let c0_i32_291 : BitVec 32 := 0#32
  let c1_i32_293 : BitVec 32 := 1#32
  let arg13 : BitVec 32 := Scf.iv c0_i32_291 c1_i32_293 k1_t7
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![4, v1103.toNat]
def k1_off41 (k1_t7 : Fin k1_t7_loop.trips) (c0_i32_343 : BitVec 32) : Fin 2 → Nat :=
  let c5_i32_345 : BitVec 32 := 5#32
  let v1108 : Index := Scalar.indexCast c5_i32_345
  let c0_i32_291 : BitVec 32 := 0#32
  let c1_i32_293 : BitVec 32 := 1#32
  let arg13 : BitVec 32 := Scf.iv c0_i32_291 c1_i32_293 k1_t7
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![5, v1109.toNat]
def k1_off42 (k1_t7 : Fin k1_t7_loop.trips) (c0_i32_343 : BitVec 32) : Fin 2 → Nat :=
  let c6_i32_346 : BitVec 32 := 6#32
  let v1114 : Index := Scalar.indexCast c6_i32_346
  let c0_i32_291 : BitVec 32 := 0#32
  let c1_i32_293 : BitVec 32 := 1#32
  let arg13 : BitVec 32 := Scf.iv c0_i32_291 c1_i32_293 k1_t7
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![6, v1115.toNat]
def k1_off43 (k1_t7 : Fin k1_t7_loop.trips) (c0_i32_343 : BitVec 32) : Fin 2 → Nat :=
  let c7_i32_347 : BitVec 32 := 7#32
  let v1120 : Index := Scalar.indexCast c7_i32_347
  let c0_i32_291 : BitVec 32 := 0#32
  let c1_i32_293 : BitVec 32 := 1#32
  let arg13 : BitVec 32 := Scf.iv c0_i32_291 c1_i32_293 k1_t7
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![7, v1121.toNat]
def k1_mult22 (k1_t7 : Fin k1_t7_loop.trips) : BitVec 32 :=
  let c0_i32_291 : BitVec 32 := 0#32
  let c1_i32_293 : BitVec 32 := 1#32
  let arg13 : BitVec 32 := Scf.iv c0_i32_291 c1_i32_293 k1_t7
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult23 (k1_t7 : Fin k1_t7_loop.trips) : BitVec 32 :=
  let c0_i32_291 : BitVec 32 := 0#32
  let c1_i32_293 : BitVec 32 := 1#32
  let arg13 : BitVec 32 := Scf.iv c0_i32_291 c1_i32_293 k1_t7
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult24 (k1_t7 : Fin k1_t7_loop.trips) : BitVec 32 :=
  let c0_i32_291 : BitVec 32 := 0#32
  let c1_i32_293 : BitVec 32 := 1#32
  let arg13 : BitVec 32 := Scf.iv c0_i32_291 c1_i32_293 k1_t7
  let c64_i32_360 : BitVec 32 := 64#32
  let v1186 : BitVec 32 := Scalar.muli arg13 c64_i32_360
  let c48_i32_361 : BitVec 32 := 48#32
  let v1187 : BitVec 32 := Scalar.addi v1186 c48_i32_361
  v1187
@[reducible] def k1_t8_loop : Scf.Loop 32 :=
  let c0_i32_311 : BitVec 32 := 0#32
  let c32_i32_312 : BitVec 32 := 32#32
  let v792 : BitVec 32 := Scalar.addi c0_i32_311 c32_i32_312
  let c1_i32_313 : BitVec 32 := 1#32
  ⟨c0_i32_311, v792, c1_i32_313⟩
def k1_mult25 (k1_t8 : Fin k1_t8_loop.trips) : BitVec 32 :=
  let c0_i32_311 : BitVec 32 := 0#32
  let c1_i32_313 : BitVec 32 := 1#32
  let arg13 : BitVec 32 := Scf.iv c0_i32_311 c1_i32_313 k1_t8
  let c64_i32 : BitVec 32 := 64#32
  let v1096 : BitVec 32 := Scalar.muli arg13 c64_i32
  let c0_i32_343 : BitVec 32 := 0#32
  let v1097 : BitVec 32 := Scalar.addi v1096 c0_i32_343
  v1097
def k1_off44 (k1_t8 : Fin k1_t8_loop.trips) (c0_i32_343 : BitVec 32) : Fin 1 → Nat :=
  let c0_i32_311 : BitVec 32 := 0#32
  let c1_i32_313 : BitVec 32 := 1#32
  let arg13 : BitVec 32 := Scf.iv c0_i32_311 c1_i32_313 k1_t8
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off45 (k1_t8 : Fin k1_t8_loop.trips) (c0_i32_343 : BitVec 32) : Fin 2 → Nat :=
  let c8_i32_344 : BitVec 32 := 8#32
  let v1102 : Index := Scalar.indexCast c8_i32_344
  let c0_i32_311 : BitVec 32 := 0#32
  let c1_i32_313 : BitVec 32 := 1#32
  let arg13 : BitVec 32 := Scf.iv c0_i32_311 c1_i32_313 k1_t8
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![8, v1103.toNat]
def k1_off46 (k1_t8 : Fin k1_t8_loop.trips) (c0_i32_343 : BitVec 32) : Fin 2 → Nat :=
  let c9_i32_345 : BitVec 32 := 9#32
  let v1108 : Index := Scalar.indexCast c9_i32_345
  let c0_i32_311 : BitVec 32 := 0#32
  let c1_i32_313 : BitVec 32 := 1#32
  let arg13 : BitVec 32 := Scf.iv c0_i32_311 c1_i32_313 k1_t8
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![9, v1109.toNat]
def k1_off47 (k1_t8 : Fin k1_t8_loop.trips) (c0_i32_343 : BitVec 32) : Fin 2 → Nat :=
  let c10_i32_346 : BitVec 32 := 10#32
  let v1114 : Index := Scalar.indexCast c10_i32_346
  let c0_i32_311 : BitVec 32 := 0#32
  let c1_i32_313 : BitVec 32 := 1#32
  let arg13 : BitVec 32 := Scf.iv c0_i32_311 c1_i32_313 k1_t8
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![10, v1115.toNat]
def k1_off48 (k1_t8 : Fin k1_t8_loop.trips) (c0_i32_343 : BitVec 32) : Fin 2 → Nat :=
  let c11_i32_347 : BitVec 32 := 11#32
  let v1120 : Index := Scalar.indexCast c11_i32_347
  let c0_i32_311 : BitVec 32 := 0#32
  let c1_i32_313 : BitVec 32 := 1#32
  let arg13 : BitVec 32 := Scf.iv c0_i32_311 c1_i32_313 k1_t8
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![11, v1121.toNat]
def k1_mult26 (k1_t8 : Fin k1_t8_loop.trips) : BitVec 32 :=
  let c0_i32_311 : BitVec 32 := 0#32
  let c1_i32_313 : BitVec 32 := 1#32
  let arg13 : BitVec 32 := Scf.iv c0_i32_311 c1_i32_313 k1_t8
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult27 (k1_t8 : Fin k1_t8_loop.trips) : BitVec 32 :=
  let c0_i32_311 : BitVec 32 := 0#32
  let c1_i32_313 : BitVec 32 := 1#32
  let arg13 : BitVec 32 := Scf.iv c0_i32_311 c1_i32_313 k1_t8
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult28 (k1_t8 : Fin k1_t8_loop.trips) : BitVec 32 :=
  let c0_i32_311 : BitVec 32 := 0#32
  let c1_i32_313 : BitVec 32 := 1#32
  let arg13 : BitVec 32 := Scf.iv c0_i32_311 c1_i32_313 k1_t8
  let c64_i32_360 : BitVec 32 := 64#32
  let v1186 : BitVec 32 := Scalar.muli arg13 c64_i32_360
  let c48_i32_361 : BitVec 32 := 48#32
  let v1187 : BitVec 32 := Scalar.addi v1186 c48_i32_361
  v1187
@[reducible] def k1_t9_loop : Scf.Loop 32 :=
  let c0_i32_331 : BitVec 32 := 0#32
  let c32_i32_332 : BitVec 32 := 32#32
  let v942 : BitVec 32 := Scalar.addi c0_i32_331 c32_i32_332
  let c1_i32_333 : BitVec 32 := 1#32
  ⟨c0_i32_331, v942, c1_i32_333⟩
def k1_mult29 (k1_t9 : Fin k1_t9_loop.trips) : BitVec 32 :=
  let c0_i32_331 : BitVec 32 := 0#32
  let c1_i32_333 : BitVec 32 := 1#32
  let arg13 : BitVec 32 := Scf.iv c0_i32_331 c1_i32_333 k1_t9
  let c64_i32 : BitVec 32 := 64#32
  let v1096 : BitVec 32 := Scalar.muli arg13 c64_i32
  let c0_i32_343 : BitVec 32 := 0#32
  let v1097 : BitVec 32 := Scalar.addi v1096 c0_i32_343
  v1097
def k1_off49 (k1_t9 : Fin k1_t9_loop.trips) (c0_i32_343 : BitVec 32) : Fin 1 → Nat :=
  let c0_i32_331 : BitVec 32 := 0#32
  let c1_i32_333 : BitVec 32 := 1#32
  let arg13 : BitVec 32 := Scf.iv c0_i32_331 c1_i32_333 k1_t9
  let c64_i32 : BitVec 32 := 64#32
  let v1096 : BitVec 32 := Scalar.muli arg13 c64_i32
  let v1097 : BitVec 32 := Scalar.addi v1096 c0_i32_343
  let v1098 : BitVec 32 := v1097
  let v1099 : Index := Scalar.indexCast v1098
  ![v1099.toNat]
def k1_off50 (k1_t9 : Fin k1_t9_loop.trips) (c0_i32_343 : BitVec 32) : Fin 2 → Nat :=
  let c12_i32_344 : BitVec 32 := 12#32
  let v1102 : Index := Scalar.indexCast c12_i32_344
  let c0_i32_331 : BitVec 32 := 0#32
  let c1_i32_333 : BitVec 32 := 1#32
  let arg13 : BitVec 32 := Scf.iv c0_i32_331 c1_i32_333 k1_t9
  let c64_i32 : BitVec 32 := 64#32
  let v1096 : BitVec 32 := Scalar.muli arg13 c64_i32
  let v1097 : BitVec 32 := Scalar.addi v1096 c0_i32_343
  let v1098 : BitVec 32 := v1097
  let v1103 : Index := Scalar.indexCast v1098
  ![12, v1103.toNat]
def k1_off51 (k1_t9 : Fin k1_t9_loop.trips) (c0_i32_343 : BitVec 32) : Fin 2 → Nat :=
  let c13_i32_345 : BitVec 32 := 13#32
  let v1108 : Index := Scalar.indexCast c13_i32_345
  let c0_i32_331 : BitVec 32 := 0#32
  let c1_i32_333 : BitVec 32 := 1#32
  let arg13 : BitVec 32 := Scf.iv c0_i32_331 c1_i32_333 k1_t9
  let c64_i32 : BitVec 32 := 64#32
  let v1096 : BitVec 32 := Scalar.muli arg13 c64_i32
  let v1097 : BitVec 32 := Scalar.addi v1096 c0_i32_343
  let v1098 : BitVec 32 := v1097
  let v1109 : Index := Scalar.indexCast v1098
  ![13, v1109.toNat]
def k1_off52 (k1_t9 : Fin k1_t9_loop.trips) (c0_i32_343 : BitVec 32) : Fin 2 → Nat :=
  let c14_i32_346 : BitVec 32 := 14#32
  let v1114 : Index := Scalar.indexCast c14_i32_346
  let c0_i32_331 : BitVec 32 := 0#32
  let c1_i32_333 : BitVec 32 := 1#32
  let arg13 : BitVec 32 := Scf.iv c0_i32_331 c1_i32_333 k1_t9
  let c64_i32 : BitVec 32 := 64#32
  let v1096 : BitVec 32 := Scalar.muli arg13 c64_i32
  let v1097 : BitVec 32 := Scalar.addi v1096 c0_i32_343
  let v1098 : BitVec 32 := v1097
  let v1115 : Index := Scalar.indexCast v1098
  ![14, v1115.toNat]
def k1_off53 (k1_t9 : Fin k1_t9_loop.trips) (c0_i32_343 : BitVec 32) : Fin 2 → Nat :=
  let c15_i32_347 : BitVec 32 := 15#32
  let v1120 : Index := Scalar.indexCast c15_i32_347
  let c0_i32_331 : BitVec 32 := 0#32
  let c1_i32_333 : BitVec 32 := 1#32
  let arg13 : BitVec 32 := Scf.iv c0_i32_331 c1_i32_333 k1_t9
  let c64_i32 : BitVec 32 := 64#32
  let v1096 : BitVec 32 := Scalar.muli arg13 c64_i32
  let v1097 : BitVec 32 := Scalar.addi v1096 c0_i32_343
  let v1098 : BitVec 32 := v1097
  let v1121 : Index := Scalar.indexCast v1098
  ![15, v1121.toNat]
def k1_mult30 (k1_t9 : Fin k1_t9_loop.trips) : BitVec 32 :=
  let c0_i32_331 : BitVec 32 := 0#32
  let c1_i32_333 : BitVec 32 := 1#32
  let arg13 : BitVec 32 := Scf.iv c0_i32_331 c1_i32_333 k1_t9
  let c64_i32_348 : BitVec 32 := 64#32
  let v1126 : BitVec 32 := Scalar.muli arg13 c64_i32_348
  let c16_i32_349 : BitVec 32 := 16#32
  let v1127 : BitVec 32 := Scalar.addi v1126 c16_i32_349
  v1127
def k1_mult31 (k1_t9 : Fin k1_t9_loop.trips) : BitVec 32 :=
  let c0_i32_331 : BitVec 32 := 0#32
  let c1_i32_333 : BitVec 32 := 1#32
  let arg13 : BitVec 32 := Scf.iv c0_i32_331 c1_i32_333 k1_t9
  let c64_i32_354 : BitVec 32 := 64#32
  let v1156 : BitVec 32 := Scalar.muli arg13 c64_i32_354
  let c32_i32_355 : BitVec 32 := 32#32
  let v1157 : BitVec 32 := Scalar.addi v1156 c32_i32_355
  v1157
def k1_mult32 (k1_t9 : Fin k1_t9_loop.trips) : BitVec 32 :=
  let c0_i32_331 : BitVec 32 := 0#32
  let c1_i32_333 : BitVec 32 := 1#32
  let arg13 : BitVec 32 := Scf.iv c0_i32_331 c1_i32_333 k1_t9
  let c64_i32_360 : BitVec 32 := 64#32
  let v1186 : BitVec 32 := Scalar.muli arg13 c64_i32_360
  let c48_i32_361 : BitVec 32 := 48#32
  let v1187 : BitVec 32 := Scalar.addi v1186 c48_i32_361
  v1187
def k1_off54 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_221_r1 : BitVec 32 := 0#32
  ![v1.toNat, 0]
abbrev grid2 : Pipeline.Grid := .none

abbrev stage2_0 : Fin 1 → Memref sig .tc .vmem S8x4 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S200x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S100x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S8x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8192x2048 : Shape := ⟨3, ![8, 8192, 2048]⟩
abbrev S2048 : Shape := ⟨1, ![2048]⟩
abbrev S200x4 : Shape := ⟨2, ![200, 4]⟩
abbrev S200 : Shape := ⟨1, ![200]⟩
abbrev S100x200 : Shape := ⟨2, ![100, 200]⟩
abbrev S100 : Shape := ⟨1, ![100]⟩
abbrev S1x100 : Shape := ⟨2, ![1, 100]⟩
abbrev S1 : Shape := ⟨1, ![1]⟩
abbrev S8x8192 : Shape := ⟨2, ![8, 8192]⟩
abbrev S8x2 : Shape := ⟨2, ![8, 2]⟩
abbrev S8x4 : Shape := ⟨2, ![8, 4]⟩
abbrev S4x200 : Shape := ⟨2, ![4, 200]⟩
abbrev S8x200 : Shape := ⟨2, ![8, 200]⟩
abbrev S1x200 : Shape := ⟨2, ![1, 200]⟩
abbrev S_ : Shape := ⟨0, ![]⟩
abbrev S200x100 : Shape := ⟨2, ![200, 100]⟩
abbrev S8x100 : Shape := ⟨2, ![8, 100]⟩
abbrev S100x1 : Shape := ⟨2, ![100, 1]⟩
abbrev S8x1 : Shape := ⟨2, ![8, 1]⟩
abbrev S1x1 : Shape := ⟨2, ![1, 1]⟩
abbrev S8 : Shape := ⟨1, ![8]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S2048, .f32⟩
  | .hbm, ⟨2, _⟩ => ⟨S200x4, .f32⟩
  | .hbm, ⟨3, _⟩ => ⟨S200, .f32⟩
  | .hbm, ⟨4, _⟩ => ⟨S100x200, .f32⟩
  | .hbm, ⟨5, _⟩ => ⟨S100, .f32⟩
  | .hbm, ⟨6, _⟩ => ⟨S1x100, .f32⟩
  | .hbm, ⟨7, _⟩ => ⟨S1, .f32⟩
  | .hbm, ⟨8, _⟩ => ⟨S8x8192, .f32⟩
  | .hbm, ⟨9, _⟩ => ⟨S8x8192, .f32⟩
  | .hbm, ⟨10, _⟩ => ⟨S8x2, .f32⟩
  | .hbm, ⟨11, _⟩ => ⟨S8x2, .f32⟩
  | .hbm, ⟨12, _⟩ => ⟨S8x4, .f32⟩
  | .hbm, ⟨13, _⟩ => ⟨S4x200, .f32⟩
  | .hbm, ⟨14, _⟩ => ⟨S8x200, .f32⟩
  | .hbm, ⟨15, _⟩ => ⟨S1x200, .f32⟩
  | .hbm, ⟨16, _⟩ => ⟨S8x200, .f32⟩
  | .hbm, ⟨17, _⟩ => ⟨S8x200, .f32⟩
  | .hbm, ⟨18, _⟩ => ⟨S8x200, .f32⟩
  | .hbm, ⟨19, _⟩ => ⟨S8x200, .f32⟩
  | .hbm, ⟨20, _⟩ => ⟨S_, .f32⟩
  | .hbm, ⟨21, _⟩ => ⟨S8x200, .f32⟩
  | .hbm, ⟨22, _⟩ => ⟨S8x200, .f32⟩
  | .hbm, ⟨23, _⟩ => ⟨S_, .f32⟩
  | .hbm, ⟨24, _⟩ => ⟨S8x200, .f32⟩
  | .hbm, ⟨25, _⟩ => ⟨S8x200, .f32⟩
  | .hbm, ⟨26, _⟩ => ⟨S200x100, .f32⟩
  | .hbm, ⟨27, _⟩ => ⟨S8x100, .f32⟩
  | .hbm, ⟨28, _⟩ => ⟨S1x100, .f32⟩
  | .hbm, ⟨29, _⟩ => ⟨S8x100, .f32⟩
  | .hbm, ⟨30, _⟩ => ⟨S8x100, .f32⟩
  | .hbm, ⟨31, _⟩ => ⟨S8x100, .f32⟩
  | .hbm, ⟨32, _⟩ => ⟨S8x100, .f32⟩
  | .hbm, ⟨33, _⟩ => ⟨S_, .f32⟩
  | .hbm, ⟨34, _⟩ => ⟨S8x100, .f32⟩
  | .hbm, ⟨35, _⟩ => ⟨S8x100, .f32⟩
  | .hbm, ⟨36, _⟩ => ⟨S_, .f32⟩
  | .hbm, ⟨37, _⟩ => ⟨S8x100, .f32⟩
  | .hbm, ⟨38, _⟩ => ⟨S8x100, .f32⟩
  | .hbm, ⟨39, _⟩ => ⟨S100x1, .f32⟩
  | .hbm, ⟨40, _⟩ => ⟨S8x1, .f32⟩
  | .hbm, ⟨41, _⟩ => ⟨S1x1, .f32⟩
  | .hbm, ⟨42, _⟩ => ⟨S8x1, .f32⟩
  | .hbm, ⟨43, _⟩ => ⟨S8x1, .f32⟩
  | .hbm, ⟨44, _⟩ => ⟨S_, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8x1, .f32⟩
  | .hbm, ⟨50, _⟩ => ⟨S8x1, .f32⟩
  | .hbm, ⟨51, _⟩ => ⟨S8x1, .f32⟩
  | .hbm, ⟨52, _⟩ => ⟨S_, .f32⟩
  | .hbm, ⟨53, _⟩ => ⟨S8, .f32⟩
  | .hbm, ⟨54, _⟩ => ⟨S8x1, .f32⟩
  | .hbm, ⟨55, _⟩ => ⟨S8x1, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Setup.lean ====
/-
  The program as the launch theorem sees it, the resource algebra (the handshakes' rounds, the pipelines' rounds, the
  transfers' counters), the arrays and the vector subcores' scratch, and the offsets of the tile kernel in closed form.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 16384

noncomputable section

namespace Cert.Proof.Ext

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## Arrays and scratch -/

abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v8

local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

/-! ## The tile kernel's guards and offsets in closed form -/

theorem trips1 : k1_t1_loop.trips = 24 := by decide
theorem cond1_iff : ∀ t : Fin k1_t1_loop.trips, k1_cond1 t = 1#1 ↔ t.val % 2 = 0 := by decide +kernel
theorem cond2_iff : ∀ t : Fin k1_t1_loop.trips, k1_cond2 t = 1#1 ↔ t.val + 1 < 24 := by decide +kernel
theorem cond3_iff : ∀ t : Fin k1_t1_loop.trips, k1_cond3 t = 1#1 ↔ t.val % 2 = 1 := by decide +kernel
theorem cond4_iff : ∀ t : Fin k1_t1_loop.trips, k1_cond4 t = 1#1 ↔ t.val + 1 < 24 := by decide +kernel

theorem k1_off4_eq : ∀ t : Fin k1_t1_loop.trips, k1_off4 t = ![t.val / 3, 0, 0] := by decide +kernel
theorem k1_off5_eq : ∀ t : Fin k1_t1_loop.trips, k1_off5 t = ![t.val / 3, 1, 0] := by decide +kernel
theorem k1_off6_eq : ∀ t : Fin k1_t1_loop.trips, k1_off6 t = ![t.val / 3, 2, 0] := by decide +kernel
theorem k1_off7_eq : ∀ t : Fin k1_t1_loop.trips, k1_off7 t = ![t.val / 3, 3, 0] := by decide +kernel
theorem k1_off30_eq : ∀ t : Fin k1_t1_loop.trips, k1_off30 t = ![t.val / 3, 0, 0] := by decide +kernel
theorem k1_off31_eq : ∀ t : Fin k1_t1_loop.trips, k1_off31 t = ![t.val / 3, 1, 0] := by decide +kernel
theorem k1_off32_eq : ∀ t : Fin k1_t1_loop.trips, k1_off32 t = ![t.val / 3, 2, 0] := by decide +kernel
theorem k1_off33_eq : ∀ t : Fin k1_t1_loop.trips, k1_off33 t = ![t.val / 3, 3, 0] := by decide +kernel
theorem k1_off3_eq : ∀ (i : grid1.Coords) (t : Fin k1_t1_loop.trips),
    k1_off3 i t = ![t.val / 3, 96 * (i 1).val + 48 * (i 0).val + 16 * (t.val % 3) + 6656, 0] := by decide +kernel
theorem k1_off29_eq : ∀ (i : grid1.Coords) (t : Fin k1_t1_loop.trips),
    k1_off29 i t = ![t.val / 3, 96 * (i 1).val + 48 * (i 0).val + 16 * (t.val % 3) + 6656, 0] := by decide +kernel

instance closedOff_k1_off3 (i : grid1.Coords) (t : Fin k1_t1_loop.trips) : ClosedOff (k1_off3 i t) := ⟨_, k1_off3_eq i t⟩
instance closedOff_k1_off29 (i : grid1.Coords) (t : Fin k1_t1_loop.trips) : ClosedOff (k1_off29 i t) := ⟨_, k1_off29_eq i t⟩
instance closedOff_k1_off4 (t : Fin k1_t1_loop.trips) : ClosedOff (k1_off4 t) := ⟨_, k1_off4_eq t⟩
instance closedOff_k1_off5 (t : Fin k1_t1_loop.trips) : ClosedOff (k1_off5 t) := ⟨_, k1_off5_eq t⟩
instance closedOff_k1_off6 (t : Fin k1_t1_loop.trips) : ClosedOff (k1_off6 t) := ⟨_, k1_off6_eq t⟩
instance closedOff_k1_off7 (t : Fin k1_t1_loop.trips) : ClosedOff (k1_off7 t) := ⟨_, k1_off7_eq t⟩
instance closedOff_k1_off30 (t : Fin k1_t1_loop.trips) : ClosedOff (k1_off30 t) := ⟨_, k1_off30_eq t⟩
instance closedOff_k1_off31 (t : Fin k1_t1_loop.trips) : ClosedOff (k1_off31 t) := ⟨_, k1_off31_eq t⟩
instance closedOff_k1_off32 (t : Fin k1_t1_loop.trips) : ClosedOff (k1_off32 t) := ⟨_, k1_off32_eq t⟩
instance closedOff_k1_off33 (t : Fin k1_t1_loop.trips) : ClosedOff (k1_off33 t) := ⟨_, k1_off33_eq t⟩

end Cert.Proof.Ext
-- ==== Proof.TileSpec.lean ====
/-
  What one tile computes, in the printed operations: the partial sums of a row, the sum of its lanes, the running
  extremes; and the loads of a trip read as entries of the chunk, the feature vector and the table.
-/
module
public import proofs.«01_k».proof.Proof.Setup
public import Idealize.ShloMosaic.Lib.Pipeline.Value
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

/-! ## What the tile kernel computes -/

def ixX (r o : ℕ) : S16x2048.Idx := fun | 0 => ⟨r % 16, Nat.mod_lt _ (by decide)⟩ | 1 => ⟨o % 2048, Nat.mod_lt _ (by decide)⟩
def ixF (o : ℕ) : S2048.Idx := fun | 0 => ⟨o % 2048, Nat.mod_lt _ (by decide)⟩
def ixE (b j l : ℕ) : S8x4x16.Idx := fun | 0 => ⟨b % 8, Nat.mod_lt _ (by decide)⟩ | 1 => ⟨j % 4, Nat.mod_lt _ (by decide)⟩ | 2 => ⟨l % 16, Nat.mod_lt _ (by decide)⟩

/-- Sixteen lanes of a row of a chunk, from column `o` on. -/
def ldX (b : S16x2048.Idx → F .f32) (r o : ℕ) : FVec F S16 .f32 := fun j => b (ixX r (o + (j 0).val))
/-- Sixteen lanes of the feature vector. -/
def ldF (f : S2048.Idx → F .f32) (o : ℕ) : FVec F S16 .f32 := fun j => f (ixF (o + (j 0).val))
/-- A row of the extremes' table. -/
def ldE (e : S8x4x16.Idx → F .f32) (b j : ℕ) : FVec F S16 .f32 := fun l => e (ixE b j (l 0).val)

/-- The lanes' partial sums after `k` trips: row `r`'s products at columns `64 t + 16 dk + lane`, `t < k`. -/
def acc (b : S16x2048.Idx → F .f32) (f : S2048.Idx → F .f32) (r dk : ℕ) : ℕ → FVec F S16 .f32
  | 0 => broadcast S16 (Scalar.ofBits .f32 0x00000000#32)
  | k + 1 => addf (acc b f r dk k) (mulf (ldX b r (64 * k + 16 * dk)) (ldF f (64 * k + 16 * dk)))

theorem rd_b0 (f : S16x2048.Idx → F .f32) {off : Fin 2 → ℕ} (inb) (r o : ℕ) (h : off = ![r, o]) (hc) :
    shapeCast S16 ((b0W).view.readAt (Elt F) (Rect.unit (s := S16x2048) off S1x16.size inb).toLoadRect f : Vec F S1x16 .f32) hc = ldX f r o := by
  subst h
  funext j
  rw [shapeCast_dropUnit_apply (n := 1) ![16]]
  refine congrArg f (funext fun a => ?_)
  have h0 := inb 0; have h1 := inb 1; have hj : (j 0).val < 16 := (j 0).isLt
  simp at h0 h1
  fin_cases a <;> apply Fin.ext
  · show r + 1 * 0 = r % 16; omega
  · show o + 1 * (j 0).val = (o + (j 0).val) % 2048; omega

theorem rd_b1 (f : S16x2048.Idx → F .f32) {off : Fin 2 → ℕ} (inb) (r o : ℕ) (h : off = ![r, o]) (hc) :
    shapeCast S16 ((b1W).view.readAt (Elt F) (Rect.unit (s := S16x2048) off S1x16.size inb).toLoadRect f : Vec F S1x16 .f32) hc = ldX f r o :=
  rd_b0 f inb r o h hc

theorem rd_fe (f : S2048.Idx → F .f32) {off : Fin 1 → ℕ} (inb) (o : ℕ) (h : off = ![o]) (hc) :
    shapeCast S16 ((feW).view.readAt (Elt F) (Rect.unit (s := S2048) off S16.size inb).toLoadRect f : Vec F S16 .f32) hc = ldF f o := by
  subst h
  refine (shapeCast_self _ _).trans ?_
  funext j
  refine congrArg f (funext fun a => ?_)
  have h0 := inb 0; have hj : (j 0).val < 16 := (j 0).isLt
  simp at h0
  fin_cases a; apply Fin.ext
  show o + 1 * (j 0).val = (o + (j 0).val) % 2048; omega

theorem rd_ex (e : S8x4x16.Idx → F .f32) {off : Fin 3 → ℕ} (inb) (b j : ℕ) (h : off = ![b, j, 0]) (hc) :
    shapeCast S16 ((exW).view.readAt (Elt F) (Rect.unit (s := S8x4x16) off S1x1x16.size inb).toLoadRect e : Vec F S1x1x16 .f32) hc = ldE e b j := by
  subst h
  funext l
  have h0 := inb 0; have h1 := inb 1; have h2 := inb 2; have hl : (l 0).val < 16 := (l 0).isLt
  simp at h0 h1 h2
  rw [shapeCast_apply _ _ _ (fun | 0 => (⟨0, by decide⟩ : Fin 1) | 1 => (⟨0, by decide⟩ : Fin 1) | 2 => (l 0 : Fin 16) : S1x1x16.Idx)
    (by refine (Shape.rowMajor_val_three (d := ![1, 1, 16]) _).trans (Eq.trans ?_ (Shape.rowMajor_val_one (d := ![16]) l).symm)
        show (0 * 1 + 0) * 16 + (l 0).val = (l 0).val; omega)]
  refine congrArg e (funext fun a => ?_)
  fin_cases a <;> apply Fin.ext
  · show b + 1 * 0 = b % 8; omega
  · show j + 1 * 0 = j % 4; omega
  · show 0 + 1 * (l 0).val = (l 0).val % 16; omega

/-- A trip's sum of products, as printed. -/
theorem acc_step0 (b : S16x2048.Idx → F .f32) (f : S2048.Idx → F .f32) (r dk k : ℕ) {o1 : Fin 2 → ℕ} {o2 : Fin 1 → ℕ} (i1) (i2) (h1 : o1 = ![r, 64 * k + 16 * dk])
    (h2 : o2 = ![64 * k + 16 * dk]) (hc1) (hc2) :
    addf (acc b f r dk k) (mulf (shapeCast S16 ((b0W).view.readAt (Elt F) (Rect.unit (s := S16x2048) o1 S1x16.size i1).toLoadRect b : Vec F S1x16 .f32) hc1)
        (shapeCast S16 ((feW).view.readAt (Elt F) (Rect.unit (s := S2048) o2 S16.size i2).toLoadRect f : Vec F S16 .f32) hc2))
      = acc b f r dk (k + 1) := by
  rw [rd_b0 b i1 r _ h1, rd_fe f i2 _ h2]; rfl

abbrev Acc16 (F : FTy → Type) [FloatOps F] : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The sixteen partial sums of four rows: row `r + j`, quarter `dk`, in the order `4 j + dk`. -/
def accs (b : S16x2048.Idx → F .f32) (f : S2048.Idx → F .f32) (r k : ℕ) : Acc16 F :=
  (acc b f r 0 k, acc b f r 1 k, acc b f r 2 k, acc b f r 3 k, acc b f (r + 1) 0 k, acc b f (r + 1) 1 k, acc b f (r + 1) 2 k, acc b f (r + 1) 3 k, acc b f (r + 2) 0 k, acc b f (r + 2) 1 k, acc b f (r + 2) 2 k, acc b f (r + 2) 3 k, acc b f (r + 3) 0 k, acc b f (r + 3) 1 k, acc b f (r + 3) 2 k, acc b f (r + 3) 3 k)

/-- The product of sixteen lanes of a row and of the feature vector added to a partial sum. -/
abbrev fmaAt (b : S16x2048.Idx → F .f32) (f : S2048.Idx → F .f32) (a : FVec F S16 .f32) (o1 : Fin 2 → ℕ) (o2 : Fin 1 → ℕ)
    (i1 : ∀ a, o1 a + S1x16.size a ≤ S16x2048.size a) (i2 : ∀ a, o2 a + S16.size a ≤ S2048.size a) : FVec F S16 .f32 :=
  addf a (mulf (shapeCast S16 ((b0W).view.readAt (Elt F) (Rect.unit (s := S16x2048) o1 S1x16.size i1).toLoadRect b : Vec F S1x16 .f32) shapeCasts_S1x16_S16)
    (shapeCast S16 ((feW).view.readAt (Elt F) (Rect.unit (s := S2048) o2 S16.size i2).toLoadRect f : Vec F S16 .f32) shapeCasts_S16_S16))

theorem accs_step (b : S16x2048.Idx → F .f32) (f : S2048.Idx → F .f32) (r k : ℕ) (o : BitVec 32 → Fin 1 → ℕ) (o0 o1 o2 o3 : BitVec 32 → Fin 2 → ℕ)
    (h : ∀ r : Fin 4, o (BitVec.ofNat 32 (16 * r.val)) = ![64 * k + 16 * r.val])
    (h0 : ∀ q : Fin 4, o0 (BitVec.ofNat 32 (16 * q.val)) = ![r, 64 * k + 16 * q.val]) (h1 : ∀ q : Fin 4, o1 (BitVec.ofNat 32 (16 * q.val)) = ![r + 1, 64 * k + 16 * q.val])
    (h2 : ∀ q : Fin 4, o2 (BitVec.ofNat 32 (16 * q.val)) = ![r + 2, 64 * k + 16 * q.val]) (h3 : ∀ q : Fin 4, o3 (BitVec.ofNat 32 (16 * q.val)) = ![r + 3, 64 * k + 16 * q.val])
    (i0 i1 i2 i3 j0 j1 j2 j3 k0 k1 k2 k3 l0 l1 l2 l3 m0 m1 m2 m3) :
    ((fmaAt b f (acc b f r 0 k) (o0 0#32) (o 0#32) i0 m0, fmaAt b f (acc b f r 1 k) (o0 16#32) (o 16#32) i1 m1, fmaAt b f (acc b f r 2 k) (o0 32#32) (o 32#32) i2 m2, fmaAt b f (acc b f r 3 k) (o0 48#32) (o 48#32) i3 m3, fmaAt b f (acc b f (r + 1) 0 k) (o1 0#32) (o 0#32) j0 m0, fmaAt b f (acc b f (r + 1) 1 k) (o1 16#32) (o 16#32) j1 m1, fmaAt b f (acc b f (r + 1) 2 k) (o1 32#32) (o 32#32) j2 m2, fmaAt b f (acc b f (r + 1) 3 k) (o1 48#32) (o 48#32) j3 m3, fmaAt b f (acc b f (r + 2) 0 k) (o2 0#32) (o 0#32) k0 m0, fmaAt b f (acc b f (r + 2) 1 k) (o2 16#32) (o 16#32) k1 m1, fmaAt b f (acc b f (r + 2) 2 k) (o2 32#32) (o 32#32) k2 m2, fmaAt b f (acc b f (r + 2) 3 k) (o2 48#32) (o 48#32) k3 m3, fmaAt b f (acc b f (r + 3) 0 k) (o3 0#32) (o 0#32) l0 m0, fmaAt b f (acc b f (r + 3) 1 k) (o3 16#32) (o 16#32) l1 m1, fmaAt b f (acc b f (r + 3) 2 k) (o3 32#32) (o 32#32) l2 m2, fmaAt b f (acc b f (r + 3) 3 k) (o3 48#32) (o 48#32) l3 m3) : Acc16 F) = accs b f r (k + 1) := by
  refine Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))))))
  all_goals first
    | exact acc_step0 b f _ 0 k _ _ (h0 0) (h 0) _ _
    | exact acc_step0 b f _ 1 k _ _ (h0 1) (h 1) _ _
    | exact acc_step0 b f _ 2 k _ _ (h0 2) (h 2) _ _
    | exact acc_step0 b f _ 3 k _ _ (h0 3) (h 3) _ _
    | exact acc_step0 b f _ 0 k _ _ (h1 0) (h 0) _ _
    | exact acc_step0 b f _ 1 k _ _ (h1 1) (h 1) _ _
    | exact acc_step0 b f _ 2 k _ _ (h1 2) (h 2) _ _
    | exact acc_step0 b f _ 3 k _ _ (h1 3) (h 3) _ _
    | exact acc_step0 b f _ 0 k _ _ (h2 0) (h 0) _ _
    | exact acc_step0 b f _ 1 k _ _ (h2 1) (h 1) _ _
    | exact acc_step0 b f _ 2 k _ _ (h2 2) (h 2) _ _
    | exact acc_step0 b f _ 3 k _ _ (h2 3) (h 3) _ _
    | exact acc_step0 b f _ 0 k _ _ (h3 0) (h 0) _ _
    | exact acc_step0 b f _ 1 k _ _ (h3 1) (h 1) _ _
    | exact acc_step0 b f _ 2 k _ _ (h3 2) (h 2) _ _
    | exact acc_step0 b f _ 3 k _ _ (h3 3) (h 3) _ _

/-- A row's lane sums: the four partial sums added. -/
def rowSum (b : S16x2048.Idx → F .f32) (f : S2048.Idx → F .f32) (r : ℕ) : FVec F S16 .f32 :=
  addf (addf (addf (acc b f r 0 32) (acc b f r 1 32)) (acc b f r 2 32)) (acc b f r 3 32)

/-- The vector plus itself with neighbouring blocks of 8 (4, 2, 1) lanes exchanged. -/
def sw8 (v : FVec F S16 .f32) : FVec F S16 .f32 :=
  addf v (shapeCast S16 (concatenate S1x2x8 1 [⟨S1x1x8, extractStridedSlice S1x1x8 ![0, 1, 0] (shapeCast S1x2x8 v shapeCasts_S16_S1x2x8) slices_S1x2x8_o0_1_0_S1x1x8⟩,
    ⟨S1x1x8, extractStridedSlice S1x1x8 ![0, 0, 0] (shapeCast S1x2x8 v shapeCasts_S16_S1x2x8) slices_S1x2x8_o0_0_0_S1x1x8⟩] concatenates_S1x1x8_S1x1x8_S1x2x8_d1) shapeCasts_S1x2x8_S16)
def sw4 (v : FVec F S16 .f32) : FVec F S16 .f32 :=
  addf v (shapeCast S16 (concatenate S2x2x4 1 [⟨S2x1x4, extractStridedSlice S2x1x4 ![0, 1, 0] (shapeCast S2x2x4 v shapeCasts_S16_S2x2x4) slices_S2x2x4_o0_1_0_S2x1x4⟩,
    ⟨S2x1x4, extractStridedSlice S2x1x4 ![0, 0, 0] (shapeCast S2x2x4 v shapeCasts_S16_S2x2x4) slices_S2x2x4_o0_0_0_S2x1x4⟩] concatenates_S2x1x4_S2x1x4_S2x2x4_d1) shapeCasts_S2x2x4_S16)
def sw2 (v : FVec F S16 .f32) : FVec F S16 .f32 :=
  addf v (shapeCast S16 (concatenate S4x2x2 1 [⟨S4x1x2, extractStridedSlice S4x1x2 ![0, 1, 0] (shapeCast S4x2x2 v shapeCasts_S16_S4x2x2) slices_S4x2x2_o0_1_0_S4x1x2⟩,
    ⟨S4x1x2, extractStridedSlice S4x1x2 ![0, 0, 0] (shapeCast S4x2x2 v shapeCasts_S16_S4x2x2) slices_S4x2x2_o0_0_0_S4x1x2⟩] concatenates_S4x1x2_S4x1x2_S4x2x2_d1) shapeCasts_S4x2x2_S16)
def sw1 (v : FVec F S16 .f32) : FVec F S16 .f32 :=
  addf v (shapeCast S16 (concatenate S8x2x1 1 [⟨S8x1x1, extractStridedSlice S8x1x1 ![0, 1, 0] (shapeCast S8x2x1 v shapeCasts_S16_S8x2x1) slices_S8x2x1_o0_1_0_S8x1x1⟩,
    ⟨S8x1x1, extractStridedSlice S8x1x1 ![0, 0, 0] (shapeCast S8x2x1 v shapeCasts_S16_S8x2x1) slices_S8x2x1_o0_0_0_S8x1x1⟩] concatenates_S8x1x1_S8x1x1_S8x2x1_d1) shapeCasts_S8x2x1_S16)
/-- The sum of the sixteen lanes, in every lane. -/
def bfly (v : FVec F S16 .f32) : FVec F S16 .f32 := sw1 (sw2 (sw4 (sw8 v)))

/-- The running extremes: the two smallest values and the two largest, lane by lane. -/
structure Q4 (F : FTy → Type) where
  s1 : FVec F S16 .f32
  s2 : FVec F S16 .f32
  a2 : FVec F S16 .f32
  a1 : FVec F S16 .f32
def Q4.get (q : Q4 F) : ℕ → FVec F S16 .f32
  | 0 => q.s1 | 1 => q.s2 | 2 => q.a2 | _ => q.a1
/-- One more value taken in. -/
def upd (q : Q4 F) (v : FVec F S16 .f32) : Q4 F :=
  ⟨minimumf q.s1 v, minimumf (maximumf q.s1 v) q.s2, maximumf (minimumf q.a1 v) q.a2, maximumf q.a1 v⟩
/-- The first `n` rows of a chunk taken in. -/
def updN (b : S16x2048.Idx → F .f32) (f : S2048.Idx → F .f32) (q : Q4 F) : ℕ → Q4 F
  | 0 => q
  | n + 1 => upd (updN b f q n) (bfly (rowSum b f n))

end Cert.Proof.Ext
-- ==== Proof.TileLoops.lean ====
module
public import proofs.«01_k».proof.Proof.TileSpec
public import Idealize.ShloMosaic.Lib.Pipeline.Value
@[expose] public section
set_option warn.classDefReducibility false
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

/-- The tile `(c, s)`'s thread. -/
abbrev thr (d : Dev nD) (i : grid1.Coords) : Thread nD τ := V d ((i 0).castLE hcore1) ((i 1).castLE hsub1)

/-! Each of the eight inner loops: one trip takes the sixteen partial sums to the next. The loops of an even trip read the
    first buffer, those of an odd trip the second; rows `0–3`, `4–7`, `8–11`, `12–15`. -/

theorem step_t2 (d : Dev nD) (i : grid1.Coords) (k1_t1 : Fin k1_t1_loop.trips) (v423 : BitVec 32) (k1_h1 : k1_cond1 k1_t1 = 1#1)
    (b : S16x2048.Idx → F .f32) (f : S2048.Idx → F .f32) (k : Fin k1_t2_loop.trips) :
    iprop(((b0W).view.loc (thr d i) ↦{fullShare} b) ∗ ((feW).view.loc (thr d i) ↦{fullShare} f))
      ⊢ wp frame (wpE (defs₀ (F := F)) 𝒱₀ (thr d i) none) Set.univ
        (k1_t2_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 v423 k1_h1 k (accs b f 0 k.val))
        fun a => (iprop(⌜a = accs b f 0 (k.val + 1)⌝ ∗ ((b0W).view.loc (thr d i) ↦{fullShare} b) ∗ ((feW).view.loc (thr d i) ↦{fullShare} f)) : sProp 𝕄) := by
  iintro ⟨Hb, Hf⟩
  unfold k1_t2_body accs
  rw [k1_part1_eq_skeleton, k1_part2_eq_skeleton]; unfold k1_part1_skel k1_part2_skel
  sl_exec
  sl_step
  isplitr
  · ipureintro; exact accs_step b f 0 k.val (k1_off8 k) (k1_off9 k) (k1_off10 k) (k1_off11 k) (k1_off12 k) (k1_off8_eq k) (k1_off9_eq k) (k1_off10_eq k) (k1_off11_eq k) (k1_off12_eq k) _ _ _ _ _ _ _ _ _ _ _ _ _ _ _ _ _ _ _ _
  · isplitl [Hb] <;> iassumption

theorem step_t3 (d : Dev nD) (i : grid1.Coords) (k1_t1 : Fin k1_t1_loop.trips) (k1_h1 : k1_cond1 k1_t1 = 1#1) (v626 : FVec F S16 .f32)
    (b : S16x2048.Idx → F .f32) (f : S2048.Idx → F .f32) (k : Fin k1_t3_loop.trips) :
    iprop(((b0W).view.loc (thr d i) ↦{fullShare} b) ∗ ((feW).view.loc (thr d i) ↦{fullShare} f))
      ⊢ wp frame (wpE (defs₀ (F := F)) 𝒱₀ (thr d i) none) Set.univ
        (k1_t3_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h1 v626 k (accs b f 4 k.val))
        fun a => (iprop(⌜a = accs b f 4 (k.val + 1)⌝ ∗ ((b0W).view.loc (thr d i) ↦{fullShare} b) ∗ ((feW).view.loc (thr d i) ↦{fullShare} f)) : sProp 𝕄) := by
  iintro ⟨Hb, Hf⟩
  unfold k1_t3_body accs
  rw [k1_part3_eq_skeleton, k1_part4_eq_skeleton]; unfold k1_part3_skel k1_part4_skel
  sl_exec
  sl_step
  isplitr
  · ipureintro; exact accs_step b f 4 k.val (k1_off13 k) (k1_off14 k) (k1_off15 k) (k1_off16 k) (k1_off17 k) (k1_off13_eq k) (k1_off14_eq k) (k1_off15_eq k) (k1_off16_eq k) (k1_off17_eq k) _ _ _ _ _ _ _ _ _ _ _ _ _ _ _ _ _ _ _ _
  · isplitl [Hb] <;> iassumption

theorem step_t4 (d : Dev nD) (i : grid1.Coords) (k1_t1 : Fin k1_t1_loop.trips) (k1_h1 : k1_cond1 k1_t1 = 1#1) (v776 v777 v778 v779 v780 v781 : FVec F S16 .f32)
    (b : S16x2048.Idx → F .f32) (f : S2048.Idx → F .f32) (k : Fin k1_t4_loop.trips) :
    iprop(((b0W).view.loc (thr d i) ↦{fullShare} b) ∗ ((feW).view.loc (thr d i) ↦{fullShare} f))
      ⊢ wp frame (wpE (defs₀ (F := F)) 𝒱₀ (thr d i) none) Set.univ
        (k1_t4_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h1 v776 v777 v778 v779 v780 v781 k (accs b f 8 k.val))
        fun a => (iprop(⌜a = accs b f 8 (k.val + 1)⌝ ∗ ((b0W).view.loc (thr d i) ↦{fullShare} b) ∗ ((feW).view.loc (thr d i) ↦{fullShare} f)) : sProp 𝕄) := by
  iintro ⟨Hb, Hf⟩
  unfold k1_t4_body accs
  rw [k1_part5_eq_skeleton, k1_part6_eq_skeleton]; unfold k1_part5_skel k1_part6_skel
  sl_exec
  sl_step
  isplitr
  · ipureintro; exact accs_step b f 8 k.val (k1_off18 k) (k1_off19 k) (k1_off20 k) (k1_off21 k) (k1_off22 k) (k1_off18_eq k) (k1_off19_eq k) (k1_off20_eq k) (k1_off21_eq k) (k1_off22_eq k) _ _ _ _ _ _ _ _ _ _ _ _ _ _ _ _ _ _ _ _
  · isplitl [Hb] <;> iassumption

theorem step_t5 (d : Dev nD) (i : grid1.Coords) (k1_t1 : Fin k1_t1_loop.trips) (k1_h1 : k1_cond1 k1_t1 = 1#1) (v921 v922 v924 v925 v926 v927 v928 v929 v930 v931 v932 v933 v934 v935 v936 : FVec F S16 .f32)
    (b : S16x2048.Idx → F .f32) (f : S2048.Idx → F .f32) (k : Fin k1_t5_loop.trips) :
    iprop(((b0W).view.loc (thr d i) ↦{fullShare} b) ∗ ((feW).view.loc (thr d i) ↦{fullShare} f))
      ⊢ wp frame (wpE (defs₀ (F := F)) 𝒱₀ (thr d i) none) Set.univ
        (k1_t5_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h1 v921 v922 v924 v925 v926 v927 v928 v929 v930 v931 v932 v933 v934 v935 v936 k (accs b f 12 k.val))
        fun a => (iprop(⌜a = accs b f 12 (k.val + 1)⌝ ∗ ((b0W).view.loc (thr d i) ↦{fullShare} b) ∗ ((feW).view.loc (thr d i) ↦{fullShare} f)) : sProp 𝕄) := by
  iintro ⟨Hb, Hf⟩
  unfold k1_t5_body accs
  rw [k1_part7_eq_skeleton, k1_part8_eq_skeleton]; unfold k1_part7_skel k1_part8_skel
  sl_exec
  sl_step
  isplitr
  · ipureintro; exact accs_step b f 12 k.val (k1_off23 k) (k1_off24 k) (k1_off25 k) (k1_off26 k) (k1_off27 k) (k1_off23_eq k) (k1_off24_eq k) (k1_off25_eq k) (k1_off26_eq k) (k1_off27_eq k) _ _ _ _ _ _ _ _ _ _ _ _ _ _ _ _ _ _ _ _
  · isplitl [Hb] <;> iassumption

theorem step_t6 (d : Dev nD) (i : grid1.Coords) (k1_t1 : Fin k1_t1_loop.trips) (v423 : BitVec 32) (k1_h3 : k1_cond3 k1_t1 = 1#1)
    (b : S16x2048.Idx → F .f32) (f : S2048.Idx → F .f32) (k : Fin k1_t6_loop.trips) :
    iprop(((b1W).view.loc (thr d i) ↦{fullShare} b) ∗ ((feW).view.loc (thr d i) ↦{fullShare} f))
      ⊢ wp frame (wpE (defs₀ (F := F)) 𝒱₀ (thr d i) none) Set.univ
        (k1_t6_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 v423 k1_h3 k (accs b f 0 k.val))
        fun a => (iprop(⌜a = accs b f 0 (k.val + 1)⌝ ∗ ((b1W).view.loc (thr d i) ↦{fullShare} b) ∗ ((feW).view.loc (thr d i) ↦{fullShare} f)) : sProp 𝕄) := by
  iintro ⟨Hb, Hf⟩
  unfold k1_t6_body accs
  rw [k1_part22_eq_skeleton, k1_part23_eq_skeleton]; unfold k1_part22_skel k1_part23_skel
  sl_exec
  sl_step
  isplitr
  · ipureintro; exact accs_step b f 0 k.val (k1_off34 k) (k1_off35 k) (k1_off36 k) (k1_off37 k) (k1_off38 k) (k1_off34_eq k) (k1_off35_eq k) (k1_off36_eq k) (k1_off37_eq k) (k1_off38_eq k) _ _ _ _ _ _ _ _ _ _ _ _ _ _ _ _ _ _ _ _
  · isplitl [Hb] <;> iassumption

theorem step_t7 (d : Dev nD) (i : grid1.Coords) (k1_t1 : Fin k1_t1_loop.trips) (k1_h3 : k1_cond3 k1_t1 = 1#1) (v626 : FVec F S16 .f32)
    (b : S16x2048.Idx → F .f32) (f : S2048.Idx → F .f32) (k : Fin k1_t7_loop.trips) :
    iprop(((b1W).view.loc (thr d i) ↦{fullShare} b) ∗ ((feW).view.loc (thr d i) ↦{fullShare} f))
      ⊢ wp frame (wpE (defs₀ (F := F)) 𝒱₀ (thr d i) none) Set.univ
        (k1_t7_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h3 v626 k (accs b f 4 k.val))
        fun a => (iprop(⌜a = accs b f 4 (k.val + 1)⌝ ∗ ((b1W).view.loc (thr d i) ↦{fullShare} b) ∗ ((feW).view.loc (thr d i) ↦{fullShare} f)) : sProp 𝕄) := by
  iintro ⟨Hb, Hf⟩
  unfold k1_t7_body accs
  rw [k1_part24_eq_skeleton, k1_part25_eq_skeleton]; unfold k1_part24_skel k1_part25_skel
  sl_exec
  sl_step
  isplitr
  · ipureintro; exact accs_step b f 4 k.val (k1_off39 k) (k1_off40 k) (k1_off41 k) (k1_off42 k) (k1_off43 k) (k1_off39_eq k) (k1_off40_eq k) (k1_off41_eq k) (k1_off42_eq k) (k1_off43_eq k) _ _ _ _ _ _ _ _ _ _ _ _ _ _ _ _ _ _ _ _
  · isplitl [Hb] <;> iassumption

theorem step_t8 (d : Dev nD) (i : grid1.Coords) (k1_t1 : Fin k1_t1_loop.trips) (k1_h3 : k1_cond3 k1_t1 = 1#1) (v776 v777 v778 v779 v780 v781 : FVec F S16 .f32)
    (b : S16x2048.Idx → F .f32) (f : S2048.Idx → F .f32) (k : Fin k1_t8_loop.trips) :
    iprop(((b1W).view.loc (thr d i) ↦{fullShare} b) ∗ ((feW).view.loc (thr d i) ↦{fullShare} f))
      ⊢ wp frame (wpE (defs₀ (F := F)) 𝒱₀ (thr d i) none) Set.univ
        (k1_t8_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h3 v776 v777 v778 v779 v780 v781 k (accs b f 8 k.val))
        fun a => (iprop(⌜a = accs b f 8 (k.val + 1)⌝ ∗ ((b1W).view.loc (thr d i) ↦{fullShare} b) ∗ ((feW).view.loc (thr d i) ↦{fullShare} f)) : sProp 𝕄) := by
  iintro ⟨Hb, Hf⟩
  unfold k1_t8_body accs
  rw [k1_part26_eq_skeleton, k1_part27_eq_skeleton]; unfold k1_part26_skel k1_part27_skel
  sl_exec
  sl_step
  isplitr
  · ipureintro; exact accs_step b f 8 k.val (k1_off44 k) (k1_off45 k) (k1_off46 k) (k1_off47 k) (k1_off48 k) (k1_off44_eq k) (k1_off45_eq k) (k1_off46_eq k) (k1_off47_eq k) (k1_off48_eq k) _ _ _ _ _ _ _ _ _ _ _ _ _ _ _ _ _ _ _ _
  · isplitl [Hb] <;> iassumption

theorem step_t9 (d : Dev nD) (i : grid1.Coords) (k1_t1 : Fin k1_t1_loop.trips) (k1_h3 : k1_cond3 k1_t1 = 1#1) (v921 v922 v924 v925 v926 v927 v928 v929 v930 v931 v932 v933 v934 v935 v936 : FVec F S16 .f32)
    (b : S16x2048.Idx → F .f32) (f : S2048.Idx → F .f32) (k : Fin k1_t9_loop.trips) :
    iprop(((b1W).view.loc (thr d i) ↦{fullShare} b) ∗ ((feW).view.loc (thr d i) ↦{fullShare} f))
      ⊢ wp frame (wpE (defs₀ (F := F)) 𝒱₀ (thr d i) none) Set.univ
        (k1_t9_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h3 v921 v922 v924 v925 v926 v927 v928 v929 v930 v931 v932 v933 v934 v935 v936 k (accs b f 12 k.val))
        fun a => (iprop(⌜a = accs b f 12 (k.val + 1)⌝ ∗ ((b1W).view.loc (thr d i) ↦{fullShare} b) ∗ ((feW).view.loc (thr d i) ↦{fullShare} f)) : sProp 𝕄) := by
  iintro ⟨Hb, Hf⟩
  unfold k1_t9_body accs
  rw [k1_part28_eq_skeleton, k1_part29_eq_skeleton]; unfold k1_part28_skel k1_part29_skel
  sl_exec
  sl_step
  isplitr
  · ipureintro; exact accs_step b f 12 k.val (k1_off49 k) (k1_off50 k) (k1_off51 k) (k1_off52 k) (k1_off53 k) (k1_off49_eq k) (k1_off50_eq k) (k1_off51_eq k) (k1_off52_eq k) (k1_off53_eq k) _ _ _ _ _ _ _ _ _ _ _ _ _ _ _ _ _ _ _ _
  · isplitl [Hb] <;> iassumption

/-! The loops' invariants, for the executor: before trip `k` the partial sums are those of `k` trips, the buffer and the
    feature vector unchanged. -/

@[sl_loop] def inv_t2 (d : Dev nD) (i : grid1.Coords) (k1_t1 : Fin k1_t1_loop.trips) (v423 : BitVec 32) (k1_h1 : k1_cond1 k1_t1 = 1#1)
    (b : S16x2048.Idx → F .f32) (f : S2048.Idx → F .f32) (init : Acc16 F) :
    LoopInv (M := 𝕄) frame (wpE (defs₀ (F := F)) 𝒱₀ (thr d i) none) Set.univ k1_t2_loop.lb k1_t2_loop.ub k1_t2_loop.st (k1_t2_ok k1_t1 k1_h1) init
      (k1_t2_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 v423 k1_h1) where
  inv k a := iprop(⌜init = accs b f 0 0⌝ ∗ ⌜a = accs b f 0 k⌝ ∗ ((b0W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t2 d i k1_t1 v423 k1_h1 b f k) $$ [H]; iexact H
    · iintro %a ⟨%h, H⟩
      isplitr; · ipureintro; exact hi
      isplitr; · ipureintro; exact h
      iexact H

@[sl_loop] def inv_t3 (d : Dev nD) (i : grid1.Coords) (k1_t1 : Fin k1_t1_loop.trips) (k1_h1 : k1_cond1 k1_t1 = 1#1) (v626 : FVec F S16 .f32)
    (b : S16x2048.Idx → F .f32) (f : S2048.Idx → F .f32) (init : Acc16 F) :
    LoopInv (M := 𝕄) frame (wpE (defs₀ (F := F)) 𝒱₀ (thr d i) none) Set.univ k1_t3_loop.lb k1_t3_loop.ub k1_t3_loop.st (k1_t3_ok k1_t1 k1_h1) init
      (k1_t3_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h1 v626) where
  inv k a := iprop(⌜init = accs b f 4 0⌝ ∗ ⌜a = accs b f 4 k⌝ ∗ ((b0W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t3 d i k1_t1 k1_h1 v626 b f k) $$ [H]; iexact H
    · iintro %a ⟨%h, H⟩
      isplitr; · ipureintro; exact hi
      isplitr; · ipureintro; exact h
      iexact H

@[sl_loop] def inv_t4 (d : Dev nD) (i : grid1.Coords) (k1_t1 : Fin k1_t1_loop.trips) (k1_h1 : k1_cond1 k1_t1 = 1#1) (v776 v777 v778 v779 v780 v781 : FVec F S16 .f32)
    (b : S16x2048.Idx → F .f32) (f : S2048.Idx → F .f32) (init : Acc16 F) :
    LoopInv (M := 𝕄) frame (wpE (defs₀ (F := F)) 𝒱₀ (thr d i) none) Set.univ k1_t4_loop.lb k1_t4_loop.ub k1_t4_loop.st (k1_t4_ok k1_t1 k1_h1) init
      (k1_t4_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h1 v776 v777 v778 v779 v780 v781) where
  inv k a := iprop(⌜init = accs b f 8 0⌝ ∗ ⌜a = accs b f 8 k⌝ ∗ ((b0W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t4 d i k1_t1 k1_h1 v776 v777 v778 v779 v780 v781 b f k) $$ [H]; iexact H
    · iintro %a ⟨%h, H⟩
      isplitr; · ipureintro; exact hi
      isplitr; · ipureintro; exact h
      iexact H

@[sl_loop] def inv_t5 (d : Dev nD) (i : grid1.Coords) (k1_t1 : Fin k1_t1_loop.trips) (k1_h1 : k1_cond1 k1_t1 = 1#1) (v921 v922 v924 v925 v926 v927 v928 v929 v930 v931 v932 v933 v934 v935 v936 : FVec F S16 .f32)
    (b : S16x2048.Idx → F .f32) (f : S2048.Idx → F .f32) (init : Acc16 F) :
    LoopInv (M := 𝕄) frame (wpE (defs₀ (F := F)) 𝒱₀ (thr d i) none) Set.univ k1_t5_loop.lb k1_t5_loop.ub k1_t5_loop.st (k1_t5_ok k1_t1 k1_h1) init
      (k1_t5_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h1 v921 v922 v924 v925 v926 v927 v928 v929 v930 v931 v932 v933 v934 v935 v936) where
  inv k a := iprop(⌜init = accs b f 12 0⌝ ∗ ⌜a = accs b f 12 k⌝ ∗ ((b0W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t5 d i k1_t1 k1_h1 v921 v922 v924 v925 v926 v927 v928 v929 v930 v931 v932 v933 v934 v935 v936 b f k) $$ [H]; iexact H
    · iintro %a ⟨%h, H⟩
      isplitr; · ipureintro; exact hi
      isplitr; · ipureintro; exact h
      iexact H

@[sl_loop] def inv_t6 (d : Dev nD) (i : grid1.Coords) (k1_t1 : Fin k1_t1_loop.trips) (v423 : BitVec 32) (k1_h3 : k1_cond3 k1_t1 = 1#1)
    (b : S16x2048.Idx → F .f32) (f : S2048.Idx → F .f32) (init : Acc16 F) :
    LoopInv (M := 𝕄) frame (wpE (defs₀ (F := F)) 𝒱₀ (thr d i) none) Set.univ k1_t6_loop.lb k1_t6_loop.ub k1_t6_loop.st (k1_t6_ok k1_t1 k1_h3) init
      (k1_t6_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 v423 k1_h3) where
  inv k a := iprop(⌜init = accs b f 0 0⌝ ∗ ⌜a = accs b f 0 k⌝ ∗ ((b1W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t6 d i k1_t1 v423 k1_h3 b f k) $$ [H]; iexact H
    · iintro %a ⟨%h, H⟩
      isplitr; · ipureintro; exact hi
      isplitr; · ipureintro; exact h
      iexact H

@[sl_loop] def inv_t7 (d : Dev nD) (i : grid1.Coords) (k1_t1 : Fin k1_t1_loop.trips) (k1_h3 : k1_cond3 k1_t1 = 1#1) (v626 : FVec F S16 .f32)
    (b : S16x2048.Idx → F .f32) (f : S2048.Idx → F .f32) (init : Acc16 F) :
    LoopInv (M := 𝕄) frame (wpE (defs₀ (F := F)) 𝒱₀ (thr d i) none) Set.univ k1_t7_loop.lb k1_t7_loop.ub k1_t7_loop.st (k1_t7_ok k1_t1 k1_h3) init
      (k1_t7_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h3 v626) where
  inv k a := iprop(⌜init = accs b f 4 0⌝ ∗ ⌜a = accs b f 4 k⌝ ∗ ((b1W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t7 d i k1_t1 k1_h3 v626 b f k) $$ [H]; iexact H
    · iintro %a ⟨%h, H⟩
      isplitr; · ipureintro; exact hi
      isplitr; · ipureintro; exact h
      iexact H

@[sl_loop] def inv_t8 (d : Dev nD) (i : grid1.Coords) (k1_t1 : Fin k1_t1_loop.trips) (k1_h3 : k1_cond3 k1_t1 = 1#1) (v776 v777 v778 v779 v780 v781 : FVec F S16 .f32)
    (b : S16x2048.Idx → F .f32) (f : S2048.Idx → F .f32) (init : Acc16 F) :
    LoopInv (M := 𝕄) frame (wpE (defs₀ (F := F)) 𝒱₀ (thr d i) none) Set.univ k1_t8_loop.lb k1_t8_loop.ub k1_t8_loop.st (k1_t8_ok k1_t1 k1_h3) init
      (k1_t8_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h3 v776 v777 v778 v779 v780 v781) where
  inv k a := iprop(⌜init = accs b f 8 0⌝ ∗ ⌜a = accs b f 8 k⌝ ∗ ((b1W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t8 d i k1_t1 k1_h3 v776 v777 v778 v779 v780 v781 b f k) $$ [H]; iexact H
    · iintro %a ⟨%h, H⟩
      isplitr; · ipureintro; exact hi
      isplitr; · ipureintro; exact h
      iexact H

@[sl_loop] def inv_t9 (d : Dev nD) (i : grid1.Coords) (k1_t1 : Fin k1_t1_loop.trips) (k1_h3 : k1_cond3 k1_t1 = 1#1) (v921 v922 v924 v925 v926 v927 v928 v929 v930 v931 v932 v933 v934 v935 v936 : FVec F S16 .f32)
    (b : S16x2048.Idx → F .f32) (f : S2048.Idx → F .f32) (init : Acc16 F) :
    LoopInv (M := 𝕄) frame (wpE (defs₀ (F := F)) 𝒱₀ (thr d i) none) Set.univ k1_t9_loop.lb k1_t9_loop.ub k1_t9_loop.st (k1_t9_ok k1_t1 k1_h3) init
      (k1_t9_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 k1_t1 k1_h3 v921 v922 v924 v925 v926 v927 v928 v929 v930 v931 v932 v933 v934 v935 v936) where
  inv k a := iprop(⌜init = accs b f 12 0⌝ ∗ ⌜a = accs b f 12 k⌝ ∗ ((b1W).view.loc (thr d i) ↦{fullShare} b) ∗ ((feW).view.loc (thr d i) ↦{fullShare} f))
  step k a := by
    iintro ⟨%hi, %ha, H⟩
    subst ha
    iapply (wp_wand_r Idealize.ShloMosaic.frame (wpE (defs₀ (F := F)) 𝒱₀ (thr d i) none) Set.univ)
    isplitl [H]
    · iapply (step_t9 d i k1_t1 k1_h3 v921 v922 v924 v925 v926 v927 v928 v929 v930 v931 v932 v933 v934 v935 v936 b f k) $$ [H]; iexact H
    · iintro %a ⟨%h, H⟩
      isplitr; · ipureintro; exact hi
      isplitr; · ipureintro; exact h
      iexact H

end Cert.Proof.Ext
-- ==== Proof.TileTab.lean ====
module
public import proofs.«01_k».proof.Proof.TileLoops
public import Idealize.ShloMosaic.Lib.Pipeline.Value
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

/-! ## The chunks of `x` -/

def ix3x (b r c : ℕ) : S8x8192x2048.Idx := fun
  | 0 => ⟨b % 8, Nat.mod_lt _ (by decide)⟩ | 1 => ⟨r % 8192, Nat.mod_lt _ (by decide)⟩ | 2 => ⟨c % 2048, Nat.mod_lt _ (by decide)⟩

/-- The first row of chunk `g` of a tile within its batch. -/
def row0 (i : grid1.Coords) (g : ℕ) : ℕ := 96 * (i 1).val + 48 * (i 0).val + 16 * (g % 3) + 6656

/-- Chunk `g` of a tile: sixteen rows of batch `g / 3`. -/
def chunk (x : S8x8192x2048.Idx → F .f32) (i : grid1.Coords) (g : ℕ) : S16x2048.Idx → F .f32 :=
  fun j => x (ix3x (g / 3) (row0 i g + (j 0).val) (j 1).val)

theorem row0_le (i : grid1.Coords) (g : ℕ) : row0 i g + 16 ≤ 8192 := by
  have h0 : (i 0).val < 2 := (i 0).isLt; have h1 : (i 1).val < 16 := (i 1).isLt
  unfold row0; omega

theorem xWin_inb (i : grid1.Coords) (g : ℕ) (hg : g < 24) : ∀ a, (![g / 3, row0 i g, 0] : Fin 3 → ℕ) a + S1x16x2048.size a ≤ S8x8192x2048.size a := by
  have := row0_le i g
  intro a; fin_cases a
  · show g / 3 + 1 ≤ 8; omega
  · show row0 i g + 16 ≤ 8192; omega
  · show 0 + 2048 ≤ 2048; omega

abbrev xAt (off : Fin 3 → ℕ) (inb : ∀ a, off a + S1x16x2048.size a ≤ S8x8192x2048.size a) : Memref Cert.KernelIdeal.sig .scVector .hbm S16x2048 .f32 :=
  ((xW).slice (Rect.unit (s := S8x8192x2048) off S1x16x2048.size inb) (fun _ => rfl)).squeeze S16x2048 squeezes_S1x16x2048_S16x2048

theorem xAt_congr {o o' : Fin 3 → ℕ} (h : o = o') (hi hi') : xAt o hi = xAt o' hi' := by subst h; rfl

/-- The elements of `x` chunk `g` reads. -/
def xSet (i : grid1.Coords) (g : ℕ) (hg : g < 24) : Finset S8x8192x2048.Idx := (xAt _ (xWin_inb i g hg)).view.set

/-! ## The running extremes -/

def st0 : Q4 F := ⟨broadcast S16 (Scalar.ofBits .f32 0x7f800000#32), broadcast S16 (Scalar.ofBits .f32 0x7f800000#32),
  broadcast S16 (Scalar.ofBits .f32 0xff800000#32), broadcast S16 (Scalar.ofBits .f32 0xff800000#32)⟩

/-- Each batch's extremes after the first `n` trips. -/
def stAt (x : S8x8192x2048.Idx → F .f32) (f : S2048.Idx → F .f32) (i : grid1.Coords) : ℕ → ℕ → Q4 F
  | 0 => fun _ => st0
  | n + 1 => fun b => if b = n / 3 then updN (chunk x i n) f (stAt x f i n b) 16 else stAt x f i n b

def ix16 (l : ℕ) : S16.Idx := fun | 0 => ⟨l % 16, Nat.mod_lt _ (by decide)⟩

def tab (s : ℕ → Q4 F) : S8x4x16.Idx → F .f32 := fun q => (s (q 0).val).get (q 1).val (ix16 (q 2).val)

theorem ixE_eta (y : S8x4x16.Idx) : ixE (y 0).val (y 1).val (y 2).val = y := by
  funext a
  fin_cases a <;> apply Fin.ext
  · exact Nat.mod_eq_of_lt (y 0).isLt
  · exact Nat.mod_eq_of_lt (y 1).isLt
  · exact Nat.mod_eq_of_lt (y 2).isLt

/-- A row stored into the table, entry by entry. -/
theorem put_apply (e : S8x4x16.Idx → F .f32) (L : List (View.Piece (Elt F) S8x4x16 .f32)) (v : FVec F S16 .f32) {off : Fin 3 → ℕ} (inb) (b j : ℕ)
    (h : off = ![b, j, 0]) (hc : S16.ShapeCasts S1x1x16) (y : S8x4x16.Idx) :
    (exW).view.writes (Elt F) e (⟨Rect.unit (s := S8x4x16) off S1x1x16.size inb, shapeCast S1x1x16 v hc⟩ :: L) y
      = if (y 0).val = b ∧ (y 1).val = j then v (ix16 (y 2).val) else (exW).view.writes (Elt F) e L y := by
  subst h
  have hy2 : (y 2).val < 16 := (y 2).isLt
  split
  · rename_i hy
    let x : S1x1x16.Idx := fun | 0 => (⟨0, by decide⟩ : Fin 1) | 1 => (⟨0, by decide⟩ : Fin 1) | 2 => (y 2 : Fin 16)
    have hx : ∀ a, (y a).val = (![b, j, 0] : Fin 3 → ℕ) a + 1 * (x a).val := by
      intro a; fin_cases a
      · show (y 0).val = b + 1 * 0; omega
      · show (y 1).val = j + 1 * 0; omega
      · show (y 2).val = 0 + 1 * (y 2).val; omega
    have key := View.read_writes_cons_hit_of_coords (exW).view e (Rect.unit (s := S8x4x16) ![b, j, 0] S1x1x16.size inb) (shapeCast S1x1x16 v hc) L x y hx
    refine Eq.trans (b := shapeCast S1x1x16 v hc x) key ?_
    · rw [shapeCast_apply v hc x (ix16 (y 2).val)]
      refine (Shape.rowMajor_val_one (d := ![16]) _).trans (Eq.trans ?_ (Shape.rowMajor_val_three (d := ![1, 1, 16]) _).symm)
      show (y 2).val % 16 = (0 * 1 + 0) * 16 + (y 2).val; omega
  · rename_i hy
    by_cases h0 : (y 0).val = b
    · have h1 : (y 1).val < j ∨ j + 1 ≤ (y 1).val := by
        have : (y 1).val ≠ j := fun h1 => hy ⟨h0, h1⟩
        omega
      have key := View.read_writes_cons_miss_of_axis (exW).view e ⟨Rect.unit (s := S8x4x16) ![b, j, 0] S1x1x16.size inb, shapeCast S1x1x16 v hc⟩ L y (1 : Fin 3) j 1 rfl rfl rfl h1
      exact key
    · have h1 : (y 0).val < b ∨ b + 1 ≤ (y 0).val := by omega
      have key := View.read_writes_cons_miss_of_axis (exW).view e ⟨Rect.unit (s := S8x4x16) ![b, j, 0] S1x1x16.size inb, shapeCast S1x1x16 v hc⟩ L y (0 : Fin 3) b 1 rfl rfl rfl h1
      exact key

/-- Batch `b`'s four rows stored over a table. -/
theorem tab_put (e : ℕ → Q4 F) (q : Q4 F) (b : ℕ) {o0 o1 o2 o3 : Fin 3 → ℕ} (i0 i1 i2 i3) (h0 : o0 = ![b, 0, 0]) (h1 : o1 = ![b, 1, 0])
    (h2 : o2 = ![b, 2, 0]) (h3 : o3 = ![b, 3, 0]) (hc : S16.ShapeCasts S1x1x16) :
    (exW).view.writes (Elt F) (tab e) [⟨Rect.unit (s := S8x4x16) o3 S1x1x16.size i3, shapeCast S1x1x16 q.a1 hc⟩,
      ⟨Rect.unit (s := S8x4x16) o2 S1x1x16.size i2, shapeCast S1x1x16 q.a2 hc⟩, ⟨Rect.unit (s := S8x4x16) o1 S1x1x16.size i1, shapeCast S1x1x16 q.s2 hc⟩,
      ⟨Rect.unit (s := S8x4x16) o0 S1x1x16.size i0, shapeCast S1x1x16 q.s1 hc⟩] = tab (fun n => if n = b then q else e n) := by
  funext y
  rw [put_apply _ _ _ i3 b 3 h3, put_apply _ _ _ i2 b 2 h2, put_apply _ _ _ i1 b 1 h1, put_apply _ _ _ i0 b 0 h0]
  show _ = (if (y 0).val = b then q else e (y 0).val).get (y 1).val (ix16 (y 2).val)
  have hy1 : (y 1).val < 4 := (y 1).isLt
  by_cases hb : (y 0).val = b
  · simp only [hb, true_and, if_true]
    obtain h | h | h | h : (y 1).val = 0 ∨ (y 1).val = 1 ∨ (y 1).val = 2 ∨ (y 1).val = 3 := by omega
    all_goals rw [h]; rfl
  · simp only [hb, false_and, if_false]; rfl

theorem ldE_tab (e : ℕ → Q4 F) (b j : ℕ) (hb : b < 8) (hj : j < 4) : ldE (tab e) b j = (e b).get j := by
  funext l
  have hl : (l 0).val < 16 := (l 0).isLt
  show (e (b % 8)).get (j % 4) (ix16 ((l 0).val % 16)) = _
  rw [Nat.mod_eq_of_lt hb, Nat.mod_eq_of_lt hj]
  refine congrArg _ (funext fun a => ?_)
  fin_cases a; apply Fin.ext; show (l 0).val % 16 % 16 = (l 0).val; omega

/-- Batch `b`'s extremes as the table's rows hold them. -/
def rdQ (e : S8x4x16.Idx → F .f32) (o0 o1 o2 o3 : Fin 3 → ℕ) (i0 : ∀ a, o0 a + S1x1x16.size a ≤ S8x4x16.size a) (i1 : ∀ a, o1 a + S1x1x16.size a ≤ S8x4x16.size a)
    (i2 : ∀ a, o2 a + S1x1x16.size a ≤ S8x4x16.size a) (i3 : ∀ a, o3 a + S1x1x16.size a ≤ S8x4x16.size a) : Q4 F where
  s1 := shapeCast S16 ((exW).view.readAt (Elt F) (Rect.unit (s := S8x4x16) o0 S1x1x16.size i0).toLoadRect e : Vec F S1x1x16 .f32) shapeCasts_S1x1x16_S16
  s2 := shapeCast S16 ((exW).view.readAt (Elt F) (Rect.unit (s := S8x4x16) o1 S1x1x16.size i1).toLoadRect e : Vec F S1x1x16 .f32) shapeCasts_S1x1x16_S16
  a2 := shapeCast S16 ((exW).view.readAt (Elt F) (Rect.unit (s := S8x4x16) o2 S1x1x16.size i2).toLoadRect e : Vec F S1x1x16 .f32) shapeCasts_S1x1x16_S16
  a1 := shapeCast S16 ((exW).view.readAt (Elt F) (Rect.unit (s := S8x4x16) o3 S1x1x16.size i3).toLoadRect e : Vec F S1x1x16 .f32) shapeCasts_S1x1x16_S16

theorem rdQ_tab (e : ℕ → Q4 F) (b : ℕ) (hb : b < 8) {o0 o1 o2 o3 : Fin 3 → ℕ} (i0 i1 i2 i3) (h0 : o0 = ![b, 0, 0]) (h1 : o1 = ![b, 1, 0])
    (h2 : o2 = ![b, 2, 0]) (h3 : o3 = ![b, 3, 0]) : rdQ (tab e) o0 o1 o2 o3 i0 i1 i2 i3 = e b := by
  unfold rdQ
  rw [rd_ex _ i0 b 0 h0, rd_ex _ i1 b 1 h1, rd_ex _ i2 b 2 h2, rd_ex _ i3 b 3 h3, ldE_tab e b 0 hb (by omega), ldE_tab e b 1 hb (by omega), ldE_tab e b 2 hb (by omega), ldE_tab e b 3 hb (by omega)]
  rfl

/-- The window a copy reads, named by its chunk. -/
theorem win_set {off : Fin 3 → ℕ} (inb) (i : grid1.Coords) (g : ℕ) (hg : g < 24) (h : off = ![g / 3, row0 i g, 0]) : (xAt off inb).view.set = xSet i g hg := by
  subst h; rfl

theorem win_read (x : S8x8192x2048.Idx → F .f32) {off : Fin 3 → ℕ} (inb) (i : grid1.Coords) (g : ℕ) (hg : g < 24) (h : off = ![g / 3, row0 i g, 0]) :
    (xAt off inb).view.read (Elt F) x = chunk x i g := by
  subst h
  have hr := row0_le i g
  refine (Memref.read_squeeze_slice (Val := Elt F) xW (Rect.unit (s := S8x8192x2048) ![g / 3, row0 i g, 0] S1x16x2048.size inb) (fun _ => rfl) squeezes_S1x16x2048_S16x2048
    (show S1x16x2048.ShapeCasts S16x2048 by decide) x).trans ?_
  funext j
  have hj0 : (j 0).val < 16 := (j 0).isLt; have hj1 : (j 1).val < 2048 := (j 1).isLt
  rw [shapeCast_dropUnit_apply (n := 2) ![16, 2048]]
  refine congrArg x (funext fun a => ?_)
  fin_cases a <;> apply Fin.ext
  · show g / 3 + 1 * 0 = g / 3 % 8; omega
  · show row0 i g + 1 * (j 0).val = (row0 i g + (j 0).val) % 8192; omega
  · show 0 + 1 * (j 1).val = (j 1).val % 2048; omega

/-! ## One trip -/

abbrev FL (d : Dev nD) (i : grid1.Coords) (sm : DmaSem Cert.KernelIdeal.sig) (B : Memref Cert.KernelIdeal.sig .scVector .vmem S16x2048 .f32)
    (c : Buf (Elt F) (B.view.loc (thr d i))) (x : S8x8192x2048.Idx → F .f32) (q : PosShare TreeShare) (g : ℕ) (hg : g < 24) : sProp 𝕄 :=
  Transfers.Flight (countersEmb (U := UU)) (thr d i) (.dma sm) (none : HIx 1) B.view.dmaCredit
    iprop((B.view.loc (thr d i) ↦{fullShare} c) ∗ ((xW).view.loc (thr d i) ↦[xSet i g hg]{q} x))

/-- Chunk `g` on its way into a buffer, the rest of this share of `x` waiting for its window to come back. -/
def Fly (d : Dev nD) (i : grid1.Coords) (sm : DmaSem Cert.KernelIdeal.sig) (B : Memref Cert.KernelIdeal.sig .scVector .vmem S16x2048 .f32)
    (c : Buf (Elt F) (B.view.loc (thr d i))) (x : S8x8192x2048.Idx → F .f32) (q : PosShare TreeShare) (g : ℕ) (hg : g < 24) : sProp 𝕄 :=
  iprop(FL d i sm B c x q g hg ∗ (((xW).view.loc (thr d i) ↦[xSet i g hg]{q} x) -∗ ((xW).view.loc (thr d i) ↦{q} x)))

/-- No chunk on its way into a buffer. -/
def Idle (d : Dev nD) (i : grid1.Coords) (sm : DmaSem Cert.KernelIdeal.sig) (B : Memref Cert.KernelIdeal.sig .scVector .vmem S16x2048 .f32)
    (x : S8x8192x2048.Idx → F .f32) (q : PosShare TreeShare) : sProp 𝕄 :=
  iprop((∃ c, B.view.loc (thr d i) ↦{fullShare} c) ∗ semVal (thr d i, SemLoc.dma sm) 0 ∗ ((xW).view.loc (thr d i) ↦{q} x))

/-- A copy just started, with what it left of `x`, is its chunk on the way. -/
theorem fly_of (d : Dev nD) (i : grid1.Coords) (sm : DmaSem Cert.KernelIdeal.sig) (B : Memref Cert.KernelIdeal.sig .scVector .vmem S16x2048 .f32)
    (c c' : Buf (Elt F) (B.view.loc (thr d i))) (x : S8x8192x2048.Idx → F .f32) (q : PosShare TreeShare) (g : ℕ) (hg : g < 24) {off : Fin 3 → ℕ} (inb)
    (h : off = ![g / 3, row0 i g, 0]) (hc : c = c') :
    iprop(Transfers.Flight (countersEmb (U := UU)) (thr d i) (.dma sm) (none : HIx 1) B.view.dmaCredit
        iprop((B.view.loc (thr d i) ↦{fullShare} c) ∗ ((xW).view.loc (thr d i) ↦[(xAt off inb).view.set]{q} x))
        ∗ ((xW).view.loc (thr d i) ↦[Finset.univ \ (xAt off inb).view.set]{q} x))
      ⊢ iprop(FL d i sm B c' x q g hg ∗ (((xW).view.loc (thr d i) ↦[xSet i g hg]{q} x) -∗ ((xW).view.loc (thr d i) ↦{q} x))) := by
  subst hc; subst h
  iintro ⟨H, Hr⟩
  isplitl [H]; · iexact H
  iintro Hw
  iapply (pointsTo_split_subset (Finset.subset_univ (xSet i g hg))).2
  isplitl [Hw]; · iexact Hw
  iexact Hr

end Cert.Proof.Ext
-- ==== Proof.TileTrip.lean ====
module
public import proofs.«01_k».proof.Proof.TileTab
public import Idealize.ShloMosaic.Lib.Pipeline.Value
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

theorem trip_even (d : Dev nD) (i : grid1.Coords) (t : Fin k1_t1_loop.trips) (h1 : t.val % 2 = 0) (h2 : t.val + 1 < 24) (v3 : BitVec 32) (v4 : IVec S16 32) (v6 : FVec F S16 .f32)
    (x : S8x8192x2048.Idx → F .f32) (f : S2048.Idx → F .f32) (qa qb : PosShare TreeShare) (O : CellTallies nD τ sig (HIx 1)) (W : Waits sig (HIx 1))
    (e : ℕ → Q4 F) :
    iprop(Transfers.MayWaits (thr d i) (none : HIx 1) O
        ∗ Fly d i cc1_scratch5.sem b0W (chunk x i t.val) x qa t.val (by omega) ∗ Idle d i cc1_scratch6.sem b1W x qb
        ∗ ((feW).view.loc (thr d i) ↦{fullShare} f) ∗ ((exW).view.loc (thr d i) ↦{fullShare} tab e) ∗ owes (thr d i) O W)
      ⊢ wp frame (wpE (defs₀ (F := F)) 𝒱₀ (thr d i) none) Set.univ
        (k1_t1_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 v3 v4 v6 t ⟨⟩)
        fun _ => (iprop(∃ g, ((exW).view.loc (thr d i) ↦{fullShare} g) ∗ ⌜g = tab (fun n => if n = t.val / 3 then updN (chunk x i t.val) f (e n) 16 else e n)⌝
          ∗ Fly d i cc1_scratch6.sem b1W (chunk x i (t.val + 1)) x qb (t.val + 1) h2 ∗ Idle d i cc1_scratch5.sem b0W x qa
          ∗ ((feW).view.loc (thr d i) ↦{fullShare} f) ∗ owes (thr d i) O (insert (SemLoc.dma cc1_scratch5.sem, none) W)) : sProp 𝕄) := by
  have hc1 := (cond1_iff t).2 h1
  have hc2 := (cond2_iff t).2 h2
  have hc3 : ¬ k1_cond3 t = 1#1 := fun h => by have := (cond3_iff t).1 h; omega
  unfold Fly Idle
  iintro ⟨#Hmw, ⟨HF, Hback⟩, ⟨⟨%c1, Hb1⟩, Hs1, Hx⟩, Hf, He, HO⟩
  unfold k1_t1_body
  rw [k1_part9_eq_skeleton, k1_part10_eq_skeleton]
  rw [k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
  sl_exec (disch := exact View.amount_pos _ _ (show 0 < S16x2048.numel by decide))
  have hq : rdQ (tab e) (k1_off4 t) (k1_off5 t) (k1_off6 t) (k1_off7 t) (k1_off4_inb t hc1) (k1_off5_inb t hc1) (k1_off6_inb t hc1) (k1_off7_inb t hc1) = e (t.val / 3) :=
    rdQ_tab e _ (by omega) _ _ _ _ (k1_off4_eq t) (k1_off5_eq t) (k1_off6_eq t) (k1_off7_eq t)
  have hq' : (fun n => if n = t.val / 3 then updN (chunk x i t.val) f (rdQ (tab e) (k1_off4 t) (k1_off5 t) (k1_off6 t) (k1_off7 t) (k1_off4_inb t hc1) (k1_off5_inb t hc1) (k1_off6_inb t hc1) (k1_off7_inb t hc1)) 16 else e n)
      = fun n => if n = t.val / 3 then updN (chunk x i t.val) f (e n) 16 else e n := by
    funext n
    by_cases h : n = t.val / 3
    · rw [if_pos h, if_pos h, h, hq]
    · rw [if_neg h, if_neg h]
  rw [wp_ret]; imodintro
  iexists _
  isplitl [He]; · iexact He
  isplitr
  · ipureintro
    rw [← hq']
    refine Eq.trans ?_ (tab_put e (updN (chunk x i t.val) f (rdQ (tab e) (k1_off4 t) (k1_off5 t) (k1_off6 t) (k1_off7 t) (k1_off4_inb t hc1) (k1_off5_inb t hc1) (k1_off6_inb t hc1) (k1_off7_inb t hc1)) 16) (t.val / 3)
      (k1_off4_inb t hc1) (k1_off5_inb t hc1) (k1_off6_inb t hc1) (k1_off7_inb t hc1) (k1_off4_eq t) (k1_off5_eq t) (k1_off6_eq t) (k1_off7_eq t) shapeCasts_S16_S1x1x16)
    rfl
  isplitl [Hs1 Hx]
  · iapply (fly_of d i cc1_scratch6.sem b1W (View.write (Elt F) (b1W).view c1 ((xAt (k1_off2 i t) (k1_off2_inb i t hc1 hc2)).view.read (Elt F) x) Finset.univ) (chunk x i (t.val + 1)) x qb (t.val + 1) h2 (k1_off2_inb i t hc1 hc2) (k1_off2_eq i t)
      ((View.write_whole_univ _ _ _).trans (win_read x (k1_off2_inb i t hc1 hc2) i (t.val + 1) h2 (k1_off2_eq i t))))
    isplitl [Hs1]; · iexact Hs1
    iexact Hx
  isplitl [HF HF_dst HF_src Hback]
  · isplitl [HF_dst]; · iexists _; iexact HF_dst
    isplitl [HF]; · iexact HF
    iapply Hback $$ HF_src
  isplitl [Hf]; · iexact Hf
  iexact HO

theorem trip_odd (d : Dev nD) (i : grid1.Coords) (t : Fin k1_t1_loop.trips) (h1 : t.val % 2 = 1) (h2 : t.val + 1 < 24) (v3 : BitVec 32) (v4 : IVec S16 32) (v6 : FVec F S16 .f32)
    (x : S8x8192x2048.Idx → F .f32) (f : S2048.Idx → F .f32) (qa qb : PosShare TreeShare) (O : CellTallies nD τ sig (HIx 1)) (W : Waits sig (HIx 1))
    (e : ℕ → Q4 F) :
    iprop(Transfers.MayWaits (thr d i) (none : HIx 1) O
        ∗ Fly d i cc1_scratch6.sem b1W (chunk x i t.val) x qb t.val (by omega) ∗ Idle d i cc1_scratch5.sem b0W x qa
        ∗ ((feW).view.loc (thr d i) ↦{fullShare} f) ∗ ((exW).view.loc (thr d i) ↦{fullShare} tab e) ∗ owes (thr d i) O W)
      ⊢ wp frame (wpE (defs₀ (F := F)) 𝒱₀ (thr d i) none) Set.univ
        (k1_t1_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 v3 v4 v6 t ⟨⟩)
        fun _ => (iprop(∃ g, ((exW).view.loc (thr d i) ↦{fullShare} g) ∗ ⌜g = tab (fun n => if n = t.val / 3 then updN (chunk x i t.val) f (e n) 16 else e n)⌝
          ∗ Fly d i cc1_scratch5.sem b0W (chunk x i (t.val + 1)) x qa (t.val + 1) h2 ∗ Idle d i cc1_scratch6.sem b1W x qb
          ∗ ((feW).view.loc (thr d i) ↦{fullShare} f) ∗ owes (thr d i) O (insert (SemLoc.dma cc1_scratch6.sem, none) W)) : sProp 𝕄) := by
  have hc1 := (cond3_iff t).2 h1
  have hc2 := (cond4_iff t).2 h2
  have hc3 : ¬ k1_cond1 t = 1#1 := fun h => by have := (cond1_iff t).1 h; omega
  unfold Fly Idle
  iintro ⟨#Hmw, ⟨HF, Hback⟩, ⟨⟨%c1, Hb1⟩, Hs1, Hx⟩, Hf, He, HO⟩
  unfold k1_t1_body
  rw [k1_part30_eq_skeleton, k1_part31_eq_skeleton]
  rw [k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
  sl_exec (disch := exact View.amount_pos _ _ (show 0 < S16x2048.numel by decide))
  have hq : rdQ (tab e) (k1_off30 t) (k1_off31 t) (k1_off32 t) (k1_off33 t) (k1_off30_inb t hc1) (k1_off31_inb t hc1) (k1_off32_inb t hc1) (k1_off33_inb t hc1) = e (t.val / 3) :=
    rdQ_tab e _ (by omega) _ _ _ _ (k1_off30_eq t) (k1_off31_eq t) (k1_off32_eq t) (k1_off33_eq t)
  have hq' : (fun n => if n = t.val / 3 then updN (chunk x i t.val) f (rdQ (tab e) (k1_off30 t) (k1_off31 t) (k1_off32 t) (k1_off33 t) (k1_off30_inb t hc1) (k1_off31_inb t hc1) (k1_off32_inb t hc1) (k1_off33_inb t hc1)) 16 else e n)
      = fun n => if n = t.val / 3 then updN (chunk x i t.val) f (e n) 16 else e n := by
    funext n
    by_cases h : n = t.val / 3
    · rw [if_pos h, if_pos h, h, hq]
    · rw [if_neg h, if_neg h]
  rw [wp_ret]; imodintro
  iexists _
  isplitl [He]; · iexact He
  isplitr
  · ipureintro
    rw [← hq']
    refine Eq.trans ?_ (tab_put e (updN (chunk x i t.val) f (rdQ (tab e) (k1_off30 t) (k1_off31 t) (k1_off32 t) (k1_off33 t) (k1_off30_inb t hc1) (k1_off31_inb t hc1) (k1_off32_inb t hc1) (k1_off33_inb t hc1)) 16) (t.val / 3)
      (k1_off30_inb t hc1) (k1_off31_inb t hc1) (k1_off32_inb t hc1) (k1_off33_inb t hc1) (k1_off30_eq t) (k1_off31_eq t) (k1_off32_eq t) (k1_off33_eq t) shapeCasts_S16_S1x1x16)
    rfl
  isplitl [Hs1 Hx]
  · iapply (fly_of d i cc1_scratch5.sem b0W (View.write (Elt F) (b0W).view c1 ((xAt (k1_off28 i t) (k1_off28_inb i t hc1 hc2)).view.read (Elt F) x) Finset.univ) (chunk x i (t.val + 1)) x qa (t.val + 1) h2 (k1_off28_inb i t hc1 hc2) (k1_off28_eq i t)
      ((View.write_whole_univ _ _ _).trans (win_read x (k1_off28_inb i t hc1 hc2) i (t.val + 1) h2 (k1_off28_eq i t))))
    isplitl [Hs1]; · iexact Hs1
    iexact Hx
  isplitl [HF HF_dst HF_src Hback]
  · isplitl [HF_dst]; · iexists _; iexact HF_dst
    isplitl [HF]; · iexact HF
    iapply Hback $$ HF_src
  isplitl [Hf]; · iexact Hf
  iexact HO

theorem trip_last (d : Dev nD) (i : grid1.Coords) (t : Fin k1_t1_loop.trips) (h1 : t.val % 2 = 1) (h2 : ¬ t.val + 1 < 24) (v3 : BitVec 32) (v4 : IVec S16 32) (v6 : FVec F S16 .f32)
    (x : S8x8192x2048.Idx → F .f32) (f : S2048.Idx → F .f32) (qa qb : PosShare TreeShare) (O : CellTallies nD τ sig (HIx 1)) (W : Waits sig (HIx 1))
    (e : ℕ → Q4 F) :
    iprop(Transfers.MayWaits (thr d i) (none : HIx 1) O
        ∗ Fly d i cc1_scratch6.sem b1W (chunk x i t.val) x qb t.val (lt_of_lt_of_eq t.isLt trips1) ∗ Idle d i cc1_scratch5.sem b0W x qa
        ∗ ((feW).view.loc (thr d i) ↦{fullShare} f) ∗ ((exW).view.loc (thr d i) ↦{fullShare} tab e) ∗ owes (thr d i) O W)
      ⊢ wp frame (wpE (defs₀ (F := F)) 𝒱₀ (thr d i) none) Set.univ
        (k1_t1_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 v3 v4 v6 t ⟨⟩)
        fun _ => (iprop(∃ g, ((exW).view.loc (thr d i) ↦{fullShare} g) ∗ ⌜g = tab (fun n => if n = t.val / 3 then updN (chunk x i t.val) f (e n) 16 else e n)⌝
          ∗ Idle d i cc1_scratch5.sem b0W x qa ∗ Idle d i cc1_scratch6.sem b1W x qb
          ∗ ((feW).view.loc (thr d i) ↦{fullShare} f) ∗ owes (thr d i) O (insert (SemLoc.dma cc1_scratch6.sem, none) W)) : sProp 𝕄) := by
  have ht := lt_of_lt_of_eq t.isLt trips1
  have hc1 := (cond3_iff t).2 h1
  have hc2 : ¬ k1_cond4 t = 1#1 := fun h => h2 ((cond4_iff t).1 h)
  have hc3 : ¬ k1_cond1 t = 1#1 := fun h => by have := (cond1_iff t).1 h; omega
  unfold Fly Idle
  iintro ⟨#Hmw, ⟨HF, Hback⟩, ⟨⟨%c1, Hb1⟩, Hs1, Hx⟩, Hf, He, HO⟩
  unfold k1_t1_body
  rw [k1_part30_eq_skeleton, k1_part31_eq_skeleton]
  rw [k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
  sl_exec (disch := exact View.amount_pos _ _ (show 0 < S16x2048.numel by decide))
  have hq : rdQ (tab e) (k1_off30 t) (k1_off31 t) (k1_off32 t) (k1_off33 t) (k1_off30_inb t hc1) (k1_off31_inb t hc1) (k1_off32_inb t hc1) (k1_off33_inb t hc1) = e (t.val / 3) :=
    rdQ_tab e _ (by omega) _ _ _ _ (k1_off30_eq t) (k1_off31_eq t) (k1_off32_eq t) (k1_off33_eq t)
  have hq' : (fun n => if n = t.val / 3 then updN (chunk x i t.val) f (rdQ (tab e) (k1_off30 t) (k1_off31 t) (k1_off32 t) (k1_off33 t) (k1_off30_inb t hc1) (k1_off31_inb t hc1) (k1_off32_inb t hc1) (k1_off33_inb t hc1)) 16 else e n)
      = fun n => if n = t.val / 3 then updN (chunk x i t.val) f (e n) 16 else e n := by
    funext n
    by_cases h : n = t.val / 3
    · rw [if_pos h, if_pos h, h, hq]
    · rw [if_neg h, if_neg h]
  rw [wp_ret]; imodintro
  iexists _
  isplitl [He]; · iexact He
  isplitr
  · ipureintro
    rw [← hq']
    refine Eq.trans ?_ (tab_put e (updN (chunk x i t.val) f (rdQ (tab e) (k1_off30 t) (k1_off31 t) (k1_off32 t) (k1_off33 t) (k1_off30_inb t hc1) (k1_off31_inb t hc1) (k1_off32_inb t hc1) (k1_off33_inb t hc1)) 16) (t.val / 3)
      (k1_off30_inb t hc1) (k1_off31_inb t hc1) (k1_off32_inb t hc1) (k1_off33_inb t hc1) (k1_off30_eq t) (k1_off31_eq t) (k1_off32_eq t) (k1_off33_eq t) shapeCasts_S16_S1x1x16)
    rfl
  isplitl [Hb1 Hs1 Hx]
  · isplitl [Hb1]; · iexists _; iexact Hb1
    isplitl [Hs1]; · iexact Hs1
    iexact Hx
  isplitl [HF HF_dst HF_src Hback]
  · isplitl [HF_dst]; · iexists _; iexact HF_dst
    isplitl [HF]; · iexact HF
    iapply Hback $$ HF_src
  isplitl [Hf]; · iexact Hf
  iexact HO

end Cert.Proof.Ext
-- ==== Proof.TileRun.lean ====
module
public import proofs.«01_k».proof.Proof.TileTrip
public import Idealize.ShloMosaic.Lib.Pipeline.Value
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

/-! ## The loop over the chunks -/

/-- What is on its way before trip `k`. -/
def Flow (d : Dev nD) (i : grid1.Coords) (x : S8x8192x2048.Idx → F .f32) (qa qb : PosShare TreeShare) (k : ℕ) : sProp 𝕄 :=
  if h : k < 24 then
    if k % 2 = 0 then iprop(Fly d i cc1_scratch5.sem b0W (chunk x i k) x qa k h ∗ Idle d i cc1_scratch6.sem b1W x qb)
    else iprop(Fly d i cc1_scratch6.sem b1W (chunk x i k) x qb k h ∗ Idle d i cc1_scratch5.sem b0W x qa)
  else iprop(Idle d i cc1_scratch6.sem b1W x qb ∗ Idle d i cc1_scratch5.sem b0W x qa)

/-- Before trip `k`: the first `k` chunks are in the running extremes. -/
def Inv (d : Dev nD) (i : grid1.Coords) (x : S8x8192x2048.Idx → F .f32) (f : S2048.Idx → F .f32) (qa qb : PosShare TreeShare)
    (O : CellTallies nD τ sig (HIx 1)) (W : Waits sig (HIx 1)) (k : ℕ) (_ : PUnit) : sProp 𝕄 :=
  iprop(Transfers.MayWaits (thr d i) (none : HIx 1) O ∗ Flow d i x qa qb k
    ∗ ((feW).view.loc (thr d i) ↦{fullShare} f) ∗ ((exW).view.loc (thr d i) ↦{fullShare} tab (stAt x f i k))
    ∗ ∃ W', ⌜∀ p ∈ W', p ∈ W ∨ p.2 = none⌝ ∗ owes (thr d i) O W')

theorem waits_insert {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with hp | hp
  · exact .inr (hp ▸ rfl)
  · exact h p hp

theorem trip (d : Dev nD) (i : grid1.Coords) (t : Fin k1_t1_loop.trips) (v3 : BitVec 32) (v4 : IVec S16 32) (v6 : FVec F S16 .f32)
    (x : S8x8192x2048.Idx → F .f32) (f : S2048.Idx → F .f32) (qa qb : PosShare TreeShare) (O : CellTallies nD τ sig (HIx 1)) (W : Waits sig (HIx 1)) (u : PUnit) :
    Inv d i x f qa qb O W t.val u ⊢ wp frame (wpE (defs₀ (F := F)) 𝒱₀ (thr d i) none) Set.univ
        (k1_t1_body i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1 v3 v4 v6 t ⟨⟩)
        (Inv d i x f qa qb O W (t.val + 1)) := by
  have ht := lt_of_lt_of_eq t.isLt trips1
  unfold Inv
  iintro ⟨#Hmw, HF, Hf, He, %W', %hW, HO⟩
  by_cases hp : t.val % 2 = 0
  · have h2 : t.val + 1 < 24 := by omega
    have e0 : Flow d i x qa qb t.val = iprop(Fly d i cc1_scratch5.sem b0W (chunk x i t.val) x qa t.val ht ∗ Idle d i cc1_scratch6.sem b1W x qb) := by
      unfold Flow; rw [dif_pos ht, if_pos hp]
    have e1 : Flow d i x qa qb (t.val + 1) = iprop(Fly d i cc1_scratch6.sem b1W (chunk x i (t.val + 1)) x qb (t.val + 1) h2 ∗ Idle d i cc1_scratch5.sem b0W x qa) := by
      unfold Flow; rw [dif_pos h2, if_neg (by omega)]
    rw [e1]
    ihave HF' := (Entails.of_eq e0) $$ HF
    icases HF' with ⟨HF, HI⟩
    iapply (wp_wand_r Idealize.ShloMosaic.frame (wpE (defs₀ (F := F)) 𝒱₀ (thr d i) none) Set.univ)
    isplitl [HF HI Hf He HO]
    · iapply (trip_even d i t hp h2 v3 v4 v6 x f qa qb O W' (stAt x f i t.val)) $$ [HF HI Hf He HO]
      isplitr; · iexact Hmw
      isplitl [HF]; · iexact HF
      isplitl [HI]; · iexact HI
      isplitl [Hf]; · iexact Hf
      isplitl [He]; · iexact He
      iexact HO
    iintro %_ ⟨%g, He, %hg, HF, HI, Hf, HO⟩
    subst hg
    isplitr; · iexact Hmw
    isplitl [HF HI]; · isplitl [HF] <;> iassumption
    isplitl [Hf]; · iexact Hf
    isplitl [He]; · iexact He
    iexists (insert (SemLoc.dma cc1_scratch5.sem, (none : HIx 1)) W')
    isplitr; · ipureintro; exact waits_insert hW _
    iexact HO
  · have e0 : Flow d i x qa qb t.val = iprop(Fly d i cc1_scratch6.sem b1W (chunk x i t.val) x qb t.val ht ∗ Idle d i cc1_scratch5.sem b0W x qa) := by
      unfold Flow; rw [dif_pos ht, if_neg hp]
    ihave HF' := (Entails.of_eq e0) $$ HF
    icases HF' with ⟨HF, HI⟩
    by_cases h2 : t.val + 1 < 24
    · have e1 : Flow d i x qa qb (t.val + 1) = iprop(Fly d i cc1_scratch5.sem b0W (chunk x i (t.val + 1)) x qa (t.val + 1) h2 ∗ Idle d i cc1_scratch6.sem b1W x qb) := by
        unfold Flow; rw [dif_pos h2, if_pos (by omega)]
      rw [e1]
      iapply (wp_wand_r Idealize.ShloMosaic.frame (wpE (defs₀ (F := F)) 𝒱₀ (thr d i) none) Set.univ)
      isplitl [HF HI Hf He HO]
      · iapply (trip_odd d i t (by omega) h2 v3 v4 v6 x f qa qb O W' (stAt x f i t.val)) $$ [HF HI Hf He HO]
        isplitr; · iexact Hmw
        isplitl [HF]; · iexact HF
        isplitl [HI]; · iexact HI
        isplitl [Hf]; · iexact Hf
        isplitl [He]; · iexact He
        iexact HO
      iintro %_ ⟨%g, He, %hg, HF, HI, Hf, HO⟩
      subst hg
      isplitr; · iexact Hmw
      isplitl [HF HI]; · isplitl [HF] <;> iassumption
      isplitl [Hf]; · iexact Hf
      isplitl [He]; · iexact He
      iexists (insert (SemLoc.dma cc1_scratch6.sem, (none : HIx 1)) W')
      isplitr; · ipureintro; exact waits_insert hW _
      iexact HO
    · have e1 : Flow d i x qa qb (t.val + 1) = iprop(Idle d i cc1_scratch6.sem b1W x qb ∗ Idle d i cc1_scratch5.sem b0W x qa) := by
        unfold Flow; rw [dif_neg h2]
      rw [e1]
      iapply (wp_wand_r Idealize.ShloMosaic.frame (wpE (defs₀ (F := F)) 𝒱₀ (thr d i) none) Set.univ)
      isplitl [HF HI Hf He HO]
      · iapply (trip_last d i t (by omega) h2 v3 v4 v6 x f qa qb O W' (stAt x f i t.val)) $$ [HF HI Hf He HO]
        isplitr; · iexact Hmw
        isplitl [HF]; · iexact HF
        isplitl [HI]; · iexact HI
        isplitl [Hf]; · iexact Hf
        isplitl [He]; · iexact He
        iexact HO
      iintro %_ ⟨%g, He, %hg, HI0, HI, Hf, HO⟩
      subst hg
      isplitr; · iexact Hmw
      isplitl [HI0 HI]; · isplitl [HI] <;> iassumption
      isplitl [Hf]; · iexact Hf
      isplitl [He]; · iexact He
      iexists (insert (SemLoc.dma cc1_scratch6.sem, (none : HIx 1)) W')
      isplitr; · ipureintro; exact waits_insert hW _
      iexact HO

end Cert.Proof.Ext
-- ==== Proof.TileBody.lean ====
module
public import proofs.«01_k».proof.Proof.TileRun
public import Idealize.ShloMosaic.Lib.Pipeline.Value
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "xW" => (Memref.whole main_arg0_scv : Memref Cert.KernelIdeal.sig Kind.scVector Space.hbm S8x8192x2048 EltTy.f32)
local notation "eW" => (Memref.whole main_arg1_scv : Memref Cert.KernelIdeal.sig Kind.scVector Space.hbm S2048 EltTy.f32)
local notation "oW" => (Memref.whole main_v8_scv : Memref Cert.KernelIdeal.sig Kind.scVector Space.hbm S32x32 EltTy.f32)
local notation "b0W" => (Memref.whole cc1_scratch0 : Memref Cert.KernelIdeal.sig Kind.scVector Space.vmem S16x2048 EltTy.f32)
local notation "b1W" => (Memref.whole cc1_scratch1 : Memref Cert.KernelIdeal.sig Kind.scVector Space.vmem S16x2048 EltTy.f32)
local notation "feW" => (Memref.whole cc1_scratch2 : Memref Cert.KernelIdeal.sig Kind.scVector Space.vmem S2048 EltTy.f32)
local notation "rvW" => (Memref.whole cc1_scratch3 : Memref Cert.KernelIdeal.sig Kind.scVector Space.vmem S32 EltTy.f32)
local notation "exW" => (Memref.whole cc1_scratch4 : Memref Cert.KernelIdeal.sig Kind.scVector Space.vmem S8x4x16 EltTy.f32)

theorem pts_eq {ℓ : Loc nD τ sig} {q : PosShare TreeShare} {S : Finset (Idx ℓ)} {g g' : Buf (Elt F) ℓ} (h : g = g') : (ℓ ↦[S]{q} g : sProp 𝕄) ⊢ (ℓ ↦[S]{q} g') := by subst h; exact .rfl

/-- The table's rows below batch `n` hold the extremes of nothing. -/
def Filled (g : S8x4x16.Idx → F .f32) (n : ℕ) : Prop := ∀ y : S8x4x16.Idx, (y 0).val < n → g y = tab (fun _ => st0) y

theorem filled_step (e : S8x4x16.Idx → F .f32) (L : List (View.Piece (Elt F) S8x4x16 .f32)) (b : ℕ) (h : Filled ((exW).view.writes (Elt F) e L) b)
    (hc : S16.ShapeCasts S1x1x16) (i0 i1 i2 i3) :
    Filled ((exW).view.writes (Elt F) e (⟨Rect.unit (s := S8x4x16) ![b, 3, 0] S1x1x16.size i3, shapeCast S1x1x16 (st0 (F := F)).a1 hc⟩
      :: ⟨Rect.unit (s := S8x4x16) ![b, 2, 0] S1x1x16.size i2, shapeCast S1x1x16 (st0 (F := F)).a2 hc⟩
      :: ⟨Rect.unit (s := S8x4x16) ![b, 1, 0] S1x1x16.size i1, shapeCast S1x1x16 (st0 (F := F)).s2 hc⟩
      :: ⟨Rect.unit (s := S8x4x16) ![b, 0, 0] S1x1x16.size i0, shapeCast S1x1x16 (st0 (F := F)).s1 hc⟩ :: L)) (b + 1) := by
  intro y hy
  rw [put_apply _ _ _ i3 b 3 rfl, put_apply _ _ _ i2 b 2 rfl, put_apply _ _ _ i1 b 1 rfl, put_apply _ _ _ i0 b 0 rfl]
  show _ = (st0 (F := F)).get (y 1).val (ix16 (y 2).val)
  have hy1 : (y 1).val < 4 := (y 1).isLt
  by_cases hb : (y 0).val = b
  · simp only [hb, true_and]
    obtain h | h | h | h : (y 1).val = 0 ∨ (y 1).val = 1 ∨ (y 1).val = 2 ∨ (y 1).val = 3 := by omega
    all_goals rw [h]; rfl
  · simp only [hb, false_and, if_false]; exact h y (by omega)

abbrev oAt (off : Fin 2 → ℕ) (inb : ∀ a, off a + S1x32.size a ≤ S32x32.size a) : Memref Cert.KernelIdeal.sig .scVector .hbm S32 .f32 :=
  ((oW).slice (Rect.unit (s := S32x32) off S1x32.size inb) (fun _ => rfl)).squeeze S32 squeezes_S1x32_S32

/-! ## The packed result -/

theorem rowOff_inb (k : ℕ) : ∀ a, (![k / 4 % 8, k % 4, 0] : Fin 3 → ℕ) a + S1x1x16.size a ≤ S8x4x16.size a := by
  intro a; fin_cases a
  · show k / 4 % 8 + 1 ≤ 8; omega
  · show k % 4 + 1 ≤ 4; omega
  · show 0 + 16 ≤ 16; omega

/-- The table's row number `k` as a load reads it. -/
def rowAt (e : S8x4x16.Idx → F .f32) (k : ℕ) : FVec F S16 .f32 :=
  shapeCast S16 ((exW).view.readAt (Elt F) (Rect.unit (s := S8x4x16) ![k / 4 % 8, k % 4, 0] S1x1x16.size (rowOff_inb k)).toLoadRect e : Vec F S1x1x16 .f32) shapeCasts_S1x1x16_S16

/-- Lane `p` taken from row `o + p`, for the first `n` lanes. -/
def pack (e : S8x4x16.Idx → F .f32) (o : ℕ) : ℕ → FVec F S16 .f32
  | 0 => broadcast S16 (Scalar.ofBits .f32 0x00000000#32)
  | n + 1 => select (cmpi .eq (iota .scVector S16 32 [0] iota_S16_d0_w32_scVector) (broadcast S16 (BitVec.ofNat 32 n))) (rowAt e (o + n)) (pack e o n)

theorem pack_apply (e : S8x4x16.Idx → F .f32) (o n : ℕ) (hn : n ≤ 16) (l : S16.Idx) (hl : (l 0).val < n) : pack e o n l = rowAt e (o + (l 0).val) l := by
  induction n with
  | zero => exact absurd hl (Nat.not_lt_zero _)
  | succ n ih =>
    have hi : (iota .scVector S16 32 [0] iota_S16_d0_w32_scVector) l = BitVec.ofNat 32 (l 0).val := by
      show BitVec.ofNat 32 (0 * 16 + (l 0).val) = _
      rw [Nat.zero_mul, Nat.zero_add]
    have hs : pack e o (n + 1) l = Scalar.select (IntOp.cmpi .eq ((iota .scVector S16 32 [0] iota_S16_d0_w32_scVector) l) (BitVec.ofNat 32 n)) (rowAt e (o + n) l) (pack e o n l) := rfl
    rw [hs, hi]
    by_cases h : (l 0).val = n
    · rw [h, show IntOp.cmpi .eq (BitVec.ofNat 32 n) (BitVec.ofNat 32 n) = 1#1 by simp [IntOp.cmpi]]; rfl
    · rw [show IntOp.cmpi .eq (BitVec.ofNat 32 (l 0).val) (BitVec.ofNat 32 n) = 0#1 by
        have : BitVec.ofNat 32 (l 0).val ≠ BitVec.ofNat 32 n := by
          intro hh
          have := congrArg BitVec.toNat hh
          simp only [BitVec.toNat_ofNat] at this
          omega
        show BitVec.ofBool (BitVec.ofNat 32 (l 0).val == BitVec.ofNat 32 n) = 0#1
        rw [beq_eq_false_iff_ne.mpr this]; rfl]
      exact (ih (by omega) (by omega))

/-- What tile `i` leaves in its row: entry `p` is extreme `p % 4` of batch `p / 4`, in lane `p % 16`. -/
def res (x : S8x8192x2048.Idx → F .f32) (f : S2048.Idx → F .f32) (i : grid1.Coords) (p : ℕ) : F .f32 :=
  (stAt x f i 24 (p / 4)).get (p % 4) (ix16 p)

theorem rowAt_tab (s : ℕ → Q4 F) (k : ℕ) (hk : k < 32) : rowAt (tab s) k = (s (k / 4)).get (k % 4) := by
  unfold rowAt
  rw [rd_ex _ (rowOff_inb k) (k / 4) (k % 4) (by rw [Nat.mod_eq_of_lt (show k / 4 < 8 by omega)]), ldE_tab _ _ _ (by omega) (by omega)]

theorem pack_tab (s : ℕ → Q4 F) (o : ℕ) (ho : o = 0 ∨ o = 16) (l : S16.Idx) : pack (tab s) o 16 l = (s ((o + (l 0).val) / 4)).get ((o + (l 0).val) % 4) (ix16 (o + (l 0).val)) := by
  have hl : (l 0).val < 16 := (l 0).isLt
  rw [pack_apply _ _ _ (le_refl _) _ hl, rowAt_tab _ _ (by omega)]
  refine congrArg _ (funext fun a => ?_)
  fin_cases a; apply Fin.ext; show (l 0).val = (o + (l 0).val) % 16; omega

/-- The tiles' results, all rows. -/
def tileOf (w : ℕ) : grid1.Coords := fun | 0 => ⟨w % 2, Nat.mod_lt _ (by decide)⟩ | 1 => ⟨w / 2 % 16, Nat.mod_lt _ (by decide)⟩

def scOut (x : S8x8192x2048.Idx → F .f32) (f : S2048.Idx → F .f32) : S32x32.Idx → F .f32 := fun y => res x f (tileOf (y 0).val) (y 1).val

theorem tileOf_eq (i : grid1.Coords) : tileOf (2 * (i 1).val + (i 0).val) = i := by
  have h0 : (i 0).val < 2 := (i 0).isLt
  have h1 : (i 1).val < 16 := (i 1).isLt
  funext a; fin_cases a <;> apply Fin.ext
  · show (2 * (i 1).val + (i 0).val) % 2 = (i 0).val; omega
  · show (2 * (i 1).val + (i 0).val) / 2 % 16 = (i 1).val; omega

/-- The two stores of the packed vectors, read back. -/
theorem res_read (cr : S32.Idx → F .f32) (v w : FVec F S16 .f32) (r : ℕ → F .f32) (hv : ∀ l : S16.Idx, v l = r (l 0).val) (hw : ∀ l : S16.Idx, w l = r (16 + (l 0).val)) (i0 i1) :
    (rvW).view.read (Elt F) ((rvW).view.writes (Elt F) cr [⟨Rect.unit (s := S32) ![16] S16.size i1, w⟩, ⟨Rect.unit (s := S32) ![0] S16.size i0, v⟩]) = fun p => r (p 0).val := by
  funext p
  have hp : (p 0).val < 32 := (p 0).isLt
  by_cases h : (p 0).val < 16
  · have k1 := View.read_writes_cons_miss_of_axis (Val := Elt F) (v := (rvW).view) (f := cr) ⟨Rect.unit (s := S32) ![16] S16.size i1, w⟩ [⟨Rect.unit (s := S32) ![0] S16.size i0, v⟩] p 0 16 16 rfl rfl rfl (.inl h)
    have k2 := View.read_writes_cons_hit_of_coords (Val := Elt F) (v := (rvW).view) (f := cr) (Rect.unit (s := S32) ![0] S16.size i0) v [] (ix16 (p 0).val) p
      (by intro a; fin_cases a; show (p 0).val = 0 + 1 * ((p 0).val % 16); omega)
    refine Eq.trans k1 (k2.trans ((hv _).trans ?_))
    exact congrArg r (Nat.mod_eq_of_lt h)
  · have k2 := View.read_writes_cons_hit_of_coords (Val := Elt F) (v := (rvW).view) (f := cr) (Rect.unit (s := S32) ![16] S16.size i1) w [⟨Rect.unit (s := S32) ![0] S16.size i0, v⟩] (ix16 (p 0).val) p
      (by intro a; fin_cases a; show (p 0).val = 16 + 1 * ((p 0).val % 16); omega)
    refine Eq.trans k2 ((hw _).trans ?_)
    refine congrArg r ?_
    show 16 + (p 0).val % 16 = (p 0).val; omega

/-- A tile's row, written whole with its results, holds what `scOut` says there. -/
theorem row_congr (x : S8x8192x2048.Idx → F .f32) (f : S2048.Idx → F .f32) (i : grid1.Coords) (o : S32x32.Idx → F .f32) (w : S32.Idx → F .f32) (hw : w = fun p => res x f i (p 0).val)
    (y : S32x32.Idx) (hy : y ∈ (oAt (k1_off54 i) (k1_off54_inb i)).view.set) :
    (oAt (k1_off54 i) (k1_off54_inb i)).view.writes (Elt F) o [⟨Rect.whole S32, w⟩] y = scOut x f y := by
  subst hw
  obtain ⟨p, -, rfl⟩ := Finset.mem_map.mp hy
  have h := congrFun (View.read_writes_whole (Val := Elt F) (oAt (k1_off54 i) (k1_off54_inb i)).view o (fun p => res x f i (p 0).val)) p
  have hp : (p 0).val < 32 := (p 0).isLt
  have h2 : (oAt (k1_off54 i) (k1_off54_inb i)).view.read (Elt F) (scOut x f) p = res x f i (p 0).val := by
    refine (congrFun (Memref.read_squeeze_slice (Val := Elt F) oW (Rect.unit (s := S32x32) (k1_off54 i) S1x32.size (k1_off54_inb i)) (fun _ => rfl) squeezes_S1x32_S32
      (show S1x32.ShapeCasts S32 by decide) (scOut x f)) p).trans ?_
    rw [shapeCast_dropUnit_apply (n := 1) ![32]]
    show res x f (tileOf (k1_off54 i 0 + 1 * 0)) (k1_off54 i 1 + 1 * (p 0).val) = _
    rw [k1_off54_eq, show ((![2 * (i 1).val + (i 0).val, 0] : Fin 2 → ℕ) 0 + 1 * 0) = 2 * (i 1).val + (i 0).val from rfl, tileOf_eq]
    refine congrArg _ ?_
    show 0 + 1 * (p 0).val = _; omega
  have h3 := h.trans h2.symm
  exact h3

set_option maxHeartbeats 2000000 in
theorem tile (d : Dev nD) (i : grid1.Coords) (x : S8x8192x2048.Idx → F .f32) (f : S2048.Idx → F .f32) (qa qb qe : PosShare TreeShare) (O : CellTallies nD τ sig (HIx 1)) (W : Waits sig (HIx 1)) (o : S32x32.Idx → F .f32) :
    iprop(Transfers.MayWaits (thr d i) (none : HIx 1) O
        ∗ ((xW).view.loc (thr d i) ↦{qa} x) ∗ ((xW).view.loc (thr d i) ↦{qb} x) ∗ ((eW).view.loc (thr d i) ↦{qe} f)
        ∗ ((oW).view.loc (thr d i) ↦[(oAt (k1_off54 i) (k1_off54_inb i)).view.set]{fullShare} o)
        ∗ (∃ c, (b0W).view.loc (thr d i) ↦{fullShare} c) ∗ (∃ c, (b1W).view.loc (thr d i) ↦{fullShare} c)
        ∗ (∃ c, (feW).view.loc (thr d i) ↦{fullShare} c) ∗ (∃ c, (rvW).view.loc (thr d i) ↦{fullShare} c) ∗ (∃ c, (exW).view.loc (thr d i) ↦{fullShare} c)
        ∗ semVal (thr d i, SemLoc.dma cc1_scratch5.sem) 0 ∗ semVal (thr d i, SemLoc.dma cc1_scratch6.sem) 0
        ∗ semVal (thr d i, SemLoc.dma cc1_scoped0.sem) 0 ∗ semVal (thr d i, SemLoc.dma cc1_scoped1.sem) 0 ∗ owes (thr d i) O W)
      ⊢ wp frame (wpE (defs₀ (F := F)) 𝒱₀ (thr d i) none) Set.univ
        (cc1_sc_extremes i xW (Memref.isWhole_whole _) eW (Memref.isWhole_whole _) oW (Memref.isWhole_whole _) b0W (Memref.isWhole_whole _) b1W (Memref.isWhole_whole _) feW (Memref.isWhole_whole _) rvW (Memref.isWhole_whole _) exW (Memref.isWhole_whole _) cc1_scratch5 cc1_scratch6 cc1_scoped0 cc1_scoped1)
        fun _ => (iprop(((xW).view.loc (thr d i) ↦{qa} x) ∗ ((xW).view.loc (thr d i) ↦{qb} x) ∗ ((eW).view.loc (thr d i) ↦{qe} f)
        ∗ ((oW).view.loc (thr d i) ↦[(oAt (k1_off54 i) (k1_off54_inb i)).view.set]{fullShare} scOut x f)
        ∗ (∃ c, (b0W).view.loc (thr d i) ↦{fullShare} c) ∗ (∃ c, (b1W).view.loc (thr d i) ↦{fullShare} c)
        ∗ (∃ c, (feW).view.loc (thr d i) ↦{fullShare} c) ∗ (∃ c, (rvW).view.loc (thr d i) ↦{fullShare} c) ∗ (∃ c, (exW).view.loc (thr d i) ↦{fullShare} c)
        ∗ semVal (thr d i, SemLoc.dma cc1_scratch5.sem) 0 ∗ semVal (thr d i, SemLoc.dma cc1_scratch6.sem) 0
        ∗ semVal (thr d i, SemLoc.dma cc1_scoped0.sem) 0 ∗ semVal (thr d i, SemLoc.dma cc1_scoped1.sem) 0
        ∗ ∃ W', ⌜∀ p ∈ W', p ∈ W ∨ p.2 = none⌝ ∗ owes (thr d i) O W') : sProp 𝕄) := by
  rw [cc1_sc_extremes_eq_skeleton]
  unfold cc1_sc_extremes_skel
  rw [k1_part43_eq_skeleton, k1_part44_eq_skeleton, k1_part45_eq_skeleton, k1_part46_eq_skeleton, k1_part47_eq_skeleton, k1_part48_eq_skeleton,
    k1_part49_eq_skeleton, k1_part50_eq_skeleton, k1_part51_eq_skeleton, k1_part52_eq_skeleton, k1_part53_eq_skeleton]
  iintro ⟨#Hmw, Hxa, Hxb, Heg, Ho, ⟨%c0, Hb0⟩, ⟨%c1, Hb1⟩, ⟨%cf, Hf⟩, ⟨%cr, Hr⟩, ⟨%ce, He⟩, Hs0, Hs1, Ht0, Ht1, HO⟩
  sl_exec (disch := exact View.amount_pos _ _ (show 0 < S16x2048.numel by decide))
  have hfill : Filled ((exW).view.writes (Elt F) (exW).view.junk (tile.sl.He_32 (F := F))) 8 :=
    filled_step _ _ 7 (filled_step _ _ 6 (filled_step _ _ 5 (filled_step _ _ 4 (filled_step _ _ 3 (filled_step _ _ 2 (filled_step _ _ 1 (filled_step _ [] 0
      (fun _ h => absurd h (Nat.not_lt_zero _)) shapeCasts_S16_S1x1x16 _ _ _ _) shapeCasts_S16_S1x1x16 _ _ _ _) shapeCasts_S16_S1x1x16 _ _ _ _)
      shapeCasts_S16_S1x1x16 _ _ _ _) shapeCasts_S16_S1x1x16 _ _ _ _) shapeCasts_S16_S1x1x16 _ _ _ _) shapeCasts_S16_S1x1x16 _ _ _ _) shapeCasts_S16_S1x1x16 _ _ _ _
  have hex : ((exW).view.writes (Elt F) (exW).view.junk (tile.sl.He_32 (F := F))) = tab (stAt x f i 0) := funext fun y => hfill y (y 0).isLt
  sl_for (Inv d i x f qa qb O (insert (SemLoc.dma cc1_scoped0.sem, (none : HIx 1)) W)) $$ [Hmw Hxa Hxb Hb1 Hs0 Hs1 Hf He HO]
  case region =>
    intro k u
    exact trip d i k _ _ _ x f qa qb O _ u
  · unfold Inv
    isplitr; · iexact Hmw
    isplitl [Hxa Hxb Hb1 Hs0 Hs1]
    · have e0 : Flow d i x qa qb 0 = iprop((FL d i cc1_scratch5.sem b0W (chunk x i 0) x qa 0 (Nat.lt_of_sub_eq_succ (rfl : 24 - 0 = 23 + 1)) ∗ (((xW).view.loc (thr d i) ↦[xSet i 0 (Nat.lt_of_sub_eq_succ (rfl : 24 - 0 = 23 + 1))]{qa} x) -∗ ((xW).view.loc (thr d i) ↦{qa} x))) ∗ (∃ c, (b1W).view.loc (thr d i) ↦{fullShare} c) ∗ semVal (thr d i, SemLoc.dma cc1_scratch6.sem) 0 ∗ ((xW).view.loc (thr d i) ↦{qb} x)) := rfl
      rw [e0]
      isplitl [Hxa Hs0]
      · iapply (fly_of d i cc1_scratch5.sem b0W (View.write (Elt F) (b0W).view c0 ((xAt (k1_off1 i) (k1_off1_inb i)).view.read (Elt F) x) Finset.univ) (chunk x i 0) x qa 0 (Nat.lt_of_sub_eq_succ (rfl : 24 - 0 = 23 + 1)) (k1_off1_inb i) (k1_off1_eq i)
          ((View.write_whole_univ _ _ _).trans (win_read x (k1_off1_inb i) i 0 (Nat.lt_of_sub_eq_succ (rfl : 24 - 0 = 23 + 1)) (k1_off1_eq i))))
        isplitl [Hs0]; · iexact Hs0
        iexact Hxa
      isplitl [Hb1]; · iexists _; iexact Hb1
      isplitl [Hs1]; · iexact Hs1
      iexact Hxb
    isplitl [Hf]
    · iapply (pts_eq (g := View.write (Elt F) (feW).view cf ((eW).view.read (Elt F) f) Finset.univ) (g' := f) (View.write_whole_univ _ _ _)) $$ Hf
    isplitl [He]
    · iapply (pts_eq hex) $$ He
    iexists (insert (SemLoc.dma cc1_scoped0.sem, (none : HIx 1)) W)
    isplitr; · ipureintro; exact fun p hp => .inl hp
    iexact HO
  iintro %_ HI
  have e1 : Inv d i x f qa qb O (insert (SemLoc.dma cc1_scoped0.sem, (none : HIx 1)) W) (Scf.trips k1_t1_loop.lb k1_t1_loop.ub k1_t1_loop.st) PUnit.unit
    = iprop(Transfers.MayWaits (thr d i) (none : HIx 1) O ∗ (Idle d i cc1_scratch6.sem b1W x qb ∗ Idle d i cc1_scratch5.sem b0W x qa)
      ∗ ((feW).view.loc (thr d i) ↦{fullShare} f) ∗ ((exW).view.loc (thr d i) ↦{fullShare} tab (stAt x f i 24))
      ∗ ∃ W', ⌜∀ p ∈ W', p ∈ (insert (SemLoc.dma cc1_scoped0.sem, (none : HIx 1)) W) ∨ p.2 = none⌝ ∗ owes (thr d i) O W') := by
    rw [show Scf.trips k1_t1_loop.lb k1_t1_loop.ub k1_t1_loop.st = 24 from trips1]; rfl
  clear hfill hex
  ihave HI' := (Entails.of_eq e1) $$ HI
  icases HI' with ⟨-, ⟨HI1, HI0⟩, Hf, He, %W', %hW, HO⟩
  have eo : ((oW).view.loc (thr d i) ↦[(oAt (k1_off54 i) (k1_off54_inb i)).view.set]{fullShare} o : sProp 𝕄)
    = ((((oW).slice (Rect.unit (s := S32x32) (k1_off54 i) S1x32.size (k1_off54_inb i)) (fun _ => rfl)).squeeze S32 squeezes_S1x32_S32).view.loc (thr d i)
        ↦[(((oW).slice (Rect.unit (s := S32x32) (k1_off54 i) S1x32.size (k1_off54_inb i)) (fun _ => rfl)).squeeze S32 squeezes_S1x32_S32).view.set]{fullShare} o) := rfl
  ihave Ho' := (Entails.of_eq eo) $$ Ho
  clear eo e1
  sl_exec (disch := exact View.amount_pos _ _ (show 0 < S32.numel by decide))
  have h6 : tile.sl.r_6 i x f = pack (tab (stAt x f i 24)) 0 16 := rfl
  have h7 : k1_pay2 (tile.sl.v4) (tile.sl.r_10 i x f)
      (View.readAt (Elt F) (exW).view (Rect.unit (s := S8x4x16) ![7, 2, 0] S1x1x16.size inb_S8x4x16_S1x1x16_7_2_0).toLoadRect (tab (stAt x f i 24)))
      (View.readAt (Elt F) (exW).view (Rect.unit (s := S8x4x16) ![7, 3, 0] S1x1x16.size inb_S8x4x16_S1x1x16_7_3_0).toLoadRect (tab (stAt x f i 24)))
    = shapeCast S16 (pack (tab (stAt x f i 24)) 16 16) shapeCasts_S16_S16 := rfl
  have hd : tile.sl.dma36 d i x f cr = fun p => res x f i (p 0).val := by
    refine Eq.trans ?_ (res_read cr (shapeCast S16 (pack (tab (stAt x f i 24)) 0 16) shapeCasts_S16_S16) (shapeCast S16 (pack (tab (stAt x f i 24)) 16 16) shapeCasts_S16_S16) (res x f i)
      (fun l => ?_) (fun l => ?_) inb_S32_S16_0 inb_S32_S16_16)
    · rfl
    · rw [shapeCast_self, pack_tab _ _ (.inl rfl), Nat.zero_add]; rfl
    · rw [shapeCast_self, pack_tab _ _ (.inr rfl)]; rfl
  unfold Idle
  icases HI0 with ⟨HB0, HS0, HX0⟩
  icases HI1 with ⟨HB1, HS1, HX1⟩
  have hW' : ∀ p ∈ (insert (SemLoc.dma ⟨7, by decide⟩, (default : HIx 1)) W' : Waits sig (HIx 1)), p ∈ W ∨ p.2 = none := by
    intro p hp
    rcases Finset.mem_insert.mp hp with rfl | hp
    · exact .inr rfl
    · rcases hW p hp with h | h
      · rcases Finset.mem_insert.mp h with rfl | h
        · exact .inr rfl
        · exact .inl h
      · exact .inr h
  rw [wp_ret]; imodintro
  isplitl [HX0]; · iexact HX0
  isplitl [HX1]; · iexact HX1
  isplitl [Heg]; · iexact Heg
  isplitl [Ho']
  · iapply (Entails.of_eq (pointsTo_congr (row_congr x f i o _ hd))) $$ Ho'
  isplitl [HB0]; · iexact HB0
  isplitl [HB1]; · iexact HB1
  isplitl [Hf]; · iexists _; iexact Hf
  isplitl [Hr]; · iexists _; iexact Hr
  isplitl [He]; · iexists _; iexact He
  isplitl [HS0]; · iexact HS0
  isplitl [HS1]; · iexact HS1
  isplitl [Ht0]; · iexact Ht0
  isplitl [Ht1]; · iexact Ht1
  iexists _
  isplitr; · ipureintro; exact hW'
  iexact HO

end Cert.Proof.Ext
-- ==== Proof.TileObl.lean ====
/-
  The tile kernel as the launch theorem wants it: what the call hands each SparseCore and each vector subcore (read shares
  of `x` and of the embedding, its own row of the result), what comes back, and how the rows and shares split and join.
-/
module

public import proofs.«01_k».proof.Proof.TileBody

@[expose] public section

set_option maxRecDepth 16384

noncomputable section

namespace Cert.Proof.Ext

open Cert.KernelIdeal Cert.KernelIdeal.Gen

open Idealize.ShloMosaic
open Idealize.ShloMosaic.SparseCore (S V T)
open Idealize.ShloMosaic.Transfers
open Idealize.ShloMosaic.SparseCore.Cfg (HIx Pay ownCells ownRefs ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "oW" => (Memref.whole main_v8_scv : Memref Cert.KernelIdeal.sig Kind.scVector Space.hbm S32x32 EltTy.f32)

/-! ## A vector subcore's own storage -/

def scr : Fin 5 → Ref sig .scVector := ![cc1_scratch0, cc1_scratch1, cc1_scratch2, cc1_scratch3, cc1_scratch4]
def ssem : Fin 4 → SemLoc sig := ![.dma cc1_scratch5.sem, .dma cc1_scratch6.sem, .dma cc1_scoped0.sem, .dma cc1_scoped1.sem]

theorem scr_inj : Function.Injective scr := by decide
theorem ssem_inj : Function.Injective ssem := by decide
theorem ssem_scoped : ∀ k, (ssem k).isScoped .scVector = true := by decide

theorem ownSems0_V (d : Dev nD) (i : grid1.Coords) : ∃ R : sProp 𝕄,
    (ownSems0 (thr d i) : sProp 𝕄) = iprop((semVal (thr d i, SemLoc.dma cc1_scratch5.sem) 0 ∗ semVal (thr d i, SemLoc.dma cc1_scratch6.sem) 0
        ∗ semVal (thr d i, SemLoc.dma cc1_scoped0.sem) 0 ∗ semVal (thr d i, SemLoc.dma cc1_scoped1.sem) 0) ∗ R) := by
  refine ⟨bigSep (ownCells (thr d i) \ Finset.univ.image fun k : Fin 4 => ((thr d i, ssem k) : GSem nD τ sig)) fun g => semVal g 0, ?_⟩
  unfold SparseCore.Cfg.ownSems0
  rw [SparseCore.bigSep_sdiff_split' (t := Finset.univ.image fun k : Fin 4 => ((thr d i, ssem k) : GSem nD τ sig))
      (Finset.image_subset_iff.mpr fun k _ => mem_ownCells.mpr ⟨rfl, ssem_scoped k⟩),
    SparseCore.bigSep_image_of_injOn (fun a _ b _ h => ssem_inj (congrArg Prod.snd h))]
  rw [show (Finset.univ : Finset (Fin 4)) = {0, 1, 2, 3} by decide, SparseCore.bigSep_insert' (by decide), SparseCore.bigSep_insert' (by decide),
    SparseCore.bigSep_insert' (by decide), bigSep_singleton]
  rfl

theorem ownBufs_V (d : Dev nD) (i : grid1.Coords) : ∃ R : sProp 𝕄,
    (ownBufs (thr d i) : sProp 𝕄) = iprop(((∃ f, (thr d i).loc cc1_scratch0 ↦{fullShare} f) ∗ (∃ f, (thr d i).loc cc1_scratch1 ↦{fullShare} f)
        ∗ (∃ f, (thr d i).loc cc1_scratch2 ↦{fullShare} f) ∗ (∃ f, (thr d i).loc cc1_scratch3 ↦{fullShare} f) ∗ (∃ f, (thr d i).loc cc1_scratch4 ↦{fullShare} f)) ∗ R) := by
  refine ⟨bigSep (ownRefs (thr d i).2 \ Finset.univ.image fun k : Fin 5 => (thr d i).2.devRef (scr k)) fun b => iprop(∃ f, (((thr d i).1, b) : Loc nD τ sig) ↦{fullShare} f), ?_⟩
  unfold SparseCore.Cfg.ownBufs
  rw [SparseCore.bigSep_sdiff_split' (t := Finset.univ.image fun k : Fin 5 => (thr d i).2.devRef (scr k))
      (Finset.image_subset_iff.mpr fun k _ => SparseCore.Cfg.mem_ownRefs_of_owner (p := (thr d i).2) (by fin_cases k <;> rfl)),
    SparseCore.bigSep_image_of_injOn (fun a _ b _ h => scr_inj (Proc.devRef_injective _ h))]
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

/-! ## The shares and the rows -/

/-- The vector subcore's number as the kernel's grid point. -/
def at2 (c i : ℕ) : grid1.Coords := fun | 0 => ⟨c % 2, Nat.mod_lt _ (by decide)⟩ | 1 => ⟨i % 16, Nat.mod_lt _ (by decide)⟩

abbrev qC (c : ℕ) : PosShare TreeShare := shareTokN fullShare c
abbrev qT (c i : ℕ) : PosShare TreeShare := shareTokN (qC c) i

/-- The tile's row of the result. -/
abbrev rowSet (c i : ℕ) : Finset S32x32.Idx := (oAt (k1_off54 (at2 c i)) (k1_off54_inb (at2 c i))).view.set

theorem mem_rowSet (c i : ℕ) (hc : c < 2) (hi : i < 16) (y : S32x32.Idx) : y ∈ rowSet c i ↔ (y 0).val = 2 * i + c := by
  have hs : rowSet c i = (Rect.unit (s := S32x32) (k1_off54 (at2 c i)) S1x32.size (k1_off54_inb (at2 c i))).set :=
    (View.set_reshape _ _).trans (View.set_slice_whole _ _)
  rw [hs, Rect.mem_set_unit, k1_off54_eq]
  have h0 : ((at2 c i) 0).val = c := Nat.mod_eq_of_lt hc
  have h1 : ((at2 c i) 1).val = i := Nat.mod_eq_of_lt hi
  rw [h0, h1]
  have hy : (y 1).val < 32 := (y 1).isLt
  constructor
  · intro h
    have := h 0
    have e : (![2 * i + c, 0] : Fin 2 → ℕ) 0 = 2 * i + c := rfl
    have e' : S1x32.size 0 = 1 := rfl
    rw [e, e'] at this; omega
  · intro h a
    fin_cases a
    · show 2 * i + c ≤ (y 0).val ∧ (y 0).val < 2 * i + c + 1; omega
    · show 0 ≤ (y 1).val ∧ (y 1).val < 0 + 32; omega

/-- The result whole is its 32 rows. -/
theorem rows_eq (d : Dev nD) (o : S32x32.Idx → F .f32) :
    (oLoc d ↦{fullShare} o : sProp 𝕄) = bigSep Finset.univ fun c : Fin 2 => bigSep Finset.univ fun i : Fin 16 => oLoc d ↦[rowSet c.val i.val]{fullShare} o := by
  rw [← bigSep_univ_prod fun p : Fin 2 × Fin 16 => (oLoc d ↦[rowSet p.1.val p.2.val]{fullShare} o : sProp 𝕄),
    ← pointsTo_biUnion Finset.univ (ℓ := oLoc d) (fun p : Fin 2 × Fin 16 => rowSet p.1.val p.2.val)
      (fun p _ q _ h => Finset.disjoint_left.mpr fun y hp hq => h (by
        have h1 := (mem_rowSet _ _ p.1.isLt p.2.isLt y).mp hp
        have h2 := (mem_rowSet _ _ q.1.isLt q.2.isLt y).mp hq
        have := p.1.isLt; have := q.1.isLt
        exact Prod.ext (Fin.ext (by omega)) (Fin.ext (by omega))))]
  refine congrArg (fun I => (oLoc d ↦[I]{fullShare} o : sProp 𝕄)) ?_
  refine (Finset.eq_univ_iff_forall.mpr fun y => ?_).symm
  have hy : (y 0).val < 32 := (y 0).isLt
  exact Finset.mem_biUnion.mpr ⟨(⟨(y 0).val % 2, Nat.mod_lt _ (by decide)⟩, ⟨(y 0).val / 2, by omega⟩), Finset.mem_univ _,
    (mem_rowSet _ _ (Nat.mod_lt _ (by decide)) (by omega) y).mpr (by show (y 0).val = 2 * ((y 0).val / 2) + (y 0).val % 2; omega)⟩

variable (x : Dev nD → S8x8192x2048.Idx → F .f32) (f : Dev nD → S2048.Idx → F .f32)

def goT (d : Dev nD) (c i : ℕ) : sProp 𝕄 :=
  iprop((xLoc d ↦{qT c i} x d) ∗ (eLoc d ↦{qT c i} f d) ∗ ∃ o, oLoc d ↦[rowSet c i]{fullShare} o)
def tdT (d : Dev nD) (c i : ℕ) : sProp 𝕄 :=
  iprop((xLoc d ↦{qT c i} x d) ∗ (eLoc d ↦{qT c i} f d) ∗ oLoc d ↦[rowSet c i]{fullShare} scOut (x d) (f d))
def stC (d : Dev nD) (c : ℕ) : sProp 𝕄 :=
  iprop((xLoc d ↦{qC c} x d) ∗ (eLoc d ↦{qC c} f d) ∗ bigSep Finset.univ fun i : Fin 16 => iprop(∃ o, oLoc d ↦[rowSet c i.val]{fullShare} o))
def dnC (d : Dev nD) (c : ℕ) : sProp 𝕄 :=
  iprop((xLoc d ↦{qC c} x d) ∗ (eLoc d ↦{qC c} f d) ∗ bigSep Finset.univ fun i : Fin 16 => iprop(oLoc d ↦[rowSet c i.val]{fullShare} scOut (x d) (f d)))

instance (d : Dev nD) (c i : ℕ) : BI.Storable (upEmb : UEmb _ 𝕄) (goT x f d c i) := by unfold goT; infer_instance
instance (d : Dev nD) (c i : ℕ) : BI.Storable (upEmb : UEmb _ 𝕄) (tdT x f d c i) := by unfold tdT; infer_instance
instance (d : Dev nD) (c : ℕ) : BI.Storable (upEmb : UEmb _ 𝕄) (stC x f d c) := by unfold stC; infer_instance
instance (d : Dev nD) (c : ℕ) : BI.Storable (upEmb : UEmb _ 𝕄) (dnC x f d c) := by unfold dnC; infer_instance

/-- What the call's handshakes carry. -/
def P : (K (F := F)).Pay (nD := nD) (Val := Elt F) (Name := ℕ) (U := UU) where
  st := fun _ d c => stC x f d c.val
  dn := fun _ d c => dnC x f d c.val
  go := fun _ d c i => goT x f d c.val i.val
  td := fun _ d c i => tdT x f d c.val i.val
  x := fun _ _ => iprop(emp)

instance P_storable : (P x f).IsStorable where
  st _ d c := by unfold P; infer_instance
  dn _ d c := by unfold P; infer_instance
  go _ d c i := by unfold P; infer_instance
  td _ d c i := by unfold P; infer_instance

omit [FloatOps F] in
theorem rowAny (d : Dev nD) (o : S32x32.Idx → F .f32) (c i : ℕ) :
    (oLoc d ↦[rowSet c i]{fullShare} o : sProp 𝕄) ⊢ iprop(∃ o, oLoc d ↦[rowSet c i]{fullShare} o) := by
  iintro H; iexists o; iexact H

/-- What the call takes for both SparseCores: read shares of the two inputs and the result. -/
theorem st0_of (d : Dev nD) (o : S32x32.Idx → F .f32) :
    iprop((bigSep Finset.univ fun c : Fin 2 => xLoc d ↦{shareTok fullShare 2 c} x d) ∗ (bigSep Finset.univ fun c : Fin 2 => eLoc d ↦{shareTok fullShare 2 c} f d) ∗ oLoc d ↦{fullShare} o)
      ⊢ (bigSep Finset.univ fun c : Fin ((K (F := F)).nCore 0) => (P x f).st 0 d c : sProp 𝕄) := by
  show _ ⊢ bigSep Finset.univ fun c : Fin 2 => stC x f d c.val
  unfold stC
  rw [rows_eq, bigSep_sep', bigSep_sep']
  iintro ⟨Hx, He, Ho⟩
  isplitl [Hx]; · iexact Hx
  isplitl [He]; · iexact He
  iapply (show (bigSep Finset.univ fun c : Fin 2 => bigSep Finset.univ fun i : Fin 16 => (oLoc d ↦[rowSet c.val i.val]{fullShare} o : sProp 𝕄))
      ⊢ bigSep Finset.univ fun c : Fin 2 => bigSep Finset.univ fun i : Fin 16 => iprop(∃ o, oLoc d ↦[rowSet c.val i.val]{fullShare} o) from
    bigSep_mono fun c _ => bigSep_mono fun i _ => rowAny d o c.val i.val)
  iexact Ho

/-- What it hands back. -/
theorem dn0_of (d : Dev nD) :
    (bigSep Finset.univ fun c : Fin ((K (F := F)).nCore 0) => (P x f).dn 0 d c : sProp 𝕄)
      = iprop((bigSep Finset.univ fun c : Fin 2 => xLoc d ↦{shareTok fullShare 2 c} x d) ∗ (bigSep Finset.univ fun c : Fin 2 => eLoc d ↦{shareTok fullShare 2 c} f d)
        ∗ oLoc d ↦{fullShare} scOut (x d) (f d)) := by
  show (bigSep Finset.univ fun c : Fin 2 => dnC x f d c.val) = _
  unfold dnC
  rw [rows_eq, bigSep_sep', bigSep_sep']

theorem vecSplit : (K (F := F)).VecSplit' (P x f) 0 := by
  intro d c
  show stC x f d c.val ⊢ |={Set.univ}=> iprop((bigSep Finset.univ fun i : Fin 16 => goT x f d c.val i.val)
      ∗ ((bigSep Finset.univ fun i : Fin 16 => tdT x f d c.val i.val) -∗ dnC x f d c.val))
  unfold stC goT tdT dnC
  rw [bigSep_sep', bigSep_sep', bigSep_sep', bigSep_sep']
  iintro ⟨Hx, He, Ho⟩
  ihave Hx := (pointsTo_toks_split (qC c.val) 16) $$ Hx
  ihave He := (pointsTo_toks_split (qC c.val) 16) $$ He
  icases Hx with ⟨Hxr, Hx⟩
  icases He with ⟨Her, He⟩
  imodintro
  isplitl [Hx He Ho]
  · isplitl [Hx]; · iexact Hx
    isplitl [He] <;> iassumption
  iintro ⟨Hx, He, Ho⟩
  isplitl [Hx Hxr]
  · iapply (pointsTo_toks_join (qC c.val) 16); isplitl [Hxr] <;> iassumption
  isplitl [He Her]
  · iapply (pointsTo_toks_join (qC c.val) 16); isplitl [Her] <;> iassumption
  iexact Ho

/-- One vector subcore's task, from the launch's shares and storage. -/
theorem tile_body (d : Dev nD) (c i : ℕ) (O : CellTallies nD τ sig (HIx 1)) (W : Waits sig (HIx 1)) (hO : ∀ g, O g none = 0) :
    iprop(levAts (K (F := F)).L (K (F := F)).lev ∗ emp ∗ goT x f d c i ∗ scopedBufs (thr d (at2 c i)) ∗ scopedSems0 (thr d (at2 c i)) ∗ owes (thr d (at2 c i)) O W)
      ⊢ wp frame (wpE (defs₀ (F := F)) 𝒱₀ (thr d (at2 c i)) none) Set.univ
        (cc1_sc_extremes (at2 c i) (Memref.whole main_arg0_scv) (Memref.isWhole_whole _) (Memref.whole main_arg1_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1)
        fun _ => iprop(tdT x f d c i ∗ scopedBufs (thr d (at2 c i)) ∗ scopedSems0 (thr d (at2 c i)) ∗ ∃ W', ⌜∀ p ∈ W', p ∈ W ∨ p.2 = none ∨ p.2 = some (0 : Fin 1)⌝ ∗ owes (thr d (at2 c i)) O W') := by
  obtain ⟨RS, hRS⟩ := ownSems0_V (F := F) d (at2 c i)
  obtain ⟨RB, hRB⟩ := ownBufs_V (F := F) d (at2 c i)
  rw [(K (F := F)).scopedBufs_V facts d _ _, SparseCore.Cfg.scopedSems0_V (Val := Elt F) d _ _, hRS, hRB]
  unfold goT tdT
  iintro ⟨#Hlv, -, ⟨Hx, He, %o, Ho⟩, ⟨⟨H0, H1, H2, H3, H4⟩, HB⟩, ⟨⟨S0, S1, S2, S3⟩, HS⟩, HO⟩
  ihave Hmw := (show levAts (K (F := F)).L (K (F := F)).lev ⊢ Transfers.MayWaits (thr d (at2 c i)) (none : HIx 1) O from
    (K (F := F)).mayWaits_none (thr := thr d (at2 c i)) hO) $$ Hlv
  ihave Hx := (pointsTo_toks_split (qT c i) 1) $$ Hx
  rw [bigSep_univ_of_subsingleton (0 : Fin 1)]
  icases Hx with ⟨Hxa, Hxb⟩
  iapply (wp_wand_r Idealize.ShloMosaic.frame (wpE (defs₀ (F := F)) 𝒱₀ (thr d (at2 c i)) none) Set.univ)
  isplitl [Hmw Hxa Hxb He Ho H0 H1 H2 H3 H4 S0 S1 S2 S3 HO]
  · iapply (tile d (at2 c i) (x d) (f d) (shareDrop (qT c i) 1) (shareTok (qT c i) 1 0) (qT c i) O W o)
    isplitl [Hmw]; · iexact Hmw
    isplitl [Hxa]; · iexact Hxa
    isplitl [Hxb]; · iexact Hxb
    isplitl [He]; · iexact He
    isplitl [Ho]; · iexact Ho
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iexact HO
  iintro %_ ⟨Hxa, Hxb, He, Ho, H0, H1, H2, H3, H4, S0, S1, S2, S3, %W', %hW', HO⟩
  isplitl [Hxa Hxb He Ho]
  · isplitl [Hxa Hxb]
    · iapply (pointsTo_toks_join (qT c i) 1)
      rw [bigSep_univ_of_subsingleton (0 : Fin 1)]
      isplitl [Hxa] <;> iassumption
    isplitl [He]; · iexact He
    iexact Ho
  isplitl [H0 H1 H2 H3 H4 HB]
  · isplitr [HB]; swap; · iexact HB
    isplitl [H0]; · iexact H0
    isplitl [H1]; · iexact H1
    isplitl [H2]; · iexact H2
    isplitl [H3]; · iexact H3
    iexact H4
  isplitl [S0 S1 S2 S3 HS]
  · isplitr [HS]; swap; · iexact HS
    isplitl [S0]; · iexact S0
    isplitl [S1]; · iexact S1
    isplitl [S2] <;> iassumption
  iexists W'; isplitr; swap; · iexact HO
  ipureintro; exact fun p hp => (hW' p hp).imp_right Or.inl

theorem at2_eq (L : grid1.Coords) : at2 (L 0).val (L 1).val = L := by
  funext a; fin_cases a <;> apply Fin.ext
  · exact Nat.mod_eq_of_lt (L 0).isLt
  · exact Nat.mod_eq_of_lt (L 1).isLt

theorem tile_at (d : Dev nD) (L : grid1.Coords) (O : CellTallies nD τ sig (HIx 1)) (W : Waits sig (HIx 1)) (hO : ∀ g, O g none = 0) :
    iprop(levAts (K (F := F)).L (K (F := F)).lev ∗ emp ∗ goT x f d (L 0).val (L 1).val ∗ scopedBufs (thr d L) ∗ scopedSems0 (thr d L) ∗ owes (thr d L) O W)
      ⊢ wp frame (wpE (defs₀ (F := F)) 𝒱₀ (thr d L) none) Set.univ
        (cc1_sc_extremes L (Memref.whole main_arg0_scv) (Memref.isWhole_whole _) (Memref.whole main_arg1_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1)
        fun _ => iprop(tdT x f d (L 0).val (L 1).val ∗ scopedBufs (thr d L) ∗ scopedSems0 (thr d L) ∗ ∃ W', ⌜∀ p ∈ W', p ∈ W ∨ p.2 = none ∨ p.2 = some (0 : Fin 1)⌝ ∗ owes (thr d L) O W') := by
  have h := tile_body x f d (L 0).val (L 1).val O W hO
  rw [at2_eq] at h
  exact h

theorem defs₀_vector (c : Fin τ.nSC) (s : Fin τ.nSub) :
    defs₀ (F := F) (.scVector c s) 1 ()
      = SparseCore.onTile hcore1 hsub1 (fun c s => cc1_sc_extremes (fun | 0 => c | 1 => s | ⟨_ + 2, h⟩ => absurd h (Nat.not_lt.2 (Nat.le_add_left _ _))) (Memref.whole main_arg0_scv) (Memref.isWhole_whole _) (Memref.whole main_arg1_scv) (Memref.isWhole_whole _) (Memref.whole main_v8_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 cc1_scoped1) ⟨⟩ c s := rfl

theorem tileObl : (K (F := F)).TileObl (D (F := F)) 𝒱 (P x f) v₀ 0 := by
  intro d c i O W hO _ _
  simp only [show (P x f).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_at x f d (fun | 0 => ⟨_, hci.1⟩ | 1 => ⟨_, hci.2⟩ | ⟨_ + 2, h⟩ => absurd h (Nat.not_lt.2 (Nat.le_add_left _ _))) O W hO

end Cert.Proof.Ext
-- ==== Proof.TcBody.lean ====
module
public import proofs.«01_k».proof.Proof.Setup
public import proofs.«01_k».proof.Proof.Gen.KernelIdeal.Points
public import Idealize.ShloMosaic.Lib.Pointwise
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ
local notation "smW" => (Memref.whole cc0_scratch0 : Memref Cert.KernelIdeal.sig Kind.tc Space.smem S8x4 EltTy.f32)

theorem k0_cond1_iff : ∀ i : grid0.Coords, k0_cond1 i = 1#1 ↔ (i 1).val = 0 := by decide +kernel
theorem k0_cond2_iff : ∀ i : grid0.Coords, k0_cond2 i = 1#1 ↔ (i 0).val = 7 ∧ (i 1).val = 3 := by decide +kernel

abbrev TT (c : Dev nD) : Thread nD τ := T c

abbrev Bf (c : Dev nD) {sp : Space} {S : Shape} {e : EltTy} (M : Memref Cert.KernelIdeal.sig .tc sp S e) : Type := Buf (Elt F) (M.view.loc (TT c))

/-! ## One batch's four running extremes as scalars -/

@[ext] structure E4 (F : FTy → Type) where
  s1 : F .f32
  s2 : F .f32
  a2 : F .f32
  a1 : F .f32

def E4.get (q : E4 F) : ℕ → F .f32
  | 0 => q.s1
  | 1 => q.s2
  | 2 => q.a2
  | _ => q.a1

/-- The extremes of nothing. -/
def e0 : E4 F := ⟨Scalar.ofBits .f32 0x7F800000#32, Scalar.ofBits .f32 0x7F800000#32, Scalar.ofBits .f32 0xFF800000#32, Scalar.ofBits .f32 0xFF800000#32⟩

/-- Two sets' extremes merged. -/
def E4.merge (q c : E4 F) : E4 F where
  s1 := Scalar.minimumf q.s1 c.s1
  s2 := Scalar.minimumf (Scalar.maximumf q.s1 c.s1) (Scalar.minimumf q.s2 c.s2)
  a2 := Scalar.maximumf (Scalar.minimumf q.a1 c.a1) (Scalar.maximumf q.a2 c.a2)
  a1 := Scalar.maximumf q.a1 c.a1

/-- The row of a chunk's products reduced to its largest, its least entry, its sum. -/
def rmax (v : FVec F S1x1664 .f32) : F .f32 := extractAt ![0, 0, 0] (shapeCast S1x1x1 (multiReduction .maximumf [1, 2] S1 (shapeCast S1x1x1664 v shapeCasts_S1x1664_S1x1x1664) 0xFF800000#32 reduces_S1x1x1664_S1 (.inl rfl) rfl) shapeCasts_S1_S1x1x1) inpos_S1x1x1_p0_0_0
def rmin (v : FVec F S1x1664 .f32) : F .f32 := extractAt ![0, 0, 0] (shapeCast S1x1x1 (multiReduction .minimumf [1, 2] S1 (shapeCast S1x1x1664 v shapeCasts_S1x1664_S1x1x1664) 0x7F800000#32 reduces_S1x1x1664_S1 (.inl rfl) rfl) shapeCasts_S1_S1x1x1) inpos_S1x1x1_p0_0_0
def rsum (v : FVec F S1x1664 .f32) : F .f32 := extractAt ![0, 0, 0] (shapeCast S1x1x1 (multiReduction .add [1, 2] S1 (shapeCast S1x1x1664 v shapeCasts_S1x1664_S1x1x1664) 0x00000000#32 reduces_S1x1x1664_S1 (.inl rfl) rfl) shapeCasts_S1_S1x1x1) inpos_S1x1x1_p0_0_0

/-- How many entries equal `m`, as a float. -/
def ties (v : FVec F S1x1664 .f32) (m : F .f32) : F .f32 :=
  rsum (select (cmpf .oeq v (broadcast S1x1664 m)) (broadcast S1x1664 (Scalar.ofBits .f32 0x3F800000#32)) (broadcast S1x1664 (Scalar.ofBits .f32 0x00000000#32)))

/-- A chunk's extremes: the second of each side is the first again if two entries attain it. -/
def ext4 (v : FVec F S1x1664 .f32) : E4 F where
  s1 := rmin v
  s2 := Scalar.select (Scalar.cmpf .oge (ties v (rmin v)) (Scalar.ofBits .f32 0x40000000#32)) (rmin v)
    (rmin (select (cmpf .oeq v (broadcast S1x1664 (rmin v))) (broadcast S1x1664 (Scalar.ofBits .f32 0x7F800000#32)) v))
  a2 := Scalar.select (Scalar.cmpf .oge (ties v (rmax v)) (Scalar.ofBits .f32 0x40000000#32)) (rmax v)
    (rmax (select (cmpf .oeq v (broadcast S1x1664 (rmax v))) (broadcast S1x1664 (Scalar.ofBits .f32 0xFF800000#32)) v))
  a1 := rmax v

/-! ## The running extremes' table -/

def ixS (b j : ℕ) : S8x4.Idx := fun | 0 => ⟨b % 8, Nat.mod_lt _ (by decide)⟩ | 1 => ⟨j % 4, Nat.mod_lt _ (by decide)⟩

theorem ixS_self (y : S8x4.Idx) : y = ixS (y 0).val (y 1).val := by
  have h0 : (y 0).val < 8 := (y 0).isLt
  have h1 : (y 1).val < 4 := (y 1).isLt
  funext a
  fin_cases a <;> apply Fin.ext
  · show (y 0).val = (y 0).val % 8; omega
  · show (y 1).val = (y 1).val % 4; omega

/-- One word of the table. -/
def rdS (off : Fin 2 → ℕ) (inb : ∀ a, off a + S1x1.size a ≤ S8x4.size a) (g : S8x4.Idx → F .f32) : F .f32 :=
  (smW).view.readAt (Elt F) (Rect.unit (s := S8x4) off S1x1.size inb).toLoadRect g (Shape.Idx.first (show 0 < (Rect.unit (s := S8x4) off S1x1.size inb).shape.numel by show 0 < 1 * (1 * 1); decide))

theorem rdS_eq (off : Fin 2 → ℕ) (inb) (g : S8x4.Idx → F .f32) (b j : ℕ) (h : off = ![b, j]) : rdS off inb g = g (ixS b j) := by
  subst h
  have h0 := inb 0; have h1 := inb 1
  have h0' : b + 1 ≤ 8 := h0
  have h1' : j + 1 ≤ 4 := h1
  refine congrArg g (funext fun a => ?_)
  fin_cases a <;> apply Fin.ext
  · show b + 1 * 0 = b % 8; omega
  · show j + 1 * 0 = j % 4; omega

/-- The table with row `b` replaced. -/
def setRow (g : S8x4.Idx → F .f32) (b : ℕ) (q : E4 F) : S8x4.Idx → F .f32 := fun y => if (y 0).val = b then q.get (y 1).val else g y

theorem setRow_setRow (g : S8x4.Idx → F .f32) (b : ℕ) (q q' : E4 F) : setRow (setRow g b q) b q' = setRow g b q' := by
  funext y; unfold setRow; split <;> simp [*]

theorem setRow_get (g : S8x4.Idx → F .f32) (b j : ℕ) (hb : b < 8) (hj : j < 4) (q : E4 F) : setRow g b q (ixS b j) = q.get j := by
  show (if b % 8 = b then q.get (j % 4) else _) = _
  rw [if_pos (by omega), Nat.mod_eq_of_lt hj]

/-- One store over the row, read at a word of it or elsewhere. -/
theorem put_miss (g : S8x4.Idx → F .f32) (L : List (View.Piece (Elt F) S8x4 .f32)) (b j : ℕ) (off : Fin 2 → ℕ) (inb) (h : off = ![b, j]) (v : F .f32) (y : S8x4.Idx) (hy : (y 0).val ≠ b ∨ (y 1).val ≠ j) :
    (smW).view.writes (Elt F) g (⟨Rect.unit (s := S8x4) off S1x1.size inb, fun _ => v⟩ :: L) y = (smW).view.writes (Elt F) g L y := by
  subst h
  rcases hy with hy | hy
  · have k := View.read_writes_cons_miss_of_axis (Val := Elt F) (v := (smW).view) (f := g) ⟨Rect.unit (s := S8x4) ![b, j] S1x1.size inb, fun _ => v⟩ L y 0 b 1 rfl rfl rfl (by omega)
    exact k
  · have k := View.read_writes_cons_miss_of_axis (Val := Elt F) (v := (smW).view) (f := g) ⟨Rect.unit (s := S8x4) ![b, j] S1x1.size inb, fun _ => v⟩ L y 1 j 1 rfl rfl rfl (by omega)
    exact k

theorem put_hit (g : S8x4.Idx → F .f32) (L : List (View.Piece (Elt F) S8x4 .f32)) (b j : ℕ) (off : Fin 2 → ℕ) (inb) (h : off = ![b, j]) (v : F .f32) (y : S8x4.Idx) (h0 : (y 0).val = b) (h1 : (y 1).val = j) :
    (smW).view.writes (Elt F) g (⟨Rect.unit (s := S8x4) off S1x1.size inb, fun _ => v⟩ :: L) y = v := by
  subst h
  have k := View.read_writes_cons_hit_of_coords (Val := Elt F) (v := (smW).view) (f := g) (Rect.unit (s := S8x4) ![b, j] S1x1.size inb) (fun _ => v) L (fun | 0 => ⟨0, Nat.zero_lt_one⟩ | 1 => ⟨0, Nat.zero_lt_one⟩) y
    (by intro a; fin_cases a
        · show (y 0).val = b + 1 * 0; omega
        · show (y 1).val = j + 1 * 0; omega)
  exact k

theorem put4 (g : S8x4.Idx → F .f32) (L : List (View.Piece (Elt F) S8x4 .f32)) (b : ℕ) (o0 o1 o2 o3 : Fin 2 → ℕ) (i0 i1 i2 i3) (h0 : o0 = ![b, 0]) (h1 : o1 = ![b, 1]) (h2 : o2 = ![b, 2]) (h3 : o3 = ![b, 3]) (q : E4 F) :
    (smW).view.writes (Elt F) g (⟨Rect.unit (s := S8x4) o1 S1x1.size i1, fun _ => q.s2⟩ :: ⟨Rect.unit (s := S8x4) o0 S1x1.size i0, fun _ => q.s1⟩
      :: ⟨Rect.unit (s := S8x4) o2 S1x1.size i2, fun _ => q.a2⟩ :: ⟨Rect.unit (s := S8x4) o3 S1x1.size i3, fun _ => q.a1⟩ :: L)
      = setRow ((smW).view.writes (Elt F) g L) b q := by
  funext y
  have hy : (y 1).val < 4 := (y 1).isLt
  unfold setRow
  by_cases h : (y 0).val = b
  · rw [if_pos h]
    rcases (show (y 1).val = 0 ∨ (y 1).val = 1 ∨ (y 1).val = 2 ∨ (y 1).val = 3 by omega) with e | e | e | e
    · exact ((put_miss g _ b 1 o1 i1 h1 _ y (by omega)).trans (put_hit g _ b 0 o0 i0 h0 _ y h e)).trans (by rw [e]; rfl)
    · exact (put_hit g _ b 1 o1 i1 h1 _ y h e).trans (by rw [e]; rfl)
    · exact (((put_miss g _ b 1 o1 i1 h1 _ y (by omega)).trans (put_miss g _ b 0 o0 i0 h0 _ y (by omega))).trans (put_hit g _ b 2 o2 i2 h2 _ y h e)).trans (by rw [e]; rfl)
    · exact ((((put_miss g _ b 1 o1 i1 h1 _ y (by omega)).trans (put_miss g _ b 0 o0 i0 h0 _ y (by omega))).trans (put_miss g _ b 2 o2 i2 h2 _ y (by omega))).trans (put_hit g _ b 3 o3 i3 h3 _ y h e)).trans (by rw [e]; rfl)
  · rw [if_neg h]
    exact (((put_miss g _ b 1 o1 i1 h1 _ y (by omega)).trans (put_miss g _ b 0 o0 i0 h0 _ y (by omega))).trans (put_miss g _ b 2 o2 i2 h2 _ y (by omega))).trans (put_miss g _ b 3 o3 i3 h3 _ y (by omega))

theorem four_eq (a b c d : F .f32) (r : Fin 4) :
    concatenate S4 0 [⟨S1, broadcast S1 a⟩, ⟨S1, broadcast S1 b⟩, ⟨S1, broadcast S1 c⟩, ⟨S1, broadcast S1 d⟩] concatenates_S1_S1_S1_S1_S4_d0 (ix1 r) = ![a, b, c, d] r := by
  pointwise
  fin_cases r <;> simp
theorem eight_eq (v : Fin 8 → FVec F S4 .f32) (r : Fin 8) (l : Fin 4) :
    concatenate S8x4 0 [⟨S1x4, shapeCast S1x4 (v 0) shapeCasts_S4_S1x4⟩, ⟨S1x4, shapeCast S1x4 (v 1) shapeCasts_S4_S1x4⟩, ⟨S1x4, shapeCast S1x4 (v 2) shapeCasts_S4_S1x4⟩, ⟨S1x4, shapeCast S1x4 (v 3) shapeCasts_S4_S1x4⟩, ⟨S1x4, shapeCast S1x4 (v 4) shapeCasts_S4_S1x4⟩, ⟨S1x4, shapeCast S1x4 (v 5) shapeCasts_S4_S1x4⟩, ⟨S1x4, shapeCast S1x4 (v 6) shapeCasts_S4_S1x4⟩, ⟨S1x4, shapeCast S1x4 (v 7) shapeCasts_S4_S1x4⟩] concatenates_S1x4_S1x4_S1x4_S1x4_S1x4_S1x4_S1x4_S1x4_S8x4_d0 (ix2 r l) = v r (ix1 l) := by
  pointwise
  fin_cases r <;> simp

/-- The table's words stacked by rows. -/
theorem stack_eq (e : ℕ → ℕ → F .f32) :
    k0_pay1 (k0_pay2 (e 0 0) (e 0 1) (e 0 2) (e 0 3)) (k0_pay3 (e 1 0) (e 1 1) (e 1 2) (e 1 3)) (k0_pay4 (e 2 0) (e 2 1) (e 2 2) (e 2 3)) (k0_pay5 (e 3 0) (e 3 1) (e 3 2) (e 3 3))
      (k0_pay6 (e 4 0) (e 4 1) (e 4 2) (e 4 3)) (k0_pay7 (e 5 0) (e 5 1) (e 5 2) (e 5 3)) (k0_pay8 (e 6 0) (e 6 1) (e 6 2) (e 6 3)) (e 7 0) (e 7 1) (e 7 2) (e 7 3)
    = fun y : S8x4.Idx => e (y 0).val (y 1).val := by
  funext y
  have hy : y = ix2 (y 0) (y 1) := by funext a; fin_cases a <;> rfl
  rw [hy]
  refine (eight_eq (fun r : Fin 8 => concatenate S4 0 [⟨S1, broadcast S1 (e r.val 0)⟩, ⟨S1, broadcast S1 (e r.val 1)⟩, ⟨S1, broadcast S1 (e r.val 2)⟩, ⟨S1, broadcast S1 (e r.val 3)⟩] concatenates_S1_S1_S1_S1_S4_d0) (y 0) (y 1)).trans ?_
  refine (four_eq (e (y 0).val 0) (e (y 0).val 1) (e (y 0).val 2) (e (y 0).val 3) (y 1)).trans ?_
  show _ = e (y 0).val (y 1).val
  generalize y 1 = r
  fin_cases r <;> rfl

/-- The table read word by word and stacked is the table. -/
theorem restack (W : S8x4.Idx → F .f32) :
    k0_pay1 (k0_pay2 (rdS ![0, 0] (by decide) W) (rdS ![0, 1] (by decide) W) (rdS ![0, 2] (by decide) W) (rdS ![0, 3] (by decide) W))
      (k0_pay3 (rdS ![1, 0] (by decide) W) (rdS ![1, 1] (by decide) W) (rdS ![1, 2] (by decide) W) (rdS ![1, 3] (by decide) W))
      (k0_pay4 (rdS ![2, 0] (by decide) W) (rdS ![2, 1] (by decide) W) (rdS ![2, 2] (by decide) W) (rdS ![2, 3] (by decide) W))
      (k0_pay5 (rdS ![3, 0] (by decide) W) (rdS ![3, 1] (by decide) W) (rdS ![3, 2] (by decide) W) (rdS ![3, 3] (by decide) W))
      (k0_pay6 (rdS ![4, 0] (by decide) W) (rdS ![4, 1] (by decide) W) (rdS ![4, 2] (by decide) W) (rdS ![4, 3] (by decide) W))
      (k0_pay7 (rdS ![5, 0] (by decide) W) (rdS ![5, 1] (by decide) W) (rdS ![5, 2] (by decide) W) (rdS ![5, 3] (by decide) W))
      (k0_pay8 (rdS ![6, 0] (by decide) W) (rdS ![6, 1] (by decide) W) (rdS ![6, 2] (by decide) W) (rdS ![6, 3] (by decide) W))
      (rdS ![7, 0] (by decide) W) (rdS ![7, 1] (by decide) W) (rdS ![7, 2] (by decide) W) (rdS ![7, 3] (by decide) W) = W := by
  have h : ∀ r j : ℕ, ∀ inb : ∀ a, (![r, j] : Fin 2 → ℕ) a + S1x1.size a ≤ S8x4.size a, rdS ![r, j] inb W = W (ixS r j) := fun r j inb => rdS_eq _ inb W r j rfl
  rw [h 0 0, h 0 1, h 0 2, h 0 3, h 1 0, h 1 1, h 1 2, h 1 3, h 2 0, h 2 1, h 2 2, h 2 3, h 3 0, h 3 1, h 3 2, h 3 3, h 4 0, h 4 1, h 4 2, h 4 3, h 5 0, h 5 1, h 5 2, h 5 3, h 6 0, h 6 1, h 6 2, h 6 3, h 7 0, h 7 1, h 7 2, h 7 3]
  exact (stack_eq fun r j => W (ixS r j)).trans (funext fun y => congrArg W (ixS_self y).symm)

/-- The four words of a row. -/
def rowOf (g : S8x4.Idx → F .f32) (b : ℕ) : E4 F := ⟨g (ixS b 0), g (ixS b 1), g (ixS b 2), g (ixS b 3)⟩

/-- The chunk's products, from what its two windows hold. -/
def prods {c : Dev nD} (M0 : Memref Cert.KernelIdeal.sig .tc .vmem S1x1664x2048 .f32) (M1 : Memref Cert.KernelIdeal.sig .tc .vmem S1x2048 .f32) (f0 : Bf (F := F) c M0) (f1 : Bf (F := F) c M1) : FVec F S1x1664 .f32 :=
  k0_pay9 (M1.view.readAt (Elt F) (Rect.unit (s := S1x2048) ![0, 0] S1x2048.size inb_S1x2048_S1x2048_0_0).toLoadRect f1)
    (M0.view.readAt (Elt F) (Rect.unit (s := S1x1664x2048) ![0, 0, 0] S1x1664x2048.size inb_S1x1664x2048_S1x1664x2048_0_0_0).toLoadRect f0)

theorem pts_eq' {ℓ : Loc nD τ sig} {q : PosShare TreeShare} {S : Finset (Idx ℓ)} {g g' : Buf (Elt F) ℓ} (h : g = g') : (ℓ ↦[S]{q} g : sProp 𝕄) ⊢ (ℓ ↦[S]{q} g') := by subst h; exact .rfl

theorem tc_mid (c : Dev nD) (i : grid0.Coords) (h1 : ¬ k0_cond1 i = 1#1) (h2 : ¬ k0_cond2 i = 1#1)
    (M0 : Memref Cert.KernelIdeal.sig .tc .vmem S1x1664x2048 .f32) (w0 : M0.IsWhole) (M1 : Memref Cert.KernelIdeal.sig .tc .vmem S1x2048 .f32) (w1 : M1.IsWhole)
    (M2 : Memref Cert.KernelIdeal.sig .tc .vmem S8x4 .f32) (w2 : M2.IsWhole) (f0 : Bf (F := F) c M0) (f1 : Bf (F := F) c M1) (g : S8x4.Idx → F .f32) :
    iprop((M0.view.loc (TT c) ↦{fullShare} f0) ∗ (M1.view.loc (TT c) ↦{fullShare} f1) ∗ ((smW).view.loc (TT c) ↦{fullShare} g))
      ⊢ wp frame (wpE (defs₀ (F := F)) 𝒱₀ (TT c) none) Set.univ (cc0__tc_extremes_kernel i M0 w0 M1 w1 M2 w2 smW (Memref.isWhole_whole _))
        fun _ => (iprop((M0.view.loc (TT c) ↦{fullShare} f0) ∗ (M1.view.loc (TT c) ↦{fullShare} f1) ∗ ((smW).view.loc (TT c) ↦{fullShare} setRow g (i 0).val ((rowOf g (i 0).val).merge (ext4 (prods M0 M1 f0 f1))))) : sProp 𝕄) := by
  rw [cc0__tc_extremes_kernel_eq_skeleton]
  unfold cc0__tc_extremes_kernel_skel
  rw [k0_part3_eq_skeleton, k0_part4_eq_skeleton]
  iintro ⟨H0, H1, Hs⟩
  sl_exec
  rw [wp_ret]; imodintro
  have hb : (i 0).val < 8 := (i 0).isLt
  have h5 : tc_mid.sl.r_5 i g = (rowOf g (i 0).val).a1 := rdS_eq (k0_off5 i) (k0_off5_inb i) g _ _ (k0_off5_eq i)
  have h6 : tc_mid.sl.r_6 i g = (rowOf g (i 0).val).a2 := rdS_eq (k0_off6 i) (k0_off6_inb i) g _ _ (k0_off6_eq i)
  have h8 : tc_mid.sl.r_8 i g = (rowOf g (i 0).val).s1 := rdS_eq (k0_off7 i) (k0_off7_inb i) g _ _ (k0_off7_eq i)
  have h9 : tc_mid.sl.r_9 i g = (rowOf g (i 0).val).s2 := rdS_eq (k0_off8 i) (k0_off8_inb i) g _ _ (k0_off8_eq i)
  rw [h5, h6, h8, h9]
  isplitl [H0]; · iexact H0
  isplitl [H1]; · iexact H1
  iapply (pts_eq' (put4 g [] (i 0).val (k0_off7 i) (k0_off8 i) (k0_off6 i) (k0_off5 i) (k0_off7_inb i) (k0_off8_inb i) (k0_off6_inb i) (k0_off5_inb i) (k0_off7_eq i) (k0_off8_eq i) (k0_off6_eq i) (k0_off5_eq i)
    ((rowOf g (i 0).val).merge (ext4 (prods M0 M1 f0 f1))))) $$ Hs

/-- The four words a batch starts from. -/
abbrev initL (i : grid0.Coords) (h1 : k0_cond1 i = 1#1) : List (View.Piece (Elt F) S8x4 .f32) :=
  [⟨Rect.unit (s := S8x4) (k0_off4 i) S1x1.size (k0_off4_inb i h1), fun _ => (e0 (F := F)).a1⟩, ⟨Rect.unit (s := S8x4) (k0_off3 i) S1x1.size (k0_off3_inb i h1), fun _ => (e0 (F := F)).a2⟩,
   ⟨Rect.unit (s := S8x4) (k0_off2 i) S1x1.size (k0_off2_inb i h1), fun _ => (e0 (F := F)).s2⟩, ⟨Rect.unit (s := S8x4) (k0_off1 i) S1x1.size (k0_off1_inb i h1), fun _ => (e0 (F := F)).s1⟩]

theorem init_tab (g : S8x4.Idx → F .f32) (i : grid0.Coords) (h1 : k0_cond1 i = 1#1) :
    (smW).view.writes (Elt F) g (initL (F := F) i h1) = setRow g (i 0).val e0 := by
  have hb : (i 0).val < 8 := (i 0).isLt
  funext y
  have hy : (y 1).val < 4 := (y 1).isLt
  unfold setRow
  by_cases h : (y 0).val = (i 0).val
  · rw [if_pos h]
    rcases (show (y 1).val = 0 ∨ (y 1).val = 1 ∨ (y 1).val = 2 ∨ (y 1).val = 3 by omega) with e | e | e | e
    · exact (((put_miss g _ (i 0).val 3 _ _ (k0_off4_eq i) _ y (by omega)).trans (put_miss g _ (i 0).val 2 _ _ (k0_off3_eq i) _ y (by omega))).trans ((put_miss g _ (i 0).val 1 _ _ (k0_off2_eq i) _ y (by omega)).trans
        (put_hit g _ (i 0).val 0 _ _ (k0_off1_eq i) _ y h e))).trans (by rw [e]; rfl)
    · exact (((put_miss g _ (i 0).val 3 _ _ (k0_off4_eq i) _ y (by omega)).trans (put_miss g _ (i 0).val 2 _ _ (k0_off3_eq i) _ y (by omega))).trans
        (put_hit g _ (i 0).val 1 _ _ (k0_off2_eq i) _ y h e)).trans (by rw [e]; rfl)
    · exact ((put_miss g _ (i 0).val 3 _ _ (k0_off4_eq i) _ y (by omega)).trans (put_hit g _ (i 0).val 2 _ _ (k0_off3_eq i) _ y h e)).trans (by rw [e]; rfl)
    · exact (put_hit g _ (i 0).val 3 _ _ (k0_off4_eq i) _ y h e).trans (by rw [e]; rfl)
  · rw [if_neg h]
    exact ((put_miss g _ (i 0).val 3 _ _ (k0_off4_eq i) _ y (by omega)).trans (put_miss g _ (i 0).val 2 _ _ (k0_off3_eq i) _ y (by omega))).trans ((put_miss g _ (i 0).val 1 _ _ (k0_off2_eq i) _ y (by omega)).trans
        (put_miss g _ (i 0).val 0 _ _ (k0_off1_eq i) _ y (by omega)))

/-- A word of the row's first half, under stores to the second half only. -/
theorem rd_two (g : S8x4.Idx → F .f32) (L : List (View.Piece (Elt F) S8x4 .f32)) (b : ℕ) (q : E4 F) (hL : (smW).view.writes (Elt F) g L = setRow g b q) (hb : b < 8)
    (o6 o5 o : Fin 2 → ℕ) (i6 i5 i) (h6 : o6 = ![b, 2]) (h5 : o5 = ![b, 3]) (j : ℕ) (h : o = ![b, j]) (hj : j < 2) (v6 v5 : F .f32) :
    rdS o i ((smW).view.writes (Elt F) g (⟨Rect.unit (s := S8x4) o6 S1x1.size i6, fun _ => v6⟩ :: ⟨Rect.unit (s := S8x4) o5 S1x1.size i5, fun _ => v5⟩ :: L)) = q.get j := by
  rw [rdS_eq o i _ b j h]
  have e : (ixS b j 1).val = j := Nat.mod_eq_of_lt (by omega)
  refine ((put_miss g _ b 2 o6 i6 h6 v6 (ixS b j) (.inr (by omega))).trans (put_miss g L b 3 o5 i5 h5 v5 (ixS b j) (.inr (by omega)))).trans ?_
  rw [hL]; exact setRow_get g b j hb (by omega) q

theorem rd_one (g : S8x4.Idx → F .f32) (L : List (View.Piece (Elt F) S8x4 .f32)) (b : ℕ) (q : E4 F) (hL : (smW).view.writes (Elt F) g L = setRow g b q) (hb : b < 8)
    (o : Fin 2 → ℕ) (i) (j : ℕ) (h : o = ![b, j]) (hj : j < 4) : rdS o i ((smW).view.writes (Elt F) g L) = q.get j := by
  rw [rdS_eq o i _ b j h, hL]; exact setRow_get g b j hb hj q

set_option maxHeartbeats 400000 in
theorem tc_first (c : Dev nD) (i : grid0.Coords) (h1 : k0_cond1 i = 1#1) (h2 : ¬ k0_cond2 i = 1#1)
    (M0 : Memref Cert.KernelIdeal.sig .tc .vmem S1x1664x2048 .f32) (w0 : M0.IsWhole) (M1 : Memref Cert.KernelIdeal.sig .tc .vmem S1x2048 .f32) (w1 : M1.IsWhole)
    (M2 : Memref Cert.KernelIdeal.sig .tc .vmem S8x4 .f32) (w2 : M2.IsWhole) (f0 : Bf (F := F) c M0) (f1 : Bf (F := F) c M1) (g : S8x4.Idx → F .f32) :
    iprop((M0.view.loc (TT c) ↦{fullShare} f0) ∗ (M1.view.loc (TT c) ↦{fullShare} f1) ∗ ((smW).view.loc (TT c) ↦{fullShare} g))
      ⊢ wp frame (wpE (defs₀ (F := F)) 𝒱₀ (TT c) none) Set.univ (cc0__tc_extremes_kernel i M0 w0 M1 w1 M2 w2 smW (Memref.isWhole_whole _))
        fun _ => (iprop((M0.view.loc (TT c) ↦{fullShare} f0) ∗ (M1.view.loc (TT c) ↦{fullShare} f1) ∗ ((smW).view.loc (TT c) ↦{fullShare} setRow g (i 0).val (e0.merge (ext4 (prods M0 M1 f0 f1))))) : sProp 𝕄) := by
  rw [cc0__tc_extremes_kernel_eq_skeleton]
  unfold cc0__tc_extremes_kernel_skel
  rw [k0_part3_eq_skeleton, k0_part4_eq_skeleton]
  iintro ⟨H0, H1, Hs⟩
  sl_exec
  rw [wp_ret]; imodintro
  have hb : (i 0).val < 8 := (i 0).isLt
  have hi : (smW).view.writes (Elt F) (smW).view.junk (tc_first.sl.Hs_4 i h1) = setRow ((smW).view.junk (Val := Elt F)) (i 0).val (e0 (F := F)) := init_tab (F := F) ((smW).view.junk (Val := Elt F)) i h1
  have h9 : tc_first.sl.r_9 (F := F) i h1 = e0.a1 := rd_one _ (tc_first.sl.Hs_4 i h1) _ _ hi hb (k0_off5 i) (k0_off5_inb i) 3 (k0_off5_eq i) (by omega)
  have h10 : tc_first.sl.r_10 (F := F) i h1 = e0.a2 := rd_one _ (tc_first.sl.Hs_4 i h1) _ _ hi hb (k0_off6 i) (k0_off6_inb i) 2 (k0_off6_eq i) (by omega)
  have h12 : tc_first.sl.r_12 c i h1 M0 M1 f0 f1 = e0.s1 := rd_two _ (tc_first.sl.Hs_4 i h1) _ _ hi hb (k0_off6 i) (k0_off5 i) (k0_off7 i) (k0_off6_inb i) (k0_off5_inb i) (k0_off7_inb i) (k0_off6_eq i) (k0_off5_eq i) 0 (k0_off7_eq i) (by omega) _ _
  have h13 : tc_first.sl.r_13 c i h1 M0 M1 f0 f1 = e0.s2 := rd_two _ (tc_first.sl.Hs_4 i h1) _ _ hi hb (k0_off6 i) (k0_off5 i) (k0_off8 i) (k0_off6_inb i) (k0_off5_inb i) (k0_off8_inb i) (k0_off6_eq i) (k0_off5_eq i) 1 (k0_off8_eq i) (by omega) _ _
  isplitl [H0]; · iexact H0
  isplitl [H1]; · iexact H1
  have hT := put4 g (initL i h1) (i 0).val (k0_off7 i) (k0_off8 i) (k0_off6 i) (k0_off5 i) (k0_off7_inb i) (k0_off8_inb i) (k0_off6_inb i) (k0_off5_inb i) (k0_off7_eq i) (k0_off8_eq i) (k0_off6_eq i) (k0_off5_eq i)
    ((e0 (F := F)).merge (ext4 (prods M0 M1 f0 f1)))
  rw [init_tab, setRow_setRow] at hT
  have hl : tc_first.sl.Hs_7 c i h1 M0 M1 f0 f1 = ⟨Rect.unit (s := S8x4) (k0_off7 i) S1x1.size (k0_off7_inb i), fun _ => ((e0 (F := F)).merge (ext4 (prods M0 M1 f0 f1))).s1⟩
      :: ⟨Rect.unit (s := S8x4) (k0_off6 i) S1x1.size (k0_off6_inb i), fun _ => ((e0 (F := F)).merge (ext4 (prods M0 M1 f0 f1))).a2⟩
      :: ⟨Rect.unit (s := S8x4) (k0_off5 i) S1x1.size (k0_off5_inb i), fun _ => ((e0 (F := F)).merge (ext4 (prods M0 M1 f0 f1))).a1⟩ :: initL i h1 := by
    unfold tc_first.sl.Hs_7 tc_first.sl.Hs_6 tc_first.sl.Hs_5
    rw [h9, h10, h12]
    rfl
  rw [hl, h12, h13]
  iapply (pts_eq' hT) $$ Hs

set_option maxHeartbeats 400000 in
theorem tc_last (c : Dev nD) (i : grid0.Coords) (h1 : ¬ k0_cond1 i = 1#1) (h2 : k0_cond2 i = 1#1)
    (M0 : Memref Cert.KernelIdeal.sig .tc .vmem S1x1664x2048 .f32) (w0 : M0.IsWhole) (M1 : Memref Cert.KernelIdeal.sig .tc .vmem S1x2048 .f32) (w1 : M1.IsWhole)
    (M2 : Memref Cert.KernelIdeal.sig .tc .vmem S8x4 .f32) (w2 : M2.IsWhole) (f0 : Bf (F := F) c M0) (f1 : Bf (F := F) c M1) (f2 : Bf (F := F) c M2) (g : S8x4.Idx → F .f32) :
    iprop((M0.view.loc (TT c) ↦{fullShare} f0) ∗ (M1.view.loc (TT c) ↦{fullShare} f1) ∗ (M2.view.loc (TT c) ↦{fullShare} f2) ∗ ((smW).view.loc (TT c) ↦{fullShare} g))
      ⊢ wp frame (wpE (defs₀ (F := F)) 𝒱₀ (TT c) none) Set.univ (cc0__tc_extremes_kernel i M0 w0 M1 w1 M2 w2 smW (Memref.isWhole_whole _))
        fun _ => (iprop((M0.view.loc (TT c) ↦{fullShare} f0) ∗ (M1.view.loc (TT c) ↦{fullShare} f1) ∗ (M2.view.loc (TT c) ↦{fullShare} M2.view.writes (Elt F) f2 [⟨Rect.unit (s := S8x4) ![0, 0] S8x4.size inb_S8x4_S8x4_0_0, setRow g (i 0).val ((rowOf g (i 0).val).merge (ext4 (prods M0 M1 f0 f1)))⟩]) ∗ ((smW).view.loc (TT c) ↦{fullShare} setRow g (i 0).val ((rowOf g (i 0).val).merge (ext4 (prods M0 M1 f0 f1))))) : sProp 𝕄) := by
  rw [cc0__tc_extremes_kernel_eq_skeleton]
  unfold cc0__tc_extremes_kernel_skel
  rw [k0_part3_eq_skeleton, k0_part4_eq_skeleton, k0_part1_eq_skeleton, k0_part2_eq_skeleton]
  iintro ⟨H0, H1, H2, Hs⟩
  sl_exec
  rw [wp_ret]; imodintro
  have hb : (i 0).val < 8 := (i 0).isLt
  have h5 : tc_last.sl.r_5 i g = (rowOf g (i 0).val).a1 := rdS_eq (k0_off5 i) (k0_off5_inb i) g _ _ (k0_off5_eq i)
  have h6 : tc_last.sl.r_6 i g = (rowOf g (i 0).val).a2 := rdS_eq (k0_off6 i) (k0_off6_inb i) g _ _ (k0_off6_eq i)
  have h8 : tc_last.sl.r_8 i g = (rowOf g (i 0).val).s1 := rdS_eq (k0_off7 i) (k0_off7_inb i) g _ _ (k0_off7_eq i)
  have h9 : tc_last.sl.r_9 i g = (rowOf g (i 0).val).s2 := rdS_eq (k0_off8 i) (k0_off8_inb i) g _ _ (k0_off8_eq i)
  have hT := put4 g [] (i 0).val (k0_off7 i) (k0_off8 i) (k0_off6 i) (k0_off5 i) (k0_off7_inb i) (k0_off8_inb i) (k0_off6_inb i) (k0_off5_inb i) (k0_off7_eq i) (k0_off8_eq i) (k0_off6_eq i) (k0_off5_eq i)
    ((rowOf g (i 0).val).merge (ext4 (prods M0 M1 f0 f1)))
  have hS : (smW).view.writes (Elt F) g (tc_last.sl.Hs_4 c i M0 M1 f0 f1 g) = setRow g (i 0).val ((rowOf g (i 0).val).merge (ext4 (prods M0 M1 f0 f1))) := by
    refine Eq.trans ?_ hT
    unfold tc_last.sl.Hs_4
    rw [h5, h6, h8, h9]
    rfl
  have hP := restack ((smW).view.writes (Elt F) g (tc_last.sl.Hs_4 c i M0 M1 f0 f1 g))
  isplitl [H0]; · iexact H0
  isplitl [H1]; · iexact H1
  isplitl [H2]
  · have hR : k0_pay1 (tc_last.sl.r_25 c i M0 M1 f0 f1 g) (tc_last.sl.r_26 c i M0 M1 f0 f1 g) (tc_last.sl.r_27 c i M0 M1 f0 f1 g) (tc_last.sl.r_41 c i M0 M1 f0 f1 g) (tc_last.sl.r_42 c i M0 M1 f0 f1 g) (tc_last.sl.r_43 c i M0 M1 f0 f1 g) (tc_last.sl.r_44 c i M0 M1 f0 f1 g) (tc_last.sl.r_45 c i M0 M1 f0 f1 g) (tc_last.sl.r_46 c i M0 M1 f0 f1 g) (tc_last.sl.r_47 c i M0 M1 f0 f1 g) (tc_last.sl.r_48 c i M0 M1 f0 f1 g) = (smW).view.writes (Elt F) g (tc_last.sl.Hs_4 c i M0 M1 f0 f1 g) := by
      unfold tc_last.sl.r_25 tc_last.sl.r_26 tc_last.sl.r_27 tc_last.sl.r_41 tc_last.sl.r_42 tc_last.sl.r_43 tc_last.sl.r_44
      exact hP
    iapply (pts_eq' (congrArg (fun V => M2.view.writes (Elt F) f2 [⟨Rect.unit (s := S8x4) ![0, 0] S8x4.size inb_S8x4_S8x4_0_0, V⟩]) (hR.trans hS))) $$ H2
  · iapply (pts_eq' hS) $$ Hs
end Cert.Proof.Ext
-- ==== Proof.TcData.lean ====
/-
  The TensorCore's scan: what its windows hold point by point, and the running extremes it keeps of each batch,
  as functions of the array and of the embedding.
-/
module
public import proofs.«01_k».proof.Proof.TcBody
public import Idealize.ShloMosaic.Lib.Pipeline.RegionsLoop
public import Idealize.ShloMosaic.Lib.Pipeline.ValueKit
public import Idealize.ShloMosaic.Lib.VecWindow
@[expose] public section
set_option maxRecDepth 16384
noncomputable section
namespace Cert.Proof.Ext
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)
variable {F : FTy → Type} [FloatOps F]
local notation "𝕄" => MT nD τ sig (HIx 1) (Elt F) ℕ UU ℕ
local notation "smW" => (Memref.whole cc0_scratch0 : Memref Cert.KernelIdeal.sig Kind.tc Space.smem S8x4 EltTy.f32)

/-! ## The scan's result -/

/-- Chunk `n` of batch `b`: 1664 rows. -/
def xblk (x : S8x8192x2048.Idx → F .f32) (b n : ℕ) : FVec F S1x1664x2048 .f32 := fun j =>
  x (ix3 ⟨b % 8, Nat.mod_lt _ (by decide)⟩ ⟨(n * 1664 + (j 1).val) % 8192, Nat.mod_lt _ (by decide)⟩ (j 2))

/-- Batch `b`'s extremes after `n` chunks. -/
def tcRow (x : S8x8192x2048.Idx → F .f32) (f : FVec F S1x2048 .f32) (b : ℕ) : ℕ → E4 F
  | 0 => e0
  | n + 1 => (tcRow x f b n).merge (ext4 (k0_pay9 f (xblk x b n)))

/-- Every batch's extremes after the scan. -/
def tcTab (x : S8x8192x2048.Idx → F .f32) (f : FVec F S1x2048 .f32) : FVec F S8x4 .f32 := fun y => (tcRow x f (y 0).val 4).get (y 1).val

/-- The table before point `n`: every batch begun has its extremes of the chunks read so far. -/
def TabAt (x : S8x8192x2048.Idx → F .f32) (f : FVec F S1x2048 .f32) (n : ℕ) (g : S8x4.Idx → F .f32) : Prop :=
  ∀ y, 4 * (y 0).val < n → g y = (tcRow x f (y 0).val (min 4 (n - 4 * (y 0).val))).get (y 1).val

theorem TabAt_zero (x : S8x8192x2048.Idx → F .f32) (f : FVec F S1x2048 .f32) (g) : TabAt x f 0 g := fun y h => absurd h (Nat.not_lt_zero _)

theorem TabAt_last (x : S8x8192x2048.Idx → F .f32) (f : FVec F S1x2048 .f32) (g) (h : TabAt x f 32 g) : g = tcTab x f := by
  funext y
  have hy : (y 0).val < 8 := (y 0).isLt
  rw [h y (by omega), show min 4 (32 - 4 * (y 0).val) = 4 by omega]; rfl

theorem TabAt_row (x : S8x8192x2048.Idx → F .f32) (f : FVec F S1x2048 .f32) (n b : ℕ) (g) (h : TabAt x f n g) (hb : b < 8) (h0 : 4 * b < n) (h1 : n ≤ 4 * b + 4) :
    rowOf g b = tcRow x f b (n - 4 * b) := by
  have k : ∀ j, j < 4 → g (ixS b j) = (tcRow x f b (n - 4 * b)).get j := fun j hj => by
    have e0 : (ixS b j 0).val = b := Nat.mod_eq_of_lt hb
    have e1 : (ixS b j 1).val = j := Nat.mod_eq_of_lt hj
    rw [h (ixS b j) (by omega), e0, e1, show min 4 (n - 4 * b) = n - 4 * b by omega]
  ext
  · exact k 0 (by omega)
  · exact k 1 (by omega)
  · exact k 2 (by omega)
  · exact k 3 (by omega)

theorem TabAt_step (x : S8x8192x2048.Idx → F .f32) (f : FVec F S1x2048 .f32) (n b : ℕ) (g) (h : TabAt x f n g) (h0 : 4 * b ≤ n) (h1 : n < 4 * b + 4) :
    TabAt x f (n + 1) (setRow g b (tcRow x f b (n - 4 * b + 1))) := fun y hy => by
  unfold setRow
  by_cases e : (y 0).val = b
  · rw [if_pos e, e, show min 4 (n + 1 - 4 * b) = n - 4 * b + 1 by omega]
  · rw [if_neg e, h y (by omega)]
    congr 2; omega

/-! ## The windows -/

theorem clip0_0 : ∀ (i : grid0.Coords) a, win0_0.clip i a = none := by decide +kernel
theorem coords0_0 : ∀ t : Fin grid0.N, (grid0.coords t 0).val = t.val / 4 := by decide +kernel
theorem coords0_1 : ∀ t : Fin grid0.N, (grid0.coords t 1).val = t.val % 4 := by decide +kernel
theorem index0_0 : ∀ t : Fin grid0.N, win0_0.index t = ![t.val / 4, t.val % 4, 0] := by decide +kernel
theorem index0_1 : ∀ t : Fin grid0.N, win0_1.index t = ![0, 0] := by decide +kernel

/-- What a fetch of the array's block leaves in the staging buffer. -/
theorem stg0_eq (x : S8x8192x2048.Idx → F .f32) (t : Fin grid0.N) (d : S1x1664x2048.Idx → F .f32) :
    win0_0.fill (grid0.coords t) d (View.read (Elt F) (win0_0.blk t).view x) = xblk x (t.val / 4) (t.val % 4) := by
  have ht : t.val < 32 := t.isLt
  funext j
  have hm : win0_0.moved (grid0.coords t) j = true :=
    (win0_0.moved_iff _ j).mpr fun a => by have := (j a).isLt; unfold Window.xsize; rw [clip0_0]; exact this
  unfold Window.fill
  rw [dif_pos hm]
  have h0 : (j 0).val < 1 := (j 0).isLt
  have h1 : (j 1).val < 1664 := (j 1).isLt
  refine congrArg x (funext fun a => Fin.ext ?_)
  refine (Window.rect_emb_val win0_0 t _ a).trans ?_
  rw [index0_0]
  fin_cases a
  · show t.val / 4 * 1 + (j 0).val = t.val / 4 % 8; omega
  · show t.val % 4 * 1664 + (j 1).val = (t.val % 4 * 1664 + (j 1).val) % 8192; omega
  · show 0 * 2048 + (j 2).val = (j 2).val; omega

theorem stg1_eq (f : S1x2048.Idx → F .f32) (t : Fin grid0.N) : View.read (Elt F) (win0_1.blk t).view f = f := by
  funext j
  refine congrArg f (funext fun a => Fin.ext ?_)
  refine (Window.rect_emb_val win0_1 t _ a).trans ?_
  rw [index0_1]
  fin_cases a
  · show 0 * 1 + (j 0).val = (j 0).val; omega
  · show 0 * 2048 + (j 1).val = (j 1).val; omega

end Cert.Proof.Ext
-- ==== Proof.TcRegion.lean ====
/-
  The TensorCore's scan as a region of @main: its proof data, the body at every point, and the region from the
  buffers at any contents to the same with the extremes' table written.
-/
module
public import proofs.«01_k».proof.Proof.TcData
@[expose] public section
set_option maxRecDepth 16384
noncomputable section
namespace Cert.Proof.Ext
open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)
variable {F : FTy → Type} [FloatOps F]
local notation "𝕄" => MT nD τ sig (HIx 1) (Elt F) ℕ UU ℕ
local notation "smW" => (Memref.whole cc0_scratch0 : Memref Cert.KernelIdeal.sig Kind.tc Space.smem S8x4 EltTy.f32)

/-! ## The body over owned windows -/

theorem prods_eq {c : Dev nD} (M0 : Memref Cert.KernelIdeal.sig .tc .vmem S1x1664x2048 .f32) (M1 : Memref Cert.KernelIdeal.sig .tc .vmem S1x2048 .f32)
    (f0 : Bf (F := F) c M0) (f1 : Bf (F := F) c M1) : prods M0 M1 f0 f1 = k0_pay9 (M1.view.read (Elt F) f1) (M0.view.read (Elt F) f0) := by
  unfold prods
  rw [View.readAt_full, View.readAt_full]

/-- Ownership of a whole memref is its buffer at contents that read so. -/
theorem owns_of_whole (c : Dev nD) {sp : Space} {s : Shape} {e : EltTy} (M : Memref Cert.KernelIdeal.sig .tc sp s e) (h : M.IsWhole) (X : s.Idx → Elt F e) :
    (owns (TT c) M fullShare X : sProp 𝕄) = iprop(∃ f : Buf (Elt F) (M.view.loc (TT c)), ⌜M.view.read (Elt F) f = X⌝ ∗ (M.view.loc (TT c) ↦{fullShare} f)) := by
  unfold owns; rw [h.set_eq_univ]

theorem step_mid (c : Dev nD) (i : grid0.Coords) (h1 : ¬ k0_cond1 i = 1#1) (h2 : ¬ k0_cond2 i = 1#1)
    (M0 : Memref Cert.KernelIdeal.sig .tc .vmem S1x1664x2048 .f32) (w0 : M0.IsWhole) (M1 : Memref Cert.KernelIdeal.sig .tc .vmem S1x2048 .f32) (w1 : M1.IsWhole)
    (M2 : Memref Cert.KernelIdeal.sig .tc .vmem S8x4 .f32) (w2 : M2.IsWhole) (X0 : S1x1664x2048.Idx → F .f32) (X1 : S1x2048.Idx → F .f32) (g : S8x4.Idx → F .f32) :
    iprop(owns (TT c) M0 fullShare X0 ∗ owns (TT c) M1 fullShare X1 ∗ ((smW).view.loc (TT c) ↦{fullShare} g))
      ⊢ wp frame (wpE (defs₀ (F := F)) 𝒱₀ (TT c) none) Set.univ (cc0__tc_extremes_kernel i M0 w0 M1 w1 M2 w2 smW (Memref.isWhole_whole _))
        fun _ => (iprop(owns (TT c) M0 fullShare X0 ∗ owns (TT c) M1 fullShare X1 ∗ ((smW).view.loc (TT c) ↦{fullShare} setRow g (i 0).val ((rowOf g (i 0).val).merge (ext4 (k0_pay9 X1 X0))))) : sProp 𝕄) := by
  rw [owns_of_whole c M0 w0, owns_of_whole c M1 w1]
  iintro ⟨⟨%f0, %e0, H0⟩, ⟨%f1, %e1, H1⟩, Hs⟩
  subst e0 e1
  iapply (wp_wand_r Idealize.ShloMosaic.frame (wpE (defs₀ (F := F)) 𝒱₀ (TT c) none) Set.univ)
  isplitl [H0 H1 Hs]
  · iapply (tc_mid c i h1 h2 M0 w0 M1 w1 M2 w2 f0 f1 g)
    isplitl [H0]; · iexact H0
    isplitl [H1]; · iexact H1
    iexact Hs
  iintro %_ ⟨H0, H1, Hs⟩
  isplitl [H0]; · iexists f0; isplitr; swap; (· iexact H0); ipureintro; rfl
  isplitl [H1]; · iexists f1; isplitr; swap; (· iexact H1); ipureintro; rfl
  rw [prods_eq]
  iexact Hs

theorem step_first (c : Dev nD) (i : grid0.Coords) (h1 : k0_cond1 i = 1#1) (h2 : ¬ k0_cond2 i = 1#1)
    (M0 : Memref Cert.KernelIdeal.sig .tc .vmem S1x1664x2048 .f32) (w0 : M0.IsWhole) (M1 : Memref Cert.KernelIdeal.sig .tc .vmem S1x2048 .f32) (w1 : M1.IsWhole)
    (M2 : Memref Cert.KernelIdeal.sig .tc .vmem S8x4 .f32) (w2 : M2.IsWhole) (X0 : S1x1664x2048.Idx → F .f32) (X1 : S1x2048.Idx → F .f32) (g : S8x4.Idx → F .f32) :
    iprop(owns (TT c) M0 fullShare X0 ∗ owns (TT c) M1 fullShare X1 ∗ ((smW).view.loc (TT c) ↦{fullShare} g))
      ⊢ wp frame (wpE (defs₀ (F := F)) 𝒱₀ (TT c) none) Set.univ (cc0__tc_extremes_kernel i M0 w0 M1 w1 M2 w2 smW (Memref.isWhole_whole _))
        fun _ => (iprop(owns (TT c) M0 fullShare X0 ∗ owns (TT c) M1 fullShare X1 ∗ ((smW).view.loc (TT c) ↦{fullShare} setRow g (i 0).val (e0.merge (ext4 (k0_pay9 X1 X0))))) : sProp 𝕄) := by
  rw [owns_of_whole c M0 w0, owns_of_whole c M1 w1]
  iintro ⟨⟨%f0, %e0, H0⟩, ⟨%f1, %e1, H1⟩, Hs⟩
  subst e0 e1
  iapply (wp_wand_r Idealize.ShloMosaic.frame (wpE (defs₀ (F := F)) 𝒱₀ (TT c) none) Set.univ)
  isplitl [H0 H1 Hs]
  · iapply (tc_first c i h1 h2 M0 w0 M1 w1 M2 w2 f0 f1 g)
    isplitl [H0]; · iexact H0
    isplitl [H1]; · iexact H1
    iexact Hs
  iintro %_ ⟨H0, H1, Hs⟩
  isplitl [H0]; · iexists f0; isplitr; swap; (· iexact H0); ipureintro; rfl
  isplitl [H1]; · iexists f1; isplitr; swap; (· iexact H1); ipureintro; rfl
  rw [prods_eq]
  iexact Hs

theorem step_last (c : Dev nD) (i : grid0.Coords) (h1 : ¬ k0_cond1 i = 1#1) (h2 : k0_cond2 i = 1#1)
    (M0 : Memref Cert.KernelIdeal.sig .tc .vmem S1x1664x2048 .f32) (w0 : M0.IsWhole) (M1 : Memref Cert.KernelIdeal.sig .tc .vmem S1x2048 .f32) (w1 : M1.IsWhole)
    (M2 : Memref Cert.KernelIdeal.sig .tc .vmem S8x4 .f32) (w2 : M2.IsWhole) (X0 : S1x1664x2048.Idx → F .f32) (X1 : S1x2048.Idx → F .f32) (X2 : S8x4.Idx → F .f32) (g : S8x4.Idx → F .f32) :
    iprop(owns (TT c) M0 fullShare X0 ∗ owns (TT c) M1 fullShare X1 ∗ owns (TT c) M2 fullShare X2 ∗ ((smW).view.loc (TT c) ↦{fullShare} g))
      ⊢ wp frame (wpE (defs₀ (F := F)) 𝒱₀ (TT c) none) Set.univ (cc0__tc_extremes_kernel i M0 w0 M1 w1 M2 w2 smW (Memref.isWhole_whole _))
        fun _ => (iprop(owns (TT c) M0 fullShare X0 ∗ owns (TT c) M1 fullShare X1 ∗ owns (TT c) M2 fullShare (setRow g (i 0).val ((rowOf g (i 0).val).merge (ext4 (k0_pay9 X1 X0))))
          ∗ ((smW).view.loc (TT c) ↦{fullShare} setRow g (i 0).val ((rowOf g (i 0).val).merge (ext4 (k0_pay9 X1 X0))))) : sProp 𝕄) := by
  rw [owns_of_whole c M0 w0, owns_of_whole c M1 w1, owns_of_whole c M2 w2, owns_of_whole c M2 w2]
  iintro ⟨⟨%f0, %e0, H0⟩, ⟨%f1, %e1, H1⟩, ⟨%f2, -, H2⟩, Hs⟩
  subst e0 e1
  iapply (wp_wand_r Idealize.ShloMosaic.frame (wpE (defs₀ (F := F)) 𝒱₀ (TT c) none) Set.univ)
  isplitl [H0 H1 H2 Hs]
  · iapply (tc_last c i h1 h2 M0 w0 M1 w1 M2 w2 f0 f1 f2 g)
    isplitl [H0]; · iexact H0
    isplitl [H1]; · iexact H1
    isplitl [H2]; · iexact H2
    iexact Hs
  iintro %_ ⟨H0, H1, H2, Hs⟩
  isplitl [H0]; · iexists f0; isplitr; swap; (· iexact H0); ipureintro; rfl
  isplitl [H1]; · iexists f1; isplitr; swap; (· iexact H1); ipureintro; rfl
  rw [prods_eq]
  isplitl [H2]
  · iexists _; isplitr; swap; (· iexact H2); ipureintro; exact View.read_writes_full M2.view f2 inb_S8x4_S8x4_0_0 _ []
  iexact Hs

/-! ## The proof data -/

variable (V : (c : Dev nD) → (b : Ref sig .tc) → Buf (Elt F) ((c : Thread nD τ).loc b)) (O : Dev nD → CellTallies nD τ sig (HIx 1)) (B : ℕ)

/-- The waits recorded so far are under level `B`. -/
abbrev under (c : Dev nD) : Set (SemLoc sig × HIx 1) := {p | (K (F := F)).lev (TT c, p.1) p.2 ≤ B}

/-- A scoped buffer at some contents. -/
abbrev some' (c : Dev nD) (b : Ref sig .tc) : sProp 𝕄 := iprop(∃ f : Buf (Elt F) ((c : Thread nD τ).loc b), ((c : Thread nD τ).loc b) ↦{fullShare} f)

/-- The other region's staging buffers. -/
abbrev others (c : Dev nD) : sProp 𝕄 :=
  iprop(some' c cc2_stg0_0 ∗ some' c cc2_stg1_0 ∗ some' c cc2_stg2_0 ∗ some' c cc2_stg3_0 ∗ some' c cc2_stg4_0 ∗ some' c cc2_stg5_0 ∗ some' c cc2_stg6_0 ∗ some' c cc2_stg7_0 ∗ some' c cc2_stg8_0)

/-- Between points: the table in scratch memory holds the extremes so far. -/
abbrev Φ0 (c : Dev nD) (n : ℕ) : sProp 𝕄 :=
  iprop((∃ g : S8x4.Idx → F .f32, ⌜TabAt (V c main_arg0) (V c main_v0) n g⌝ ∗ ((smW).view.loc (TT c) ↦{fullShare} g)) ∗ others c)

def dat0 (c : Dev nD) : Dat τ (Elt F) (HIx 1) ℕ UU ℕ cfg0 c where
  A w := V c (Pipeline.arrRef spec0 w)
  after w t := match w with
    | ⟨0, _⟩ => xblk (V c main_arg0) (t.val / 4) (t.val % 4)
    | ⟨1, _⟩ => V c main_v0
    | ⟨2, _⟩ => tcTab (V c main_arg0) (V c main_v0)
  Φ n := Φ0 V c n.val
  q _ := fullShare
  owed _ := O c
  recorded _ := under (F := F) B c

theorem before0 (c : Dev nD) (t : Fin cfg0.N) (d) : (dat0 V O B c).before 0 t d = xblk (V c main_arg0) (t.val / 4) (t.val % 4) := by
  rw [Dat.before_fetched _ 0 t (fetch0_0 t) d]
  exact stg0_eq (V c main_arg0) t d

theorem before1 (c : Dev nD) (t : Fin cfg0.N) (d) : (dat0 V O B c).before 1 t d = V c main_v0 := by
  rw [Dat.before_in_eq_fetched _ 1 rfl (fun _ => rfl) (fun _ _ _ => rfl) (fun t => (stg1_eq (V c main_v0) t).symm) t d]
  exact stg1_eq (V c main_v0) t

theorem cond1_at (t : Fin cfg0.N) : k0_cond1 (grid0.coords t) = 1#1 ↔ t.val % 4 = 0 := by rw [k0_cond1_iff, coords0_1 t]
theorem cond2_at (t : Fin cfg0.N) : k0_cond2 (grid0.coords t) = 1#1 ↔ t.val = 31 := by
  have ht : t.val < 32 := t.isLt
  rw [k0_cond2_iff, coords0_0 t, coords0_1 t]; omega

theorem idle_at (t : Fin cfg0.N) (h : t.val ≠ 31) : cfg0.idle 2 (cfg0.grid.coords t) = true := by
  show (!(k0_cond2 (grid0.coords t) == 1#1)) = true
  have := mt (cond2_at t).mp h
  simp [this]
theorem busy_at (t : Fin cfg0.N) (h : t.val = 31) : cfg0.idle 2 (cfg0.grid.coords t) = false := by
  show (!(k0_cond2 (grid0.coords t) == 1#1)) = false
  have := (cond2_at t).mpr h
  simp [this]
theorem noflush_at (t : Fin cfg0.N) (h : t.val ≠ 31) : (cfg0.win 2).flush t = false := by
  have ht : t.val < 32 := t.isLt
  have := mt (flush0_2 t).mp (by omega)
  simpa using this

theorem leaves2_idle (c : Dev nD) (t : Fin cfg0.N) (h : t.val ≠ 31) :
    iprop(∃ d, owns (TT c) (st0_2 t) fullShare ((dat0 V O B c).before 2 t d)) ⊢ ((dat0 V O B c).leavesExact 2 t : sProp 𝕄) := by
  unfold Dat.leavesExact
  rw [idle_at t h]; dsimp only; rw [noflush_at t h]

theorem leaves2_last (c : Dev nD) (t : Fin cfg0.N) (h : t.val = 31) :
    owns (TT c) (st0_2 t) fullShare ((dat0 V O B c).after 2 t) ⊢ ((dat0 V O B c).leavesExact 2 t : sProp 𝕄) := by
  unfold Dat.leavesExact
  rw [busy_at t h]

theorem body0 (c : Dev nD) : BodyObligation (dat0 V O B c) (defs₀ (F := F)) 𝒱₀ none Set.univ := fun t => by
  rw [bigSep_W0, bigSep_W0]
  have ht : t.val < 32 := t.isLt
  have hc0 := coords0_0 t
  have hc1 := coords0_1 t
  have hb : t.val / 4 < 8 := by omega
  show iprop(Φ0 V c t.val ∗ (dat0 V O B c).owesAt none t.castSucc
      ∗ (∃ d, owns (TT c) (st0_0 t) fullShare ((dat0 V O B c).before 0 t d))
      ∗ (∃ d, owns (TT c) (st0_1 t) fullShare ((dat0 V O B c).before 1 t d))
      ∗ (∃ d, owns (TT c) (st0_2 t) fullShare ((dat0 V O B c).before 2 t d)))
    ⊢ wp frame (wpE (defs₀ (F := F)) 𝒱₀ (TT c) none) Set.univ (bodyAt0 t) fun _ => iprop(Φ0 V c (t.val + 1) ∗ (dat0 V O B c).owesAt none t.castSucc
      ∗ owns (TT c) (st0_0 t) fullShare (xblk (V c main_arg0) (t.val / 4) (t.val % 4)) ∗ owns (TT c) (st0_1 t) fullShare (V c main_v0)
      ∗ (dat0 V O B c).leavesExact 2 t)
  simp only [before0, before1]
  iintro ⟨⟨⟨%g, %hg, Hs⟩, Ho⟩, HO, ⟨%d0, H0⟩, ⟨%d1, H1⟩, H2⟩
  by_cases h1 : t.val % 4 = 0
  · have h2 : t.val ≠ 31 := by omega
    iapply (wp_wand_r Idealize.ShloMosaic.frame (wpE (defs₀ (F := F)) 𝒱₀ (TT c) none) Set.univ)
    isplitl [H0 H1 Hs]
    · iapply (step_first c (grid0.coords t) ((cond1_at t).mpr h1) (mt (cond2_at t).mp h2) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (xblk (V c main_arg0) (t.val / 4) (t.val % 4)) (V c main_v0) g)
      isplitl [H0]; · iexact H0
      isplitl [H1]; · iexact H1
      iexact Hs
    iintro %_ ⟨H0, H1, Hs⟩
    isplitl [Hs Ho]
    · isplitr [Ho]; swap; · iexact Ho
      iexists _; isplitr; swap; · iexact Hs
      ipureintro
      rw [hc0]
      have := TabAt_step (V c main_arg0) (V c main_v0) t.val (t.val / 4) g hg (by omega) (by omega)
      rw [show t.val - 4 * (t.val / 4) + 1 = 0 + 1 by omega] at this
      rw [show t.val % 4 = 0 from h1]
      exact this
    isplitl [HO]; · iexact HO
    isplitl [H0]; · iexact H0
    isplitl [H1]; · iexact H1
    iapply (leaves2_idle V O B c t h2) $$ H2
  have hrow : rowOf g (t.val / 4) = tcRow (V c main_arg0) (V c main_v0) (t.val / 4) (t.val % 4) := by
    have := TabAt_row (V c main_arg0) (V c main_v0) t.val (t.val / 4) g hg hb (by omega) (by omega)
    rwa [show t.val - 4 * (t.val / 4) = t.val % 4 by omega] at this
  have hnext := TabAt_step (V c main_arg0) (V c main_v0) t.val (t.val / 4) g hg (by omega) (by omega)
  rw [show t.val - 4 * (t.val / 4) + 1 = t.val % 4 + 1 by omega] at hnext
  by_cases h2 : t.val = 31
  · icases H2 with ⟨%d2, H2⟩
    iapply (wp_wand_r Idealize.ShloMosaic.frame (wpE (defs₀ (F := F)) 𝒱₀ (TT c) none) Set.univ)
    isplitl [H0 H1 H2 Hs]
    · iapply (step_last c (grid0.coords t) (mt (cond1_at t).mp h1) ((cond2_at t).mpr h2) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (xblk (V c main_arg0) (t.val / 4) (t.val % 4)) (V c main_v0) ((dat0 V O B c).before 2 t d2) g)
      isplitl [H0]; · iexact H0
      isplitl [H1]; · iexact H1
      isplitl [H2]; · iexact H2
      iexact Hs
    rw [hc0, hrow]
    have hlast : setRow g (t.val / 4) ((tcRow (V c main_arg0) (V c main_v0) (t.val / 4) (t.val % 4)).merge (ext4 (k0_pay9 (V c main_v0) (xblk (V c main_arg0) (t.val / 4) (t.val % 4))))) = tcTab (V c main_arg0) (V c main_v0) := by
      have h := hnext
      rw [show t.val + 1 = 32 by omega] at h
      exact TabAt_last _ _ _ h
    iintro %_ ⟨H0, H1, H2, Hs⟩
    isplitl [Hs Ho]
    · isplitr [Ho]; swap; · iexact Ho
      iexists _; isplitr; swap; · iexact Hs
      ipureintro; exact hnext
    isplitl [HO]; · iexact HO
    isplitl [H0]; · iexact H0
    isplitl [H1]; · iexact H1
    iapply (leaves2_last V O B c t h2)
    iapply (show owns (TT c) (st0_2 t) fullShare (setRow g (t.val / 4) ((tcRow (V c main_arg0) (V c main_v0) (t.val / 4) (t.val % 4)).merge (ext4 (k0_pay9 (V c main_v0) (xblk (V c main_arg0) (t.val / 4) (t.val % 4))))))
      ⊢ (owns (TT c) (st0_2 t) fullShare ((dat0 V O B c).after 2 t) : sProp 𝕄) from Entails.of_eq (congrArg _ hlast)) $$ H2
  · iapply (wp_wand_r Idealize.ShloMosaic.frame (wpE (defs₀ (F := F)) 𝒱₀ (TT c) none) Set.univ)
    isplitl [H0 H1 Hs]
    · iapply (step_mid c (grid0.coords t) (mt (cond1_at t).mp h1) (mt (cond2_at t).mp h2) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (xblk (V c main_arg0) (t.val / 4) (t.val % 4)) (V c main_v0) g)
      isplitl [H0]; · iexact H0
      isplitl [H1]; · iexact H1
      iexact Hs
    rw [hc0, hrow]
    iintro %_ ⟨H0, H1, Hs⟩
    isplitl [Hs Ho]
    · isplitr [Ho]; swap; · iexact Ho
      iexists _; isplitr; swap; · iexact Hs
      ipureintro; exact hnext
    isplitl [HO]; · iexact HO
    isplitl [H0]; · iexact H0
    isplitl [H1]; · iexact H1
    iapply (leaves2_idle V O B c t h2) $$ H2

/-! ## The region -/

/-- What the scan leaves in its result. -/
theorem out0 (c : Dev nD) : (dat0 V O B c).arrAt 2 cfg0.N = tcTab (V c main_arg0) (V c main_v0) := by
  refine Dat.arrAt_eq_of_after_last (dat0 V O B c) 2 (⟨31, by decide⟩ : Fin grid0.N) (by decide +kernel) _ ?_
  exact fun j => rfl

/-- Data for a pipeline that does not run here. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

abbrev adm : (p : Fin 2) → (pcfgs (F := F) p).Adm := fun p => (cfgs p).toPCfg_adm

def pd0 : (p : Fin 2) → (c : Dev nD) → Dat τ (Elt F) (HIx 1) ℕ UU ℕ (Pipeline.pin (pcfgs (F := F)) adm p) c
  | 0 => dat0 V O B
  | 1 => junkDat

set_option backward.isDefEq.respectTransparency.types false in
/-- The waits of a region's staging cells, of a core that owes no copy of its own. -/
theorem waits_of (pd : (p : Fin 2) → (c : Dev nD) → Dat τ (Elt F) (HIx 1) ℕ UU ℕ (Pipeline.pin (pcfgs (F := F)) adm p) c) (p : Fin 2) (c : Dev nD)
    (hO : ∀ n g, (pd p c).owed n g none = 0) (lv : GSem nD τ sig → HIx 1 → ℕ) (hlv : (K (F := F)).Refines lv) :
    levAts (K (F := F)).L lv ⊢ (Pipeline.cellsWaits (Pipeline.pin (pcfgs (F := F)) adm) pd none p c : sProp 𝕄) :=
  Pipeline.cellsWaits_intro (Pipeline.pin (pcfgs (F := F)) adm) pd none p c fun w s t => (K (F := F)).mayWait_none _ (hO t) lv hlv

/-- A core's obligations, its recorded waits under level `B`. -/
abbrev owing (c : Dev nD) : sProp 𝕄 := iprop(∃ W, ⌜∀ p ∈ W, (K (F := F)).lev (TT c, p.1) p.2 ≤ B⌝ ∗ owes (TT c) (O c) W)

variable (Vp : (c : Dev nD) → (b : Ref sig .tc) → Buf (Elt F) ((c : Thread nD τ).loc b))

set_option backward.isDefEq.respectTransparency.types false in
/-- The scan as a region: from every buffer at `V` to the same with its result the table of extremes. -/
def reg0 (hO : ∀ c g, O c g none = 0) (lv : GSem nD τ sig → HIx 1 → ℕ) (hlv : (K (F := F)).Refines lv) (R : Dev nD → sProp 𝕄)
    (hout : ∀ c, Vp c main_v7 = tcTab (V c main_arg0) (V c main_v0)) (hne : ∀ c (b : Ref sig .tc), b ≠ main_v7 → Vp c b = V c b) :
    Pipeline.RegionSeg (pcfgs (F := F)) adm (pd0 V O B) none defs₀ 𝒱₀ (K (F := F)).L lv 0 where
  win := (launch0).win.to₀
  block_pos := launch0.block_pos
  stage_whole := launch0.stage_whole
  K := PEmpty
  osem k := k.elim
  ho := Pipeline.OwnSemFacts.none _
  hbody c := (body0 V O B c).loose
  hwaits c := waits_of (pd0 V O B) 0 c (fun _ => hO c) lv hlv
  pre c := iprop(unscopedBufs c (V c) ∗ R c ∗ owing O B c)
  post c := iprop(unscopedBufs c (Vp c) ∗ R c ∗ owing O B c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pd0 V O B) launch0.win launch0.arr_whole c
      ((pd0 V O B 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pd0 V O B 0 c).Φ 0 = Φ0 V c 0 from rfl, show (Pipeline.scopedRest (Ix := HIx 1) (Name := ℕ) (U := UU) (Lvl := ℕ) (Val := Elt F) (Pipeline.pin (pcfgs (F := F)) adm 0).spec c : sProp 𝕄) = Pipeline.scopedRest spec0 c from rfl, scopedRest0_eq]
    iintro ⟨-, -, H0, H1, H2, H3, H4, H5, H6, H7, H8, %g, Hs⟩
    isplitl [Hs]
    · iexists g; isplitr; · ipureintro; exact TabAt_zero _ _ _
      iexact Hs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  hout c := by
    rw [Pipeline.ownSems0_none, show (pd0 V O B 0 c).Φ (Fin.last _) = Φ0 V c 32 from rfl, show (Pipeline.scopedRest (Ix := HIx 1) (Name := ℕ) (U := UU) (Lvl := ℕ) (Val := Elt F) (Pipeline.pin (pcfgs (F := F)) adm 0).spec c : sProp 𝕄) = Pipeline.scopedRest spec0 c from rfl, scopedRest0_eq]
    iintro ⟨⟨%g, -, Hs⟩, H0, H1, H2, H3, H4, H5, H6, H7, H8⟩
    isplitr; · iempintro
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists g; iexact Hs
  hexit c := by
    have hjoin := Pipeline.unscopedBufs_of_arrays (p := 0) (pcfgs (F := F)) adm (Ix := HIx 1) (Name := ℕ) (U := UU) (Lvl := ℕ) launch0.win launch0.arr_whole c
      (pd0 V O B) ((pd0 V O B 0 c).share_full fun _ => rfl) (V c) (Vp c) ((pd0 V O B 0 c).arrAt · cfg0.N)
      (fun w => by
        fin_cases w
        · exact ((pd0 V O B 0 c).arrAt_in 0 rfl _).trans (hne c main_arg0 (by decide)).symm
        · exact ((pd0 V O B 0 c).arrAt_in 1 rfl _).trans (hne c main_v0 (by decide)).symm
        · exact (out0 V O B c).trans (hout c).symm)
      (fun b hb => hne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _
end Cert.Proof.Ext
-- ==== Proof.MergeBody.lean ====
/-
  The last kernel: the merge of the two partial results, batch by batch, and the head.
-/
module
public import proofs.«01_k».proof.Proof.TcRegion
@[expose] public section
set_option maxRecDepth 65536
noncomputable section
namespace Cert.Proof.Ext
open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig (HIx 1) (Elt F) ℕ UU ℕ

/-! ## What the merge computes -/

/-- A column of 32 partial results reduced to its largest, its least entry, its sum. -/
def cmax (v : FVec F S32x1 .f32) : F .f32 := extractAt ![0, 0, 0] (shapeCast S1x1x1 (multiReduction .maximumf [1, 2] S1 (shapeCast S1x32x1 v shapeCasts_S32x1_S1x32x1) 0xFF800000#32 reduces_S1x32x1_S1 (.inl rfl) rfl) shapeCasts_S1_S1x1x1) inpos_S1x1x1_p0_0_0
def cmin (v : FVec F S32x1 .f32) : F .f32 := extractAt ![0, 0, 0] (shapeCast S1x1x1 (multiReduction .minimumf [1, 2] S1 (shapeCast S1x32x1 v shapeCasts_S32x1_S1x32x1) 0x7F800000#32 reduces_S1x32x1_S1 (.inl rfl) rfl) shapeCasts_S1_S1x1x1) inpos_S1x1x1_p0_0_0
def csum (v : FVec F S32x1 .f32) : F .f32 := extractAt ![0, 0, 0] (shapeCast S1x1x1 (multiReduction .add [1, 2] S1 (shapeCast S1x32x1 v shapeCasts_S32x1_S1x32x1) 0x00000000#32 reduces_S1x32x1_S1 (.inl rfl) rfl) shapeCasts_S1_S1x1x1) inpos_S1x1x1_p0_0_0

/-- How many entries equal `m`, as a float. -/
def cties (v : FVec F S32x1 .f32) (m : F .f32) : F .f32 :=
  csum (select (cmpf .oeq v (broadcast S32x1 m)) (broadcast S32x1 (Scalar.ofBits .f32 0x3F800000#32)) (broadcast S32x1 (Scalar.ofBits .f32 0x00000000#32)))

/-- The second least and the second largest entry of a column. -/
def cmin2 (v : FVec F S32x1 .f32) : F .f32 := Scalar.select (Scalar.cmpf .oge (cties v (cmin v)) (Scalar.ofBits .f32 0x40000000#32)) (cmin v)
  (cmin (select (cmpf .oeq v (broadcast S32x1 (cmin v))) (broadcast S32x1 (Scalar.ofBits .f32 0x7F800000#32)) v))
def cmax2 (v : FVec F S32x1 .f32) : F .f32 := Scalar.select (Scalar.cmpf .oge (cties v (cmax v)) (Scalar.ofBits .f32 0x40000000#32)) (cmax v)
  (cmax (select (cmpf .oeq v (broadcast S32x1 (cmax v))) (broadcast S32x1 (Scalar.ofBits .f32 0xFF800000#32)) v))

/-- The extremes of 32 partial extremes, column by column. -/
def gath (c1 c2 c3 c4 : FVec F S32x1 .f32) : E4 F where
  s1 := cmin c1
  s2 := Scalar.minimumf (cmin c2) (cmin2 c1)
  a2 := Scalar.maximumf (cmax c3) (cmax2 c4)
  a1 := cmax c4

/-- Column `k` of the partial results. -/
def colN (sc : FVec F S32x32 .f32) (k : ℕ) : FVec F S32x1 .f32 := fun j => sc (ix2 (j 0) ⟨k % 32, Nat.mod_lt _ (by decide)⟩)

/-- Column `k`, cut out of the table. -/
def colC (sc : FVec F S32x32 .f32) (k : ℕ) (h : S32x32.Slices ![0, k] S32x1) : FVec F S32x1 .f32 :=
  extractStridedSlice S32x1 ![0, k] (shapeCast S32x32 sc shapeCasts_S32x32_S32x32) h

theorem colC_eq (sc : FVec F S32x32 .f32) (k : ℕ) (h : S32x32.Slices ![0, k] S32x1) : colC sc k h = colN sc k := by
  unfold colC colN
  rw [shapeCast_self]
  have hk : k + 1 ≤ 32 := h.2 1
  funext j
  refine congrArg sc (funext fun a => ?_)
  fin_cases a <;> apply Fin.ext
  · show 0 + (j 0).val = (j 0).val; omega
  · have hj : (j 1).val < 1 := (j 1).isLt
    show k + (j 1).val = k % 32; omega

theorem colS (k : ℕ) (hk : k < 32) : S32x32.Slices ![0, k] S32x1 := ⟨rfl, fun a => by fin_cases a; exacts [Nat.le_refl 32, hk]⟩

/-- Batch `b`'s columns cut out of the table. -/
def gathC (sc : FVec F S32x32 .f32) (b : ℕ) (hb : b < 8) : E4 F :=
  gath (colC sc (4 * b) (colS _ (by omega))) (colC sc (4 * b + 1) (colS _ (by omega))) (colC sc (4 * b + 2) (colS _ (by omega))) (colC sc (4 * b + 3) (colS _ (by omega)))

/-- Batch `b`'s extremes over the 32 partial results. -/
def gathN (sc : FVec F S32x32 .f32) (b : ℕ) : E4 F := gath (colN sc (4 * b)) (colN sc (4 * b + 1)) (colN sc (4 * b + 2)) (colN sc (4 * b + 3))

theorem gathC_eq (sc : FVec F S32x32 .f32) (b : ℕ) (hb : b < 8) : gathC sc b hb = gathN sc b := by
  unfold gathC gathN
  rw [colC_eq, colC_eq, colC_eq, colC_eq]

/-- Four numbers as a vector. -/
def four (q : E4 F) : FVec F S4 .f32 := concatenate S4 0 [⟨S1, broadcast S1 q.s1⟩, ⟨S1, broadcast S1 q.s2⟩, ⟨S1, broadcast S1 q.a2⟩, ⟨S1, broadcast S1 q.a1⟩] concatenates_S1_S1_S1_S1_S4_d0

/-- Eight rows as a table. -/
def eight (v : Fin 8 → FVec F S4 .f32) : FVec F S8x4 .f32 :=
  concatenate S8x4 0 [⟨S1x4, shapeCast S1x4 (v 0) shapeCasts_S4_S1x4⟩, ⟨S1x4, shapeCast S1x4 (v 1) shapeCasts_S4_S1x4⟩, ⟨S1x4, shapeCast S1x4 (v 2) shapeCasts_S4_S1x4⟩, ⟨S1x4, shapeCast S1x4 (v 3) shapeCasts_S4_S1x4⟩, ⟨S1x4, shapeCast S1x4 (v 4) shapeCasts_S4_S1x4⟩, ⟨S1x4, shapeCast S1x4 (v 5) shapeCasts_S4_S1x4⟩, ⟨S1x4, shapeCast S1x4 (v 6) shapeCasts_S4_S1x4⟩, ⟨S1x4, shapeCast S1x4 (v 7) shapeCasts_S4_S1x4⟩] concatenates_S1x4_S1x4_S1x4_S1x4_S1x4_S1x4_S1x4_S1x4_S8x4_d0

theorem eight_four (q : Fin 8 → E4 F) : eight (fun b => four (q b)) = fun y => (q (y 0)).get (y 1).val := by
  funext y
  have hy : y = ix2 (y 0) (y 1) := by funext a; fin_cases a <;> rfl
  rw [hy]
  refine (eight_eq (fun b => four (q b)) (y 0) (y 1)).trans ?_
  refine (four_eq (q (y 0)).s1 (q (y 0)).s2 (q (y 0)).a2 (q (y 0)).a1 (y 1)).trans ?_
  show _ = (q (y 0)).get (y 1).val
  generalize y 1 = r
  fin_cases r <;> rfl

/-- The three layers and the normalisation over the one class. -/
def head (v : FVec F S8x4 .f32) (W1 : FVec F S4x200 .f32) (b1 : FVec F S1x200 .f32) (W2 : FVec F S200x100 .f32) (b2 : FVec F S1x100 .f32) (W3 : FVec F S100x1 .f32) (b3 : FVec F S1x1 .f32) : FVec F S8x1 .f32 :=
  have h1 : FVec F S8x200 .f32 := logistic (addf (matmul dot_S8x4_S4x200_S8x200_1_0_0_1_n_n none v (shapeCast S4x200 W1 shapeCasts_S4x200_S4x200) (constant S8x200 .f32 0x00000000#32)) (broadcastTo S8x200 (shapeCast S1x200 b1 shapeCasts_S1x200_S1x200) broadcasts_S1x200_S8x200))
  have h2 : FVec F S8x100 .f32 := logistic (addf (matmul dot_S8x200_S200x100_S8x100_1_0_0_1_n_n none h1 (shapeCast S200x100 W2 shapeCasts_S200x100_S200x100) (constant S8x100 .f32 0x00000000#32)) (broadcastTo S8x100 (shapeCast S1x100 b2 shapeCasts_S1x100_S1x100) broadcasts_S1x100_S8x100))
  have l : FVec F S8x1 .f32 := addf (matmul dot_S8x100_S100x1_S8x1_1_0_0_1_n_n none h2 (shapeCast S100x1 W3 shapeCasts_S100x1_S100x1) (constant S8x1 .f32 0x00000000#32)) (broadcastTo S8x1 (shapeCast S1x1 b3 shapeCasts_S1x1_S1x1) broadcasts_S1x1_S8x1)
  have e : FVec F S8x1 .f32 := exp (subf l (shapeCast S8x1 (multiReduction .maximumf [1] S8 l 0xFF800000#32 reduces_S8x1_S8 (.inl rfl) rfl) shapeCasts_S8_S8x1))
  divf e (shapeCast S8x1 (multiReduction .add [1] S8 e 0x00000000#32 reduces_S8x1_S8 (.inl rfl) rfl) shapeCasts_S8_S8x1)

/-- The whole of the last kernel. -/
def mergeVal (t : S8x4.Idx → F .f32) (sc : FVec F S32x32 .f32) (W1 : FVec F S4x200 .f32) (b1 : FVec F S1x200 .f32) (W2 : FVec F S200x100 .f32) (b2 : FVec F S1x100 .f32) (W3 : FVec F S100x1 .f32) (b3 : FVec F S1x1 .f32) : FVec F S8x1 .f32 :=
  head (fun y => ((rowOf t (y 0).val).merge (gathN sc (y 0).val)).get (y 1).val) W1 b1 W2 b2 W3 b3

/-- One word of the first table. -/
def wordT {c : Dev nD} (M0 : Memref Cert.KernelIdeal.sig .tc .vmem S8x4 .f32) (f0 : Bf (F := F) c M0) (off : Fin 2 → ℕ) (inb : ∀ a, off a + S1x1.size a ≤ S8x4.size a) : F .f32 :=
  extractAt ![0, 0] (M0.view.readAt (Elt F) (Rect.unit (s := S8x4) off S1x1.size inb).toLoadRect f0) inpos_S1x1_p0_0

theorem wordT_eq {c : Dev nD} (M0 : Memref Cert.KernelIdeal.sig .tc .vmem S8x4 .f32) (f0 : Bf (F := F) c M0) (b j : ℕ) (inb) : wordT M0 f0 ![b, j] inb = M0.view.read (Elt F) f0 (ixS b j) := by
  have h0 := inb 0; have h1 := inb 1
  have h0' : b + 1 ≤ 8 := h0
  have h1' : j + 1 ≤ 4 := h1
  refine congrArg (M0.view.read (Elt F) f0) (funext fun a => ?_)
  fin_cases a <;> apply Fin.ext
  · show b + 1 * 0 = b % 8; omega
  · show j + 1 * 0 = j % 4; omega

theorem inbT (b j : ℕ) (hb : b < 8) (hj : j < 4) : ∀ a, (![b, j] : Fin 2 → ℕ) a + S1x1.size a ≤ S8x4.size a := fun a => by fin_cases a; exacts [hb, hj]

/-- A row of the first table, word by word. -/
def rowT {c : Dev nD} (M0 : Memref Cert.KernelIdeal.sig .tc .vmem S8x4 .f32) (f0 : Bf (F := F) c M0) (b : ℕ) (hb : b < 8) : E4 F :=
  ⟨wordT M0 f0 ![b, 0] (inbT b 0 hb (by decide)), wordT M0 f0 ![b, 1] (inbT b 1 hb (by decide)), wordT M0 f0 ![b, 2] (inbT b 2 hb (by decide)), wordT M0 f0 ![b, 3] (inbT b 3 hb (by decide))⟩

theorem rowT_eq {c : Dev nD} (M0 : Memref Cert.KernelIdeal.sig .tc .vmem S8x4 .f32) (f0 : Bf (F := F) c M0) (b : ℕ) (hb : b < 8) : rowT M0 f0 b hb = rowOf (M0.view.read (Elt F) f0) b := by
  unfold rowT rowOf
  rw [wordT_eq, wordT_eq, wordT_eq, wordT_eq]

set_option format.width 3000 in
set_option maxHeartbeats 4000000 in
theorem merge_run (c : Dev nD) (M0 : Memref Cert.KernelIdeal.sig .tc .vmem S8x4 .f32) (w0 : M0.IsWhole) (M1 : Memref Cert.KernelIdeal.sig .tc .vmem S32x32 .f32) (w1 : M1.IsWhole)
    (M2 : Memref Cert.KernelIdeal.sig .tc .vmem S4x200 .f32) (w2 : M2.IsWhole) (M3 : Memref Cert.KernelIdeal.sig .tc .vmem S1x200 .f32) (w3 : M3.IsWhole)
    (M4 : Memref Cert.KernelIdeal.sig .tc .vmem S200x100 .f32) (w4 : M4.IsWhole) (M5 : Memref Cert.KernelIdeal.sig .tc .vmem S1x100 .f32) (w5 : M5.IsWhole)
    (M6 : Memref Cert.KernelIdeal.sig .tc .vmem S100x1 .f32) (w6 : M6.IsWhole) (M7 : Memref Cert.KernelIdeal.sig .tc .vmem S1x1 .f32) (w7 : M7.IsWhole)
    (M8 : Memref Cert.KernelIdeal.sig .tc .vmem S8x1 .f32) (w8 : M8.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) :
    iprop((M0.view.loc (TT c) ↦{fullShare} f0) ∗ (M1.view.loc (TT c) ↦{fullShare} f1) ∗ (M2.view.loc (TT c) ↦{fullShare} f2) ∗ (M3.view.loc (TT c) ↦{fullShare} f3) ∗ (M4.view.loc (TT c) ↦{fullShare} f4)
      ∗ (M5.view.loc (TT c) ↦{fullShare} f5) ∗ (M6.view.loc (TT c) ↦{fullShare} f6) ∗ (M7.view.loc (TT c) ↦{fullShare} f7) ∗ (M8.view.loc (TT c) ↦{fullShare} f8))
      ⊢ wp frame (wpE (defs₀ (F := F)) 𝒱₀ (TT c) none) Set.univ (cc2__merge_kernel M0 w0 M1 w1 M2 w2 M3 w3 M4 w4 M5 w5 M6 w6 M7 w7 M8 w8)
        fun _ => (iprop((M0.view.loc (TT c) ↦{fullShare} f0) ∗ (M1.view.loc (TT c) ↦{fullShare} f1) ∗ (M2.view.loc (TT c) ↦{fullShare} f2) ∗ (M3.view.loc (TT c) ↦{fullShare} f3) ∗ (M4.view.loc (TT c) ↦{fullShare} f4)
      ∗ (M5.view.loc (TT c) ↦{fullShare} f5) ∗ (M6.view.loc (TT c) ↦{fullShare} f6) ∗ (M7.view.loc (TT c) ↦{fullShare} f7) ∗ (M8.view.loc (TT c) ↦{fullShare} M8.view.writes (Elt F) f8 [⟨Rect.unit (s := S8x1) ![0, 0] S8x1.size inb_S8x1_S8x1_0_0, mergeVal (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7)⟩])) : sProp 𝕄) := by
  rw [cc2__merge_kernel_eq_skeleton]
  unfold cc2__merge_kernel_skel
  rw [k2_part1_eq_skeleton, k2_part2_eq_skeleton, k2_part3_eq_skeleton, k2_part4_eq_skeleton, k2_part5_eq_skeleton, k2_part6_eq_skeleton, k2_part7_eq_skeleton, k2_part8_eq_skeleton,
    k2_part9_eq_skeleton, k2_part10_eq_skeleton, k2_part11_eq_skeleton, k2_part12_eq_skeleton, k2_part13_eq_skeleton, k2_part14_eq_skeleton, k2_part15_eq_skeleton]
  iintro ⟨H0, H1, H2, H3, H4, H5, H6, H7, H8⟩
  sl_exec
  rw [wp_ret]; imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have key : merge_run.sl.r_86 c M0 M1 M2 M3 M4 M5 M6 M7 f0 f1 f2 f3 f4 f5 f6 f7
      = head (eight fun b => four ((rowT M0 f0 b.val b.isLt).merge (gathC (M1.view.readAt (Elt F) (Rect.unit (s := S32x32) ![0, 0] S32x32.size inb_S32x32_S32x32_0_0).toLoadRect f1) b.val b.isLt)))
        (M2.view.readAt (Elt F) (Rect.unit (s := S4x200) ![0, 0] S4x200.size inb_S4x200_S4x200_0_0).toLoadRect f2)
        (M3.view.readAt (Elt F) (Rect.unit (s := S1x200) ![0, 0] S1x200.size inb_S1x200_S1x200_0_0).toLoadRect f3)
        (M4.view.readAt (Elt F) (Rect.unit (s := S200x100) ![0, 0] S200x100.size inb_S200x100_S200x100_0_0).toLoadRect f4)
        (M5.view.readAt (Elt F) (Rect.unit (s := S1x100) ![0, 0] S1x100.size inb_S1x100_S1x100_0_0).toLoadRect f5)
        (M6.view.readAt (Elt F) (Rect.unit (s := S100x1) ![0, 0] S100x1.size inb_S100x1_S100x1_0_0).toLoadRect f6)
        (M7.view.readAt (Elt F) (Rect.unit (s := S1x1) ![0, 0] S1x1.size inb_S1x1_S1x1_0_0).toLoadRect f7) := by
    unfold merge_run.sl.r_86
    rfl
  rw [View.readAt_full, View.readAt_full, View.readAt_full, View.readAt_full, View.readAt_full, View.readAt_full, View.readAt_full, eight_four] at key
  simp only [rowT_eq, gathC_eq] at key
  iapply (pts_eq' (congrArg (fun V => M8.view.writes (Elt F) f8 [⟨Rect.unit (s := S8x1) ![0, 0] S8x1.size inb_S8x1_S8x1_0_0, V⟩]) key)) $$ H8
end Cert.Proof.Ext
-- ==== Proof.MergeRegion.lean ====
/-
  The last kernel as a region of @main: from the buffers at any contents to the same with the result written.
-/
module
public import proofs.«01_k».proof.Proof.MergeBody
@[expose] public section
set_option maxRecDepth 16384
noncomputable section
namespace Cert.Proof.Ext
open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)
variable {F : FTy → Type} [FloatOps F]
local notation "𝕄" => MT nD τ sig (HIx 1) (Elt F) ℕ UU ℕ

variable (V : (c : Dev nD) → (b : Ref sig .tc) → Buf (Elt F) ((c : Thread nD τ).loc b)) (O : Dev nD → CellTallies nD τ sig (HIx 1)) (B : ℕ)

/-- What the last kernel leaves in its result. -/
def mergeOut (c : Dev nD) : FVec F S8x1 .f32 := mergeVal (V c main_v7) (V c main_v8) (V c main_v1) (V c main_v2) (V c main_v3) (V c main_v4) (V c main_v5) (V c main_v6)

def dat2 (c : Dev nD) : Dat τ (Elt F) (HIx 1) ℕ UU ℕ cfg2 c where
  A w := V c (Pipeline.arrRef spec2 w)
  after w _ := match w with
    | ⟨0, _⟩ => V c main_v7
    | ⟨1, _⟩ => V c main_v8
    | ⟨2, _⟩ => V c main_v1
    | ⟨3, _⟩ => V c main_v2
    | ⟨4, _⟩ => V c main_v3
    | ⟨5, _⟩ => V c main_v4
    | ⟨6, _⟩ => V c main_v5
    | ⟨7, _⟩ => V c main_v6
    | ⟨8, _⟩ => mergeOut V c
  Φ _ := Pipeline.scopedRest (Ix := HIx 1) (Name := ℕ) (U := UU) (Lvl := ℕ) (Val := Elt F) spec2 c
  q _ := fullShare
  owed _ := O c
  recorded _ := under (F := F) B c

/-- Each window reads its whole array. -/
theorem all2 (w : Window Cert.KernelIdeal.sig grid2) (h : ∀ a, w.index t2_0 a = 0) (j) (a) : ((w.rect t2_0).emb j a : ℕ) = j a := w.rect_emb_val_of_index_zero t2_0 a (h a) j

/-- Each input window holds its array when the body runs. -/
theorem before2 (c : Dev nD) :
    (∀ d, (dat2 V O B c).before 0 t2_0 d = V c main_v7)
    ∧ (∀ d, (dat2 V O B c).before 1 t2_0 d = V c main_v8)
    ∧ (∀ d, (dat2 V O B c).before 2 t2_0 d = V c main_v1)
    ∧ (∀ d, (dat2 V O B c).before 3 t2_0 d = V c main_v2)
    ∧ (∀ d, (dat2 V O B c).before 4 t2_0 d = V c main_v3)
    ∧ (∀ d, (dat2 V O B c).before 5 t2_0 d = V c main_v4)
    ∧ (∀ d, (dat2 V O B c).before 6 t2_0 d = V c main_v5)
    ∧ (∀ d, (dat2 V O B c).before 7 t2_0 d = V c main_v6) := by
  refine ⟨fun d => ?_, fun d => ?_, fun d => ?_, fun d => ?_, fun d => ?_, fun d => ?_, fun d => ?_, fun d => ?_⟩ <;> (unfold Dat.before; rw [if_pos (by decide)])
  · exact funext fun j => congrArg (V c main_v7) (funext fun a => Fin.ext (all2 win2_0 (fun _ => rfl) j a))
  · exact funext fun j => congrArg (V c main_v8) (funext fun a => Fin.ext (all2 win2_1 (fun _ => rfl) j a))
  · exact funext fun j => congrArg (V c main_v1) (funext fun a => Fin.ext (all2 win2_2 (fun _ => rfl) j a))
  · exact funext fun j => congrArg (V c main_v2) (funext fun a => Fin.ext (all2 win2_3 (fun _ => rfl) j a))
  · exact funext fun j => congrArg (V c main_v3) (funext fun a => Fin.ext (all2 win2_4 (fun _ => rfl) j a))
  · exact funext fun j => congrArg (V c main_v4) (funext fun a => Fin.ext (all2 win2_5 (fun _ => rfl) j a))
  · exact funext fun j => congrArg (V c main_v5) (funext fun a => Fin.ext (all2 win2_6 (fun _ => rfl) j a))
  · exact funext fun j => congrArg (V c main_v6) (funext fun a => Fin.ext (all2 win2_7 (fun _ => rfl) j a))

/-- The body over owned windows. -/
theorem step_merge (c : Dev nD) (M0 : Memref Cert.KernelIdeal.sig .tc .vmem S8x4 .f32) (w0 : M0.IsWhole)
    (M1 : Memref Cert.KernelIdeal.sig .tc .vmem S32x32 .f32) (w1 : M1.IsWhole)
    (M2 : Memref Cert.KernelIdeal.sig .tc .vmem S4x200 .f32) (w2 : M2.IsWhole)
    (M3 : Memref Cert.KernelIdeal.sig .tc .vmem S1x200 .f32) (w3 : M3.IsWhole)
    (M4 : Memref Cert.KernelIdeal.sig .tc .vmem S200x100 .f32) (w4 : M4.IsWhole)
    (M5 : Memref Cert.KernelIdeal.sig .tc .vmem S1x100 .f32) (w5 : M5.IsWhole)
    (M6 : Memref Cert.KernelIdeal.sig .tc .vmem S100x1 .f32) (w6 : M6.IsWhole)
    (M7 : Memref Cert.KernelIdeal.sig .tc .vmem S1x1 .f32) (w7 : M7.IsWhole)
    (M8 : Memref Cert.KernelIdeal.sig .tc .vmem S8x1 .f32) (w8 : M8.IsWhole)
    (X0 : S8x4.Idx → F .f32) (X1 : S32x32.Idx → F .f32) (X2 : S4x200.Idx → F .f32) (X3 : S1x200.Idx → F .f32) (X4 : S200x100.Idx → F .f32) (X5 : S1x100.Idx → F .f32) (X6 : S100x1.Idx → F .f32) (X7 : S1x1.Idx → F .f32) (X8 : S8x1.Idx → F .f32) :
    iprop(owns (TT c) M0 fullShare X0 ∗ owns (TT c) M1 fullShare X1 ∗ owns (TT c) M2 fullShare X2 ∗ owns (TT c) M3 fullShare X3 ∗ owns (TT c) M4 fullShare X4 ∗ owns (TT c) M5 fullShare X5 ∗ owns (TT c) M6 fullShare X6 ∗ owns (TT c) M7 fullShare X7 ∗ owns (TT c) M8 fullShare X8)
      ⊢ wp frame (wpE (defs₀ (F := F)) 𝒱₀ (TT c) none) Set.univ (cc2__merge_kernel M0 w0 M1 w1 M2 w2 M3 w3 M4 w4 M5 w5 M6 w6 M7 w7 M8 w8)
        fun _ => (iprop(owns (TT c) M0 fullShare X0 ∗ owns (TT c) M1 fullShare X1 ∗ owns (TT c) M2 fullShare X2 ∗ owns (TT c) M3 fullShare X3 ∗ owns (TT c) M4 fullShare X4 ∗ owns (TT c) M5 fullShare X5 ∗ owns (TT c) M6 fullShare X6 ∗ owns (TT c) M7 fullShare X7 ∗ owns (TT c) M8 fullShare (mergeVal X0 X1 X2 X3 X4 X5 X6 X7)) : sProp 𝕄) := by
  rw [owns_of_whole c M0 w0, owns_of_whole c M1 w1, owns_of_whole c M2 w2, owns_of_whole c M3 w3, owns_of_whole c M4 w4, owns_of_whole c M5 w5, owns_of_whole c M6 w6, owns_of_whole c M7 w7, owns_of_whole c M8 w8, owns_of_whole c M8 w8]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩⟩
  subst e0 e1 e2 e3 e4 e5 e6 e7
  iapply (wp_wand_r Idealize.ShloMosaic.frame (wpE (defs₀ (F := F)) 𝒱₀ (TT c) none) Set.univ)
  isplitl [H0 H1 H2 H3 H4 H5 H6 H7 H8]
  · iapply (merge_run c M0 w0 M1 w1 M2 w2 M3 w3 M4 w4 M5 w5 M6 w6 M7 w7 M8 w8 f0 f1 f2 f3 f4 f5 f6 f7 f8)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨H0, H1, H2, H3, H4, H5, H6, H7, H8⟩
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  iexists _; isplitr; swap; (· iexact H8); ipureintro; exact View.read_writes_full M8.view f8 inb_S8x1_S8x1_0_0 _ []

theorem body2 (c : Dev nD) : BodyObligation (dat2 V O B c) (defs₀ (F := F)) 𝒱₀ none Set.univ := fun t => by
  obtain rfl := fin_N2 t
  obtain ⟨b0, b1, b2, b3, b4, b5, b6, b7⟩ := before2 V O B c
  rw [bigSep_W2, bigSep_W2]
  show iprop((dat2 V O B c).Φ 0 ∗ (dat2 V O B c).owesAt none t2_0.castSucc
      ∗ (∃ d, owns (TT c) (st2_0 t2_0) fullShare ((dat2 V O B c).before 0 t2_0 d))
      ∗ (∃ d, owns (TT c) (st2_1 t2_0) fullShare ((dat2 V O B c).before 1 t2_0 d))
      ∗ (∃ d, owns (TT c) (st2_2 t2_0) fullShare ((dat2 V O B c).before 2 t2_0 d))
      ∗ (∃ d, owns (TT c) (st2_3 t2_0) fullShare ((dat2 V O B c).before 3 t2_0 d))
      ∗ (∃ d, owns (TT c) (st2_4 t2_0) fullShare ((dat2 V O B c).before 4 t2_0 d))
      ∗ (∃ d, owns (TT c) (st2_5 t2_0) fullShare ((dat2 V O B c).before 5 t2_0 d))
      ∗ (∃ d, owns (TT c) (st2_6 t2_0) fullShare ((dat2 V O B c).before 6 t2_0 d))
      ∗ (∃ d, owns (TT c) (st2_7 t2_0) fullShare ((dat2 V O B c).before 7 t2_0 d))
      ∗ (∃ d, owns (TT c) (st2_8 t2_0) fullShare ((dat2 V O B c).before 8 t2_0 d)))
    ⊢ wp frame (wpE (defs₀ (F := F)) 𝒱₀ (TT c) none) Set.univ (bodyAt2 t2_0) fun _ => iprop((dat2 V O B c).Φ 0 ∗ (dat2 V O B c).owesAt none t2_0.castSucc
      ∗ owns (TT c) (st2_0 t2_0) fullShare (V c main_v7) ∗ owns (TT c) (st2_1 t2_0) fullShare (V c main_v8) ∗ owns (TT c) (st2_2 t2_0) fullShare (V c main_v1) ∗ owns (TT c) (st2_3 t2_0) fullShare (V c main_v2) ∗ owns (TT c) (st2_4 t2_0) fullShare (V c main_v3) ∗ owns (TT c) (st2_5 t2_0) fullShare (V c main_v4) ∗ owns (TT c) (st2_6 t2_0) fullShare (V c main_v5) ∗ owns (TT c) (st2_7 t2_0) fullShare (V c main_v6)
      ∗ owns (TT c) (st2_8 t2_0) fullShare (mergeOut V c))
  simp only [b0, b1, b2, b3, b4, b5, b6, b7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) 𝒱₀ (TT c) none) Set.univ)
  isplitl [H0 H1 H2 H3 H4 H5 H6 H7 H8]
  · iapply (step_merge c (win2_0.stage (cfg2.slots t2_0 0)) (hstage2_0 0) (win2_1.stage (cfg2.slots t2_0 1)) (hstage2_1 0) (win2_2.stage (cfg2.slots t2_0 2)) (hstage2_2 0) (win2_3.stage (cfg2.slots t2_0 3)) (hstage2_3 0) (win2_4.stage (cfg2.slots t2_0 4)) (hstage2_4 0) (win2_5.stage (cfg2.slots t2_0 5)) (hstage2_5 0) (win2_6.stage (cfg2.slots t2_0 6)) (hstage2_6 0) (win2_7.stage (cfg2.slots t2_0 7)) (hstage2_7 0) (win2_8.stage (cfg2.slots t2_0 8)) (hstage2_8 0)
      (V c main_v7) (V c main_v8) (V c main_v1) (V c main_v2) (V c main_v3) (V c main_v4) (V c main_v5) (V c main_v6) ((dat2 V O B c).before 8 t2_0 d8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem out2 (c : Dev nD) : (dat2 V O B c).arrAt 8 cfg2.N = mergeOut V c := by
  refine Dat.arrAt_eq_of_after_last (dat2 V O B c) 8 t2_0 (by decide +kernel) _ ?_
  exact fun j => rfl

def pd2 : (p : Fin 2) → (c : Dev nD) → Dat τ (Elt F) (HIx 1) ℕ UU ℕ (Pipeline.pin (pcfgs (F := F)) adm p) c
  | 0 => junkDat
  | 1 => dat2 V O B

variable (Vp : (c : Dev nD) → (b : Ref sig .tc) → Buf (Elt F) ((c : Thread nD τ).loc b))

set_option backward.isDefEq.respectTransparency.types false in
/-- The last kernel as a region: from every buffer at `V` to the same with its result written. -/
def reg2 (hO : ∀ c g, O c g none = 0) (lv : GSem nD τ sig → HIx 1 → ℕ) (hlv : (K (F := F)).Refines lv) (R : Dev nD → sProp 𝕄)
    (hout : ∀ c, Vp c main_v9 = mergeOut V c) (hne : ∀ c (b : Ref sig .tc), b ≠ main_v9 → Vp c b = V c b) :
    Pipeline.RegionSeg (pcfgs (F := F)) adm (pd2 V O B) none defs₀ 𝒱₀ (K (F := F)).L lv 1 where
  win := (launch2).win.to₀
  block_pos := launch2.block_pos
  stage_whole := launch2.stage_whole
  K := PEmpty
  osem k := k.elim
  ho := Pipeline.OwnSemFacts.none _
  hbody c := (body2 V O B c).loose
  hwaits c := waits_of (pd2 V O B) 1 c (fun _ => hO c) lv hlv
  pre c := iprop(unscopedBufs c (V c) ∗ R c ∗ owing O B c)
  post c := iprop(unscopedBufs c (Vp c) ∗ R c ∗ owing O B c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pd2 V O B) launch2.win launch2.arr_whole c
      ((pd2 V O B 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pd2 V O B 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pd2 V O B 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pd2 V O B) ((pd2 V O B 1 c).share_full fun _ => rfl) (V c) (Vp c) ((pd2 V O B 1 c).arrAt · cfg2.N)
      (fun w => by
        fin_cases w
        · exact ((pd2 V O B 1 c).arrAt_in 0 rfl _).trans (hne c main_v7 (by decide)).symm
        · exact ((pd2 V O B 1 c).arrAt_in 1 rfl _).trans (hne c main_v8 (by decide)).symm
        · exact ((pd2 V O B 1 c).arrAt_in 2 rfl _).trans (hne c main_v1 (by decide)).symm
        · exact ((pd2 V O B 1 c).arrAt_in 3 rfl _).trans (hne c main_v2 (by decide)).symm
        · exact ((pd2 V O B 1 c).arrAt_in 4 rfl _).trans (hne c main_v3 (by decide)).symm
        · exact ((pd2 V O B 1 c).arrAt_in 5 rfl _).trans (hne c main_v4 (by decide)).symm
        · exact ((pd2 V O B 1 c).arrAt_in 6 rfl _).trans (hne c main_v5 (by decide)).symm
        · exact ((pd2 V O B 1 c).arrAt_in 7 rfl _).trans (hne c main_v6 (by decide)).symm
        · exact (out2 V O B c).trans (hout c).symm)
      (fun b hb => hne c b fun h => hb (h ▸ Finset.mem_image.mpr ⟨8, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _
end Cert.Proof.Ext
-- ==== Proof.Run.lean ====
/-
  The whole program's run: the host operations, the TensorCore's first kernel, the SparseCore call and the last kernel, from
  any memory to the arrays at known contents, and the frame of the printed kernel and of its idealization.
-/
module

public import proofs.«01_k».proof.Proof.TileObl
public import proofs.«01_k».proof.Proof.MergeRegion

@[expose] public section

set_option maxRecDepth 16384

noncomputable section

namespace Cert.Proof.Ext

open Cert.KernelIdeal Cert.KernelIdeal.Gen

open Idealize.ShloMosaic Idealize.ShloMosaic.TcCoe
open Idealize.ShloMosaic.SparseCore (S V T)
open Idealize.ShloMosaic.Transfers
open Idealize.ShloMosaic.StableHlo (held)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev hop0 : HloOp τ sig (Elt F) := StableHlo.reshape main_arg1 main_v0 (rfl : (.f32 : EltTy) = .f32) shapeCasts_S2048_S1x2048
abbrev hop1 : HloOp τ sig (Elt F) := StableHlo.unary main_arg2 main_v1 ((transpose S4x200 [1, 0] · transposes_S200x4_S4x200_1_0) : (⟨S200x4, .f32⟩ : BufTy).Contents (Elt F) → (⟨S4x200, .f32⟩ : BufTy).Contents (Elt F))
abbrev hop2 : HloOp τ sig (Elt F) := StableHlo.reshape main_arg3 main_v2 (rfl : (.f32 : EltTy) = .f32) shapeCasts_S200_S1x200
abbrev hop3 : HloOp τ sig (Elt F) := StableHlo.unary main_arg4 main_v3 ((transpose S200x100 [1, 0] · transposes_S100x200_S200x100_1_0) : (⟨S100x200, .f32⟩ : BufTy).Contents (Elt F) → (⟨S200x100, .f32⟩ : BufTy).Contents (Elt F))
abbrev hop4 : HloOp τ sig (Elt F) := StableHlo.reshape main_arg5 main_v4 (rfl : (.f32 : EltTy) = .f32) shapeCasts_S100_S1x100
abbrev hop5 : HloOp τ sig (Elt F) := StableHlo.unary main_arg6 main_v5 ((transpose S100x1 [1, 0] · transposes_S1x100_S100x1_1_0) : (⟨S1x100, .f32⟩ : BufTy).Contents (Elt F) → (⟨S100x1, .f32⟩ : BufTy).Contents (Elt F))
abbrev hop6 : HloOp τ sig (Elt F) := StableHlo.reshape main_arg7 main_v6 (rfl : (.f32 : EltTy) = .f32) shapeCasts_S1_S1x1

abbrev dr (b : Ref sig .tc) : DevRef τ sig := Proc.devRef .tc b

def V0 (d : Dev nD) : Valuation τ sig (Elt F) := fun b => m (d, b)
def V7 (d : Dev nD) : Valuation τ sig (Elt F) :=
  hop6.result (hop5.result (hop4.result (hop3.result (hop2.result (hop1.result (hop0.result (V0 m d)))))))

/-- The arrays after the first kernel, after the SparseCore call, at the end. -/
def V8 (d : Dev nD) : Valuation τ sig (Elt F) := Function.update (V7 m d) (dr main_v7) (tcTab (V7 m d (dr main_arg0)) (V7 m d (dr main_v0)))
def V9 (d : Dev nD) : Valuation τ sig (Elt F) := Function.update (V8 m d) (dr main_v8) (scOut (m (xLoc d)) (m (eLoc d)))
def V10 (d : Dev nD) : Valuation τ sig (Elt F) := Function.update (V9 m d) (dr main_v9) (mergeOut (fun c b => V9 m c (dr b)) d)

abbrev SU : Finset (DevRef τ sig) := Pipeline.ucRefs τ sig

theorem sub_SU (op : HloOp τ sig (Elt F)) (h : op.bufs ⊆ StableHlo.tcRefs τ sig) : op.bufs ⊆ SU := Pipeline.sub_ucRefs op h

theorem V7_ne (d : Dev nD) (b : Ref sig .tc) (h : ∀ k ∈ ([main_v0, main_v1, main_v2, main_v3, main_v4, main_v5, main_v6] : List (Ref sig .tc)), b ≠ k) :
    V7 m d (dr b) = m (d, dr b) := by
  have hne : ∀ k : Ref sig .tc, b ≠ k → dr b ∉ ({dr k} : Finset (DevRef τ sig)) := fun k hk hm => hk (Proc.devRef_injective _ (Finset.mem_singleton.mp hm))
  unfold V7
  rw [(hop6 (F := F)).result_of_not_mem _ (hne main_v6 (h _ (by decide))), (hop5 (F := F)).result_of_not_mem _ (hne main_v5 (h _ (by decide))),
    (hop4 (F := F)).result_of_not_mem _ (hne main_v4 (h _ (by decide))), (hop3 (F := F)).result_of_not_mem _ (hne main_v3 (h _ (by decide))),
    (hop2 (F := F)).result_of_not_mem _ (hne main_v2 (h _ (by decide))), (hop1 (F := F)).result_of_not_mem _ (hne main_v1 (h _ (by decide))),
    (hop0 (F := F)).result_of_not_mem _ (hne main_v0 (h _ (by decide)))]
  rfl

/-! ## The launch element -/

abbrev pins := Pipeline.pin (pcfgs (F := F)) adm

def u₀ : UU := (initOf (K (F := F)).hsCells (K (F := F)).hsToks, (initOf (Pipeline.cells (pins (F := F)) cellOf_inj) (Pipeline.launchToks (pins (F := F)) cellOf_inj), 1))

/-- What @main holds of the two pipelines. -/
def G (d : Dev nD) : sProp 𝕄 :=
  iprop((bigSep Finset.univ fun p : Fin 2 => Pipeline.cellsGhost (pins (F := F)) EP p d) ∗ bigSep Finset.univ fun p : Fin 2 => Pipeline.toksInit (pins (F := F)) EP p d)

abbrev PM := P (fun d => m (xLoc d)) (fun d => m (eLoc d))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PM m).x q thr) := by
  unfold u₀
  iintro Hu
  ihave H := (ownU_pair _ _) $$ Hu
  icases H with ⟨HH, HP⟩
  ihave H := (own_pair_emb embR _ _) $$ HP
  icases H with ⟨HP, -⟩
  have hf : (BI.own ((Emb.inl.trans embR : Emb UP 𝕄) (initOf (Pipeline.cells (pins (F := F)) cellOf_inj) (Pipeline.launchToks (pins (F := F)) cellOf_inj))) : sProp 𝕄) ⊢ _ :=
    Pipeline.fund_ghost (pins (F := F)) EP cellOf_inj
  imod hf $$ HP with ⟨Hg, Ht⟩
  imodintro
  isplitl [HH]; · iexact HH
  isplitl [Hg Ht]
  · unfold G; rw [bigSep_sep']; isplitl [Hg] <;> iassumption
  rw [show (bigSep Finset.univ fun thr : Thread nD τ => bigSep Finset.univ fun q : Fin 1 => (PM m).x q thr) = (iprop(emp) : sProp 𝕄) from
    (bigSep_congr fun _ _ => bigSep_univ_of_subsingleton (0 : Fin 1)).trans (bigSep_emp_const _)]
  iempintro

/-! ## @main -/

/-- A kernel region as the SparseCore program enters it. -/
theorem region_wp [∀ e, Nonempty (Elt F e)] {p : Fin 2} (pd : (p : Fin 2) → (c : Dev nD) → Pipeline.Dat τ (Elt F) (HIx 1) ℕ UU ℕ (pins (F := F) p) c)
    (R : Pipeline.RegionSeg (pcfgs (F := F)) adm pd none defs₀ 𝒱₀ (K (F := F)).L (K (F := F)).lev p) (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (pins (F := F)) EP p d ∗ Pipeline.toksInit (pins (F := F)) EP p d)
      ⊢ wp frame (wpE ((K (F := F)).defs (D (F := F))) 𝒱 (T d) none) Set.univ (Prog.lift (.customCall (SparseCore.inner (Pipeline.entry p)) ())) Φ := by
  have h := R.wp pcfgs adm pd none cellOf_inj EP defs₀ 𝒱₀ (K (F := F)).L (K (F := F)).lev d none (fun _ h => nomatch h) (fun _ => .ret ⟨⟩) Φ
  have h2 := (K (F := F)).wp_liftProg (D (F := F)) 𝒱 (T d) Set.univ none (.op (.customCall (Pipeline.entry p) ()) fun _ => .ret ⟨⟩) Φ
  refine (?_ : iprop(_) ⊢ iprop(_)).trans (h.trans h2)
  iintro ⟨Hk, Hb, Hp, Hl, Hg, Ht⟩
  isplitl [Hk]
  · iintro H
    rw [wp_ret]; imodintro; iapply Hk; iexact H
  isplitl [Hb]; · iexact Hb
  isplitl [Hp]; · iexact Hp
  isplitl [Hl]; · iexact Hl
  isplitl [Hg] <;> iassumption

abbrev x' : DevRef τ sig := dr main_arg0
abbrev e' : DevRef τ sig := dr main_arg1
abbrev o' : DevRef τ sig := dr main_v8
abbrev SR : Finset (DevRef τ sig) := SU \ {x', e', o'}

theorem held_SU (d : Dev nD) (W : Valuation τ sig (Elt F)) :
    (held (T d) SU W : sProp 𝕄) = iprop((xLoc d ↦{fullShare} W x') ∗ (eLoc d ↦{fullShare} W e') ∗ (oLoc d ↦{fullShare} W o') ∗ held (T d) SR W) := by
  unfold held
  rw [show (SU : Finset (DevRef τ sig)) = insert x' (insert e' (insert o' SR)) by decide, SparseCore.bigSep_insert' (by decide), SparseCore.bigSep_insert' (by decide),
    SparseCore.bigSep_insert' (by decide)]

theorem V8_ne (d : Dev nD) (b : DevRef τ sig) (h : b ≠ dr main_v7) : V8 m d b = V7 m d b := Function.update_of_ne h _ _
theorem V9_ne (d : Dev nD) (b : DevRef τ sig) (h : b ≠ dr main_v8) : V9 m d b = V8 m d b := Function.update_of_ne h _ _
theorem V10_ne (d : Dev nD) (b : DevRef τ sig) (h : b ≠ dr main_v9) : V10 m d b = V9 m d b := Function.update_of_ne h _ _

theorem V8_x (d : Dev nD) : V8 m d x' = m (xLoc d) := (V8_ne m d x' (by decide)).trans (V7_ne m d main_arg0 (by decide))
theorem V8_e (d : Dev nD) : V8 m d e' = m (eLoc d) := (V8_ne m d e' (by decide)).trans (V7_ne m d main_arg1 (by decide))

theorem held_V9 (d : Dev nD) : (held (T d) SU (V9 m d) : sProp 𝕄)
    = iprop((xLoc d ↦{fullShare} m (xLoc d)) ∗ (eLoc d ↦{fullShare} m (eLoc d)) ∗ (oLoc d ↦{fullShare} scOut (m (xLoc d)) (m (eLoc d))) ∗ held (T d) SR (V8 m d)) := by
  rw [held_SU, V9_ne m d x' (by decide), V9_ne m d e' (by decide), V8_x, V8_e, show V9 m d o' = scOut (m (xLoc d)) (m (eLoc d)) from Function.update_self _ _ _,
    StableHlo.held_congr (T d) (V := V9 m d) (V' := V8 m d) fun b hb => V9_ne m d b fun h => by subst h; revert hb; decide]

theorem Otc_none (n : ℕ) (c : Dev nD) (g : GSem nD τ sig) : (K (F := F)).Otc (N := 1) c n g none = 0 := by
  unfold SparseCore.Cfg.Otc
  rw [Fin.sum_univ_one]
  split
  · rw [Finset.sum_apply, Finsupp.finset_sum_apply]
    refine Finset.sum_eq_zero fun q _ => ?_
    unfold tallyAt
    by_cases h : g = (K (F := F)).startCell c ((K (F := F)).core 0 q)
    · subst h; rw [tallyOn_self]; simp
    · rw [tallyOn_ne h]; rfl
  · rfl

/-- The two regions over the arrays. -/
def regA [∀ e, Nonempty (Elt F e)] := reg0 (fun c b => V7 m c (dr b)) (fun c => (K (F := F)).Otc c 0) (8 * SparseCore.Cfg.Blocks.fst 1 1 0) (fun c b => V8 m c (dr b)) (Otc_none 0) (K (F := F)).lev
  (K (F := F)).refines_self (fun _ => iprop(emp)) (fun c => Function.update_self _ _ _) (fun c b h => V8_ne m c (dr b) fun e => h (Proc.devRef_injective _ e))
def regB [∀ e, Nonempty (Elt F e)] := reg2 (fun c b => V9 m c (dr b)) (fun c => (K (F := F)).Otc c 1) (8 * SparseCore.Cfg.Blocks.fst 1 1 1) (fun c b => V10 m c (dr b)) (Otc_none 1) (K (F := F)).lev
  (K (F := F)).refines_self (fun _ => iprop(emp)) (fun c => Function.update_self _ _ _) (fun c b h => V10_ne m c (dr b) fun e => h (Proc.devRef_injective _ e))

theorem unscoped_SU (d : Dev nD) (W : Valuation τ sig (Elt F)) : (unscopedBufs d (fun b => W (dr b)) : sProp 𝕄) = held (T d) SU W :=
  Pipeline.unscopedBufs_held d W

theorem G_eq (d : Dev nD) : (G d : sProp 𝕄) = iprop((Pipeline.cellsGhost (pins (F := F)) EP 0 d ∗ Pipeline.cellsGhost (pins (F := F)) EP 1 d)
    ∗ Pipeline.toksInit (pins (F := F)) EP 0 d ∗ Pipeline.toksInit (pins (F := F)) EP 1 d) := by
  unfold G; rw [bigSep_fin_two, bigSep_fin_two]; rfl

theorem unscoped_V0 (d : Dev nD) : (unscopedBufs d (fun b => m ((SparseCore.T d).loc b)) : sProp 𝕄) = held (T d) SU (V0 m d) := by
  rw [← unscoped_SU d (V0 m d)]; rfl

theorem regA_pre [∀ e, Nonempty (Elt F e)] (d : Dev nD) : (regA m).pre d = iprop(held (T d) SU (V7 m d) ∗ emp
    ∗ ∃ W, ⌜(K (F := F)).WBelow (T d) W (8 * SparseCore.Cfg.Blocks.fst 1 1 0)⌝ ∗ owes (T d) ((K (F := F)).Otc d 0) W) := by
  rw [← unscoped_SU d (V7 m d)]; rfl
theorem regA_post [∀ e, Nonempty (Elt F e)] (d : Dev nD) : (regA m).post d = iprop(held (T d) SU (V8 m d) ∗ emp
    ∗ ∃ W, ⌜(K (F := F)).WBelow (T d) W (8 * SparseCore.Cfg.Blocks.fst 1 1 0)⌝ ∗ owes (T d) ((K (F := F)).Otc d 0) W) := by
  rw [← unscoped_SU d (V8 m d)]; rfl
theorem regB_pre [∀ e, Nonempty (Elt F e)] (d : Dev nD) : (regB m).pre d = iprop(held (T d) SU (V9 m d) ∗ emp
    ∗ ∃ W, ⌜(K (F := F)).WBelow (T d) W (8 * SparseCore.Cfg.Blocks.fst 1 1 1)⌝ ∗ owes (T d) ((K (F := F)).Otc d 1) W) := by
  rw [← unscoped_SU d (V9 m d)]; rfl
theorem regB_post [∀ e, Nonempty (Elt F e)] (d : Dev nD) : (regB m).post d = iprop(held (T d) SU (V10 m d) ∗ emp
    ∗ ∃ W, ⌜(K (F := F)).WBelow (T d) W (8 * SparseCore.Cfg.Blocks.fst 1 1 1)⌝ ∗ owes (T d) ((K (F := F)).Otc d 1) W) := by
  rw [← unscoped_SU d (V10 m d)]; rfl

/-- What @main leaves the claim: every array at its contents at the end. -/
abbrev FIN (d : Dev nD) : sProp 𝕄 := held (T d) SU (V10 m d)

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_V0]
  rw [G_eq]
  simp only [main, wp_bind, wp_pure]
  iintro ⟨#Hctx, Hst, ⟨Hb, Hh, Hts, -⟩, ⟨Hg0, Hg1⟩, Ht0, Ht1⟩
  ihave #Hl := ((K (F := F)).ctx_levAts (EH := EH) (P := PM m) κ) $$ Hctx
  -- the host operations
  iapply (StableHlo.wp_hlo_within 𝒱 (T d) none Set.univ (op := hop0) (S := SU) (sub_SU hop0 (show ({dr main_arg1, dr main_v0} : Finset (DevRef τ sig)) ⊆ StableHlo.tcRefs τ sig by decide)) (V := V0 m d)) $$ [Hb Hh]
  · isplitl [Hb] <;> iassumption
  iintro ⟨Hb, Hh⟩
  rw [wp_ret]; imodintro
  iapply (StableHlo.wp_hlo_within 𝒱 (T d) none Set.univ (op := hop1) (S := SU) (sub_SU hop1 (show ({dr main_arg2, dr main_v1} : Finset (DevRef τ sig)) ⊆ StableHlo.tcRefs τ sig by decide))) $$ [Hb Hh]
  · isplitl [Hb] <;> iassumption
  iintro ⟨Hb, Hh⟩
  rw [wp_ret]; imodintro
  iapply (StableHlo.wp_hlo_within 𝒱 (T d) none Set.univ (op := hop2) (S := SU) (sub_SU hop2 (show ({dr main_arg3, dr main_v2} : Finset (DevRef τ sig)) ⊆ StableHlo.tcRefs τ sig by decide))) $$ [Hb Hh]
  · isplitl [Hb] <;> iassumption
  iintro ⟨Hb, Hh⟩
  rw [wp_ret]; imodintro
  iapply (StableHlo.wp_hlo_within 𝒱 (T d) none Set.univ (op := hop3) (S := SU) (sub_SU hop3 (show ({dr main_arg4, dr main_v3} : Finset (DevRef τ sig)) ⊆ StableHlo.tcRefs τ sig by decide))) $$ [Hb Hh]
  · isplitl [Hb] <;> iassumption
  iintro ⟨Hb, Hh⟩
  rw [wp_ret]; imodintro
  iapply (StableHlo.wp_hlo_within 𝒱 (T d) none Set.univ (op := hop4) (S := SU) (sub_SU hop4 (show ({dr main_arg5, dr main_v4} : Finset (DevRef τ sig)) ⊆ StableHlo.tcRefs τ sig by decide))) $$ [Hb Hh]
  · isplitl [Hb] <;> iassumption
  iintro ⟨Hb, Hh⟩
  rw [wp_ret]; imodintro
  iapply (StableHlo.wp_hlo_within 𝒱 (T d) none Set.univ (op := hop5) (S := SU) (sub_SU hop5 (show ({dr main_arg6, dr main_v5} : Finset (DevRef τ sig)) ⊆ StableHlo.tcRefs τ sig by decide))) $$ [Hb Hh]
  · isplitl [Hb] <;> iassumption
  iintro ⟨Hb, Hh⟩
  rw [wp_ret]; imodintro
  iapply (StableHlo.wp_hlo_within 𝒱 (T d) none Set.univ (op := hop6) (S := SU) (sub_SU hop6 (show ({dr main_arg7, dr main_v6} : Finset (DevRef τ sig)) ⊆ StableHlo.tcRefs τ sig by decide))) $$ [Hb Hh]
  · isplitl [Hb] <;> iassumption
  iintro ⟨Hb, Hh⟩
  rw [wp_ret]; imodintro
  -- the first kernel
  unfold SparseCore.Cfg.tcSt
  icases Hst with ⟨Hw, Hst⟩
  iapply (region_wp _ (regA m) d _)
  isplitr [Hb Hh Hw Hg0 Ht0]
  swap
  · isplitl [Hb]; · iexact Hb
    isplitl [Hh Hw]
    · rw [regA_pre]
      isplitl [Hh]; · iexact Hh
      isplitr; · iempintro
      iexact Hw
    isplitr; · iexact Hl
    isplitl [Hg0]; · iexact Hg0
    iexact Ht0
  rw [regA_post]
  iintro ⟨Hb, Hh, -, Hw⟩
  ihave Hh := (Entails.of_eq (held_SU (F := F) d _)) $$ Hh
  rw [V8_x, V8_e]
  icases Hh with ⟨Hx, He, Ho, Hr⟩
  ihave Hx := (pointsTo_toks_split fullShare 2) $$ Hx
  icases Hx with ⟨Hxr, Hx⟩
  ihave He := (pointsTo_toks_split fullShare 2) $$ He
  icases He with ⟨Her, He⟩
  -- the SparseCore call
  iapply ((K (F := F)).wp_run (D (F := F)) 𝒱 (EH := EH) (P := PM m) κ d 0) $$ [Hst Hw Hx He Ho Hxr Her Hr Hb Hts Hg1 Ht1]
  isplitr; · iexact Hctx
  isplitl [Hst Hw]
  · unfold SparseCore.Cfg.tcSt
    isplitl [Hw]; · iexact Hw
    iexact Hst
  isplitl [Hx He Ho]
  · iapply (st0_of (fun d => m (xLoc d)) (fun d => m (eLoc d)) d _)
    isplitl [Hx]; · iexact Hx
    isplitl [He]; · iexact He
    iexact Ho
  iintro ⟨Hst, Hdn⟩
  ihave Hdn := (Entails.of_eq (dn0_of (fun d => m (xLoc d)) (fun d => m (eLoc d)) d)) $$ Hdn
  icases Hdn with ⟨Hx, He, Ho⟩
  ihave Hx := (pointsTo_toks_join fullShare 2) $$ [Hxr Hx]
  · isplitl [Hxr] <;> iassumption
  ihave He := (pointsTo_toks_join fullShare 2) $$ [Her He]
  · isplitl [Her] <;> iassumption
  ihave Hh := (Entails.of_eq (held_V9 (F := F) m d).symm) $$ [Hx He Ho Hr]
  · isplitl [Hx]; · iexact Hx
    isplitl [He]; · iexact He
    isplitl [Ho] <;> iassumption
  -- the last kernel
  unfold SparseCore.Cfg.tcSt
  icases Hst with ⟨Hw, Hst⟩
  iapply (region_wp _ (regB m) d _)
  isplitr [Hb Hh Hw Hg1 Ht1]
  swap
  · isplitl [Hb]; · iexact Hb
    isplitl [Hh Hw]
    · rw [regB_pre]
      isplitl [Hh]; · iexact Hh
      isplitr; · iempintro
      iexact Hw
    isplitr; · iexact Hl
    isplitl [Hg1]; · iexact Hg1
    iexact Ht1
  rw [regB_post]
  iintro ⟨Hb, Hh, -, Hw⟩
  imodintro
  isplitl [Hst Hw]
  · isplitl [Hw]; · iexact Hw
    iexact Hst
  isplitl [Hh]; · iexact Hh
  isplitl [Hb] <;> iassumption

def fq (d : Dev nD) (s' : Phys nD τ sig (Elt F)) : Prop := ∀ b ∈ (SU : Finset (DevRef τ sig)), s'.mem.mem (d, b) = V10 m d b

theorem hfin (d : Dev nD) (s' : Phys nD τ sig (Elt F)) : iprop(FIN m d ∗ SI s') ⊢ (⌜fq m d s'⌝ : sProp 𝕄) := by
  iintro ⟨Hx, HSI⟩
  ihave Hx := (Entails.of_eq (show (FIN m d : sProp 𝕄) = bigSep SU fun b => (d, b) ↦{fullShare} V10 m d b from rfl)) $$ Hx
  iapply (SI_pointsTo_bufs_agree (st := s') (c := d) (qs := fun _ => fullShare) (F := V10 m d) SU)
  isplitl [HSI]; · iexact HSI
  iexact Hx

/-! ## The program's run -/

def QC : PUnit × MemSt nD τ sig (Elt F) → Prop :=
  fun r => (∀ c : Dev nD, ∀ b ∈ (SU : Finset (DevRef τ sig)), r.2.mem (c, b) = V10 m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (fun d => m (xLoc d)) (fun d => m (eLoc d)))
    (fun q _ => match q with | 0 => SparseCore.Cfg.VecSplit.of_plain (vecSplit (fun d => m (xLoc d)) (fun d => m (eLoc d))))
    m ρ main (fun d => G d) (FIN m) (u₀ (F := F)) (sep_elim_left.trans (hu₀ m)) (hmain m ρ) (fq m) (hfin m) (QC m) (fun _ h hz => ⟨h, hz⟩)

end Cert.Proof.Ext
-- ==== Proof.Frames.lean ====
/-
  The frames: the arguments end at their launch contents, every semaphore at zero.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Proof.Ext

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7]

/-- An argument is at the end what it was at launch. -/
theorem V10_arg (d : Dev nD) (b : Ref sig .tc) (hb : b ∈ argRefs) : V10 m d (dr b) = m (d, dr b) := by
  have h : ∀ b ∈ argRefs, dr b ≠ dr main_v9 ∧ dr b ≠ dr main_v8 ∧ dr b ≠ dr main_v7
      ∧ ∀ k ∈ ([main_v0, main_v1, main_v2, main_v3, main_v4, main_v5, main_v6] : List (Ref sig .tc)), b ≠ k := by decide
  obtain ⟨h9, h8, h7, h0⟩ := h b hb
  rw [V10_ne m d _ h9, V9_ne m d _ h8, V8_ne m d _ h7, V7_ne m d b h0]

theorem QC_arg {r : PUnit × MemSt nD τ sig (Elt F)} (h : QC m r) (c : Dev nD) (b : Ref sig .tc) (hb : b ∈ argRefs) :
    r.2.mem (c, dr b) = m (c, dr b) := by
  have hs : ∀ b ∈ argRefs, dr b ∈ (SU : Finset (DevRef τ sig)) := by decide
  rw [h.1 c _ (hs b hb), V10_arg m c b hb]

/-- The run's end as the claims state it: the result at its value, the arguments unchanged, the semaphores at zero. -/
theorem run_end [∀ e, Nonempty (Elt F e)] : θ_run (Cert.KernelIdeal.defs (F := F)) (Cert.KernelIdeal.threads (F := F)) ⟨m, fun _ => 0, ρ⟩ (fun r =>
    (∀ c : Dev nD, r.2.mem ((c.tc : Thread nD τ).loc main_v9) = V10 m c (dr main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run (Cert.KernelIdeal.defs (F := F)) _ _).mono (fun r h => ⟨fun c => ⟨h.1 c (dr main_v9) (by decide), QC_arg m h c main_arg0 (by decide),
    QC_arg m h c main_arg1 (by decide), QC_arg m h c main_arg2 (by decide), QC_arg m h c main_arg3 (by decide), QC_arg m h c main_arg4 (by decide),
    QC_arg m h c main_arg5 (by decide), QC_arg m h c main_arg6 (by decide), QC_arg m h c main_arg7 (by decide)⟩, h.2⟩) (run_main m ρ)

theorem frame_kernelIdeal : Cert.quiescent_KernelIdeal := fun m g _ =>
  (θ_run (Cert.KernelIdeal.defs (F := Ideal)) _ _).mono (fun _ h => ⟨fun c => (h.1 c).2, h.2⟩) (run_end (F := Ideal) m g)

theorem frame_referenceIdeal : Cert.quiescent_ReferenceIdeal := fun m g _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m g)

-- the two printed programs are one text: equal by unfolding
set_option smartUnfolding false in
set_option maxHeartbeats 8000000 in
theorem frame_kernel : Cert.quiescent_Kernel := fun m g _ =>
  (θ_run (Cert.KernelIdeal.defs (F := Bits)) _ _).mono (fun _ h => ⟨fun c => (h.1 c).2, h.2⟩) (run_end (F := Bits) m g)

end Cert.Proof.Ext
-- ==== Proof.Extremes.lean ====
/-
  The two least values of a family, said by what lies below them; how they are found by merging, by counting, by sorting.
  Over any linear order, so that the two largest are the same statement over the reversed order.
-/
module

public import Idealize.ShloMosaic.PureOps.Ideal.Laws
public import Mathlib.Order.BoundedOrder.Basic
public import Mathlib.Data.Finset.Fold
public import Mathlib.Order.Lattice

@[expose] public section

noncomputable section

namespace Cert.Proof.Ext

open Idealize.ShloMosaic

variable {α : Type} [LinearOrder α] {ι κ : Type}

/-- `a` and `b` are the least and the second least of the values `f i`, `i ∈ s`, repetitions counted. -/
def Lo (s : Finset ι) (f : ι → α) (a b : α) : Prop :=
  (∀ x, x ≤ a ↔ ∀ i ∈ s, x ≤ f i) ∧ (∀ x, x ≤ b ↔ ∀ i ∈ s, ∀ j ∈ s, i ≠ j → x ≤ f i ∨ x ≤ f j)

theorem Lo.unique {s : Finset ι} {f : ι → α} {a b a' b' : α} (h : Lo s f a b) (h' : Lo s f a' b') : a = a' ∧ b = b' :=
  ⟨le_antisymm ((h'.1 a).2 ((h.1 a).1 le_rfl)) ((h.1 a').2 ((h'.1 a').1 le_rfl)),
    le_antisymm ((h'.2 b).2 ((h.2 b).1 le_rfl)) ((h.2 b').2 ((h'.2 b').1 le_rfl))⟩

theorem Lo.congr {s : Finset ι} {f g : ι → α} {a b : α} (h : Lo s f a b) (hfg : ∀ i ∈ s, f i = g i) : Lo s g a b := by
  refine ⟨fun x => (h.1 x).trans ⟨fun H i hi => hfg i hi ▸ H i hi, fun H i hi => (hfg i hi).symm ▸ H i hi⟩,
    fun x => (h.2 x).trans ⟨fun H i hi j hj ne => ?_, fun H i hi j hj ne => ?_⟩⟩
  · rw [← hfg i hi, ← hfg j hj]; exact H i hi j hj ne
  · rw [hfg i hi, hfg j hj]; exact H i hi j hj ne

theorem Lo.image [DecidableEq κ] {s : Finset ι} {f : κ → α} {e : ι → κ} {a b : α} (he : ∀ i ∈ s, ∀ j ∈ s, e i = e j → i = j)
    (h : Lo s (fun i => f (e i)) a b) : Lo (s.image e) f a b := by
  refine ⟨fun x => (h.1 x).trans ⟨fun H k hk => ?_, fun H i hi => H _ (Finset.mem_image_of_mem e hi)⟩,
    fun x => (h.2 x).trans ⟨fun H k hk k' hk' ne => ?_, fun H i hi j hj ne => H _ (Finset.mem_image_of_mem e hi) _ (Finset.mem_image_of_mem e hj) fun e => ne (he i hi j hj e)⟩⟩
  · obtain ⟨i, hi, rfl⟩ := Finset.mem_image.mp hk
    exact H i hi
  · obtain ⟨i, hi, rfl⟩ := Finset.mem_image.mp hk
    obtain ⟨j, hj, rfl⟩ := Finset.mem_image.mp hk'
    exact H i hi j hj fun h => ne (h ▸ rfl)

theorem Lo.empty (f : ι → α) {t : α} (ht : ∀ x, x ≤ t) : Lo ∅ f t t :=
  ⟨fun x => ⟨fun _ i hi => absurd hi (Finset.notMem_empty i), fun _ => ht x⟩, fun x => ⟨fun _ i hi => absurd hi (Finset.notMem_empty i), fun _ => ht x⟩⟩

theorem Lo.single (f : ι → α) (i : ι) {t : α} (ht : ∀ x, x ≤ t) : Lo {i} f (f i) t := by
  refine ⟨fun x => ⟨fun h j hj => ?_, fun h => h i (Finset.mem_singleton_self i)⟩, fun x => ⟨fun _ j hj k hk ne => ?_, fun _ => ht x⟩⟩
  · rw [Finset.mem_singleton.mp hj]; exact h
  · exact absurd ((Finset.mem_singleton.mp hj).trans (Finset.mem_singleton.mp hk).symm) ne

theorem Lo.union [DecidableEq ι] {s t : Finset ι} {f : ι → α} {a b a' b' : α} (hd : Disjoint s t) (h : Lo s f a b) (h' : Lo t f a' b') :
    Lo (s ∪ t) f (min a a') (min (max a a') (min b b')) := by
  have hne : ∀ i ∈ s, ∀ j ∈ t, i ≠ j := fun i hi j hj e => Finset.disjoint_left.mp hd hi (e ▸ hj)
  refine ⟨fun x => ?_, fun x => ?_⟩
  · rw [le_min_iff, h.1, h'.1]
    exact ⟨fun H i hi => (Finset.mem_union.mp hi).elim (H.1 i) (H.2 i), fun H => ⟨fun i hi => H i (Finset.mem_union_left t hi), fun i hi => H i (Finset.mem_union_right s hi)⟩⟩
  · rw [le_min_iff, le_min_iff, le_max_iff, h.1, h'.1, h.2, h'.2]
    constructor
    · rintro ⟨H0, H1, H2⟩ i hi j hj ne
      rcases Finset.mem_union.mp hi with hi | hi <;> rcases Finset.mem_union.mp hj with hj | hj
      · exact H1 i hi j hj ne
      · exact H0.imp (fun H => H i hi) (fun H => H j hj)
      · exact (H0.imp (fun H => H j hj) (fun H => H i hi)).symm
      · exact H2 i hi j hj ne
    · intro H
      refine ⟨?_, fun i hi j hj ne => H i (Finset.mem_union_left t hi) j (Finset.mem_union_left t hj) ne,
        fun i hi j hj ne => H i (Finset.mem_union_right s hi) j (Finset.mem_union_right s hj) ne⟩
      by_cases hs : ∀ i ∈ s, x ≤ f i
      · exact .inl hs
      · push Not at hs
        obtain ⟨i, hi, hx⟩ := hs
        exact .inr fun j hj => (H i (Finset.mem_union_left t hi) j (Finset.mem_union_right s hj) (hne i hi j hj)).resolve_left (not_le.mpr hx)

/-- One more value. -/
theorem Lo.insert [DecidableEq ι] {s : Finset ι} {f : ι → α} {a b t : α} (ht : ∀ x, x ≤ t) (i : ι) (hi : i ∉ s) (h : Lo s f a b) :
    Lo (Insert.insert i s) f (min a (f i)) (min (max a (f i)) b) := by
  have := h.union (Finset.disjoint_singleton_right.mpr hi) (Lo.single f i ht)
  rw [min_eq_left (ht b), Finset.union_comm] at this
  exact this

/-- Families of families: the least of the leasts; the second is a second of one family or the second of the leasts. -/
theorem Lo.biUnion [DecidableEq ι] {W : Finset κ} {S : κ → Finset ι} {f : ι → α} {c1 c2 : κ → α} {m1 m2 n2 : α} (hd : ∀ w ∈ W, ∀ w' ∈ W, w ≠ w' → Disjoint (S w) (S w'))
    (hS : ∀ w ∈ W, Lo (S w) f (c1 w) (c2 w)) (h1 : Lo W c1 m1 m2) (h2 : ∀ x, x ≤ n2 ↔ ∀ w ∈ W, x ≤ c2 w) : Lo (W.biUnion S) f m1 (min n2 m2) := by
  refine ⟨fun x => ?_, fun x => ?_⟩
  · rw [h1.1]
    refine ⟨fun H i hi => ?_, fun H w hw => ((hS w hw).1 x).2 fun i hi => H i (Finset.mem_biUnion.mpr ⟨w, hw, hi⟩)⟩
    obtain ⟨w, hw, hi⟩ := Finset.mem_biUnion.mp hi
    exact ((hS w hw).1 x).1 (H w hw) i hi
  · rw [le_min_iff, h2, h1.2]
    constructor
    · rintro ⟨H2, H1⟩ i hi j hj ne
      obtain ⟨w, hw, hi⟩ := Finset.mem_biUnion.mp hi
      obtain ⟨w', hw', hj⟩ := Finset.mem_biUnion.mp hj
      by_cases e : w = w'
      · subst e; exact ((hS w hw).2 x).1 (H2 w hw) i hi j hj ne
      · exact (H1 w hw w' hw' e).imp (fun H => ((hS w hw).1 x).1 H i hi) (fun H => ((hS w' hw').1 x).1 H j hj)
    · intro H
      refine ⟨fun w hw => ((hS w hw).2 x).2 fun i hi j hj ne => H i (Finset.mem_biUnion.mpr ⟨w, hw, hi⟩) j (Finset.mem_biUnion.mpr ⟨w, hw, hj⟩) ne,
        fun w hw w' hw' e => ?_⟩
      by_cases hs : x ≤ c1 w
      · exact .inl hs
      · rw [(hS w hw).1] at hs
        push Not at hs
        obtain ⟨i, hi, hx⟩ := hs
        refine .inr (((hS w' hw').1 x).2 fun j hj => (H i (Finset.mem_biUnion.mpr ⟨w, hw, hi⟩) j (Finset.mem_biUnion.mpr ⟨w', hw', hj⟩) fun e' => ?_).resolve_left (not_le.mpr hx))
        subst e'
        exact Finset.disjoint_left.mp (hd w hw w' hw' e) hi hj

/-- By counting: the least again if two attain it, else the least of the rest, the attaining one put at the top. -/
theorem Lo.count [Fintype ι] [DecidableEq ι] {f : ι → α} {a r t : α} (ht : ∀ x, x ≤ t) (ha : ∀ x, x ≤ a ↔ ∀ i, x ≤ f i)
    (hr : ∀ x, x ≤ r ↔ ∀ i, x ≤ if f i = a then t else f i) (hne : Nonempty ι) :
    Lo Finset.univ f a (if 2 ≤ (Finset.univ.filter fun i => f i = a).card then a else r) := by
  have hle : ∀ i, a ≤ f i := (ha a).1 le_rfl
  refine ⟨fun x => (ha x).trans ⟨fun H i _ => H i, fun H i => H i (Finset.mem_univ i)⟩, fun x => ?_⟩
  split_ifs with hc
  · obtain ⟨i, hi, j, hj, ne⟩ := Finset.one_lt_card.mp hc
    have hi := (Finset.mem_filter.mp hi).2
    have hj := (Finset.mem_filter.mp hj).2
    refine ⟨fun H i' _ _ _ _ => .inl (H.trans (hle i')), fun H => ?_⟩
    have := H i (Finset.mem_univ i) j (Finset.mem_univ j) ne
    rwa [hi, hj, or_self] at this
  · have hone : ∀ i j, f i = a → f j = a → i = j := fun i j hi hj => by
      by_contra ne
      exact hc (Finset.one_lt_card.mpr ⟨i, Finset.mem_filter.mpr ⟨Finset.mem_univ i, hi⟩, j, Finset.mem_filter.mpr ⟨Finset.mem_univ j, hj⟩, ne⟩)
    rw [hr]
    refine ⟨fun H i _ j _ ne => ?_, fun H i => ?_⟩
    · by_cases hi : f i = a
      · have := H j
        rw [if_neg fun hj => ne (hone i j hi hj)] at this
        exact .inr this
      · have := H i
        rw [if_neg hi] at this
        exact .inl this
    · split_ifs with hi
      · exact ht x
      · -- some index attains the least value
        obtain ⟨k, hk⟩ : ∃ k, f k = a := by
          by_contra hno
          push Not at hno
          obtain ⟨k, -, hk⟩ := Finset.exists_min_image Finset.univ f ⟨hne.some, Finset.mem_univ _⟩
          exact absurd ((ha (f k)).2 fun i => hk i (Finset.mem_univ i)) (not_le.mpr (lt_of_le_of_ne (hle k) (hno k).symm))
        rcases H k (Finset.mem_univ k) i (Finset.mem_univ i) (fun e => hi (e ▸ hk)) with h | h
        · exact (h.trans_eq hk).trans (hle i)
        · exact h

/-- By sorting: the first two of the values in ascending order. -/
theorem Lo.sorted {n : ℕ} {f : Fin n → α} (σ : Fin n → Fin n) (hσ : Function.Bijective σ) (hs : ∀ i j, i ≤ j → f (σ i) ≤ f (σ j)) (h0 : 0 < n) (h1 : 1 < n) :
    Lo Finset.univ f (f (σ ⟨0, h0⟩)) (f (σ ⟨1, h1⟩)) := by
  refine ⟨fun x => ⟨fun H i _ => ?_, fun H => H _ (Finset.mem_univ _)⟩, fun x => ⟨fun H i _ j _ ne => ?_, fun H => ?_⟩⟩
  · obtain ⟨k, rfl⟩ := hσ.2 i
    exact H.trans (hs _ _ (Nat.zero_le _))
  · obtain ⟨k, rfl⟩ := hσ.2 i
    obtain ⟨k', rfl⟩ := hσ.2 j
    by_cases hk : k.val = 0
    · refine .inr (H.trans (hs _ _ ?_))
      show 1 ≤ k'.val
      rcases Nat.eq_zero_or_pos k'.val with h | h
      · exact absurd (congrArg σ (Fin.ext (hk.trans h.symm))) ne
      · exact h
    · exact .inl (H.trans (hs _ _ (Nat.pos_of_ne_zero hk)))
  · have ne : σ ⟨0, h0⟩ ≠ σ ⟨1, h1⟩ := fun e => absurd (congrArg Fin.val (hσ.1 e)) (by simp)
    rcases H _ (Finset.mem_univ _) _ (Finset.mem_univ _) ne with h | h
    · exact h.trans (hs _ _ (Nat.zero_le _))
    · exact h

/-! ## The host's sort -/

theorem perm_insertBefore (b : ι → ι → Bool) (a : ι) (l : List ι) : (insertBefore b a l).Perm (a :: l) := by
  induction l with
  | nil => exact List.Perm.refl _
  | cons c l ih =>
    unfold insertBefore
    split
    · exact (ih.cons c).trans (List.Perm.swap a c l)
    · exact List.Perm.refl _

theorem perm_stableSort (b : ι → ι → Bool) (l : List ι) : (stableSort b l).Perm l := by
  induction l with
  | nil => exact List.Perm.refl _
  | cons a l ih => exact (perm_insertBefore b a _).trans (ih.cons a)

theorem sorted_insertBefore (f : ι → α) (a : ι) (l : List ι) (h : l.Pairwise fun i j => f i ≤ f j) :
    (insertBefore (fun i j => decide (f i < f j)) a l).Pairwise fun i j => f i ≤ f j := by
  induction l with
  | nil => exact List.pairwise_singleton _ _
  | cons c l ih =>
    rw [List.pairwise_cons] at h
    unfold insertBefore
    split
    · rename_i hc
      have hc : f c < f a := of_decide_eq_true hc
      refine List.pairwise_cons.mpr ⟨fun i hi => ?_, ih h.2⟩
      rcases List.mem_cons.mp ((perm_insertBefore _ a l).mem_iff.mp hi) with e | hi
      · rw [e]; exact hc.le
      · exact h.1 i hi
    · rename_i hc
      have hc : f a ≤ f c := not_lt.mp fun h => hc (decide_eq_true h)
      refine List.pairwise_cons.mpr ⟨fun i hi => ?_, List.pairwise_cons.mpr h⟩
      rcases List.mem_cons.mp hi with e | hi
      · rw [e]; exact hc
      · exact hc.trans (h.1 i hi)

theorem sorted_stableSort (f : ι → α) (l : List ι) : (stableSort (fun i j => decide (f i < f j)) l).Pairwise fun i j => f i ≤ f j := by
  induction l with
  | nil => exact List.Pairwise.nil
  | cons a l ih => exact sorted_insertBefore f a _ ih

theorem sortedFrom_mono {n : ℕ} (f : Fin n → α) (i j : Fin n) (h : i ≤ j) :
    f (sortedFrom (fun k k' => decide (f k < f k')) i) ≤ f (sortedFrom (fun k k' => decide (f k < f k')) j) := by
  rcases h.lt_or_eq with h | h
  · exact List.pairwise_iff_get.mp (sorted_stableSort f (List.finRange n)) (i.cast (length_sortPositions n _).symm) (j.cast (length_sortPositions n _).symm) h
  · rw [h]

theorem sortedFrom_bijective {n : ℕ} (b : Fin n → Fin n → Bool) : Function.Bijective (sortedFrom b) := by
  refine Finite.injective_iff_bijective.mp fun i j h => ?_
  have hn : (sortPositions n b).Nodup := (perm_stableSort b (List.finRange n)).nodup_iff.mpr (List.nodup_finRange n)
  have := List.nodup_iff_injective_get.mp hn h
  exact Fin.ext (by simpa using congrArg Fin.val this)

end Cert.Proof.Ext
-- ==== Proof.Ranks.lean ====
/-
  At the extended reals: a chunk's extremes, as the two kernels count them, are the two least and the two largest of its values.
-/
module

public import proofs.«01_k».proof.Proof.Extremes
public import proofs.«01_k».proof.Proof.MergeBody
public import proofs.«01_k».proof.Proof.TileObl

@[expose] public section

set_option maxRecDepth 16384

noncomputable section

namespace Cert.Proof.Ext

open Cert.KernelIdeal Cert.KernelIdeal.Gen
open Idealize.ShloMosaic

/-! ## Reductions of a whole vector -/

theorem top_word : Ideal.ofBits .f32 0x7F800000#32 = (⊤ : EReal) := by simp [Ideal.ofBits, Ideal.ieee]
theorem bot_word : Ideal.ofBits .f32 0xFF800000#32 = (⊥ : EReal) := by simp [Ideal.ofBits, Ideal.ieee]
theorem one_word : Ideal.ofBits .f32 0x3F800000#32 = (1 : EReal) := by
  rw [show (1 : EReal) = ((1 : ℝ) : EReal) by norm_cast]
  simp [Ideal.ofBits, Ideal.ieee, -EReal.coe_mul]; norm_num
theorem two_word : Ideal.ofBits .f32 0x40000000#32 = (2 : EReal) := by
  rw [show (2 : EReal) = ((2 : ℝ) : EReal) by norm_cast]
  simp [Ideal.ofBits, Ideal.ieee, -EReal.coe_mul]; norm_num
theorem zero_word : Ideal.ofBits .f32 0x00000000#32 = (0 : EReal) := by simp

section Total
variable {s u t : Shape} {axes : List (Fin u.rank)} (hc : s.ShapeCasts u) (h : u.Reduces axes t) (ht : ∀ b, t.size b = 1)

include ht in
theorem filter_drop_univ (j : t.Idx) : (Finset.univ.filter fun i => h.drop i = j) = Finset.univ :=
  Finset.filter_true_of_mem fun i _ => funext fun b => Fin.ext (by
    have := (h.drop i b).isLt; have := (j b).isLt; have := ht b; omega)

include ht in
theorem total_min (v : FVec Ideal s .f32) (j : t.Idx) (hφ : FKind.Formats .f32) (hacc) (x : EReal) :
    x ≤ multiReduction .minimumf axes t (shapeCast u v hc) 0x7F800000#32 h hφ hacc j ↔ ∀ i, x ≤ v i := by
  rw [multiReduction_minimumf_eq_fold, filter_drop_univ h ht]
  refine (Finset.le_fold_min (s := Finset.univ) (f := shapeCast u v hc) (b := Ideal.ofBits .f32 0x7F800000#32) x).trans ?_
  rw [top_word]
  exact ⟨fun H i => by have := H.2 ((Shape.reshapeEquiv hc).symm i) (Finset.mem_univ _); rwa [shapeCast, Equiv.apply_symm_apply] at this,
    fun H => ⟨le_top, fun i _ => H _⟩⟩

include ht in
theorem total_max (v : FVec Ideal s .f32) (j : t.Idx) (hφ : FKind.Formats .f32) (hacc) (x : EReal) :
    multiReduction .maximumf axes t (shapeCast u v hc) 0xFF800000#32 h hφ hacc j ≤ x ↔ ∀ i, v i ≤ x := by
  rw [multiReduction_maximumf_eq_fold, filter_drop_univ h ht]
  refine (Finset.fold_max_le (s := Finset.univ) (f := shapeCast u v hc) (b := Ideal.ofBits .f32 0xFF800000#32) x).trans ?_
  rw [bot_word]
  exact ⟨fun H i => by have := H.2 ((Shape.reshapeEquiv hc).symm i) (Finset.mem_univ _); rwa [shapeCast, Equiv.apply_symm_apply] at this,
    fun H => ⟨bot_le, fun i _ => H _⟩⟩

include ht in
theorem total_add (v : FVec Ideal s .f32) (j : t.Idx) (hφ : FKind.Formats .f32) (hacc) :
    multiReduction .add axes t (shapeCast u v hc) 0x00000000#32 h hφ hacc j = ∑ i, v i := by
  rw [Ideal.multiReduction_add_total _ _ h ht]
  exact Equiv.sum_comp (Shape.reshapeEquiv hc) v

end Total

/-! ## Counting -/

theorem select_true {α : Type} (c : Prop) [Decidable c] (a b : α) : Scalar.select (BitVec.ofBool (decide c)) a b = if c then a else b := by
  by_cases h : c <;> simp [Scalar.select, h]

theorem count_sum {ι : Type} [Fintype ι] (v : ι → EReal) (m : EReal) :
    (∑ i, Scalar.select (Ideal.cmp .oeq (v i) m) (Ideal.ofBits .f32 0x3F800000#32) (Ideal.ofBits .f32 0x00000000#32)) = ((Finset.univ.filter fun i => v i = m).card : EReal) := by
  rw [one_word, zero_word]
  have : ∀ i, Scalar.select (Ideal.cmp .oeq (v i) m) (1 : EReal) 0 = if v i = m then 1 else 0 := fun i => select_true (v i = m) _ _
  simp only [this, Finset.sum_boole]

theorem select_count (n : ℕ) (a b : EReal) : Scalar.select (Ideal.cmp .oge (n : EReal) (Ideal.ofBits .f32 0x40000000#32)) a b = if 2 ≤ n then a else b := by
  rw [two_word]
  refine (select_true ((2 : EReal) ≤ (n : EReal)) a b).trans ?_
  have : ((2 : EReal) ≤ (n : EReal)) ↔ 2 ≤ n := by
    rw [show (2 : EReal) = ((2 : ℕ) : EReal) from rfl]; exact Nat.cast_le
  by_cases h : 2 ≤ n
  · rw [if_pos h, if_pos (this.mpr h)]
  · rw [if_neg h, if_neg fun h' => h (this.mp h')]

/-- The two largest: the two least over the reversed order. -/
abbrev Hi {ι : Type} (s : Finset ι) (f : ι → EReal) (a b : EReal) : Prop := Lo (α := ERealᵒᵈ) s f a b

/-- `q` holds the extremes of the values `f i`, `i ∈ s`. -/
structure Holds {ι : Type} (s : Finset ι) (f : ι → EReal) (q : E4 Ideal) : Prop where
  lo : Lo s f q.s1 q.s2
  hi : Hi s f q.a1 q.a2

theorem Holds.unique {ι : Type} {s : Finset ι} {f : ι → EReal} {q q' : E4 Ideal} (h : Holds s f q) (h' : Holds s f q') : q = q' := by
  have a := h.lo.unique h'.lo
  have b := Lo.unique (α := ERealᵒᵈ) h.hi h'.hi
  cases q; cases q'
  simp only [E4.mk.injEq]
  exact ⟨a.1, a.2, b.2, b.1⟩

theorem Holds.empty {ι : Type} (f : ι → EReal) : Holds ∅ f e0 := by
  have h1 : (Scalar.ofBits .f32 0x7F800000#32 : Ideal .f32) = ⊤ := top_word
  have h2 : (Scalar.ofBits .f32 0xFF800000#32 : Ideal .f32) = ⊥ := bot_word
  refine ⟨?_, ?_⟩
  · show Lo ∅ f (Scalar.ofBits .f32 0x7F800000#32 : Ideal .f32) (Scalar.ofBits .f32 0x7F800000#32 : Ideal .f32)
    rw [h1]; exact Lo.empty f fun x => le_top
  · show Hi ∅ f (Scalar.ofBits .f32 0xFF800000#32 : Ideal .f32) (Scalar.ofBits .f32 0xFF800000#32 : Ideal .f32)
    rw [h2]; exact Lo.empty (α := ERealᵒᵈ) f fun x => (bot_le : (⊥ : EReal) ≤ x)

theorem Holds.merge {ι : Type} [DecidableEq ι] {s t : Finset ι} {f : ι → EReal} {q c : E4 Ideal} (hd : Disjoint s t) (h : Holds s f q) (h' : Holds t f c) :
    Holds (s ∪ t) f (q.merge c) :=
  ⟨Lo.union hd h.lo h'.lo, Lo.union (α := ERealᵒᵈ) hd h.hi h'.hi⟩

theorem Holds.image {ι κ : Type} [DecidableEq κ] {s : Finset ι} {f : κ → EReal} {e : ι → κ} {q : E4 Ideal} (he : ∀ i ∈ s, ∀ j ∈ s, e i = e j → i = j)
    (h : Holds s (fun i => f (e i)) q) : Holds (s.image e) f q :=
  ⟨Lo.image he h.lo, Lo.image (α := ERealᵒᵈ) he h.hi⟩

/-! ## A chunk of the first kernel, a column of the last -/

theorem S1_one : ∀ b, S1.size b = 1 := by intro b; fin_cases b; rfl

theorem rmin_le (v : FVec Ideal S1x1664 .f32) (x : EReal) : x ≤ rmin v ↔ ∀ i, x ≤ v i := total_min shapeCasts_S1x1664_S1x1x1664 reduces_S1x1x1664_S1 S1_one v _ (.inl rfl) rfl x
theorem le_rmax (v : FVec Ideal S1x1664 .f32) (x : EReal) : rmax v ≤ x ↔ ∀ i, v i ≤ x := total_max shapeCasts_S1x1664_S1x1x1664 reduces_S1x1x1664_S1 S1_one v _ (.inl rfl) rfl x
theorem ties_eq (v : S1x1664.Idx → EReal) (m : EReal) : ties (F := Ideal) v m = ∑ i, Scalar.select (Ideal.cmp .oeq (v i) m) (Ideal.ofBits .f32 0x3F800000#32) (Ideal.ofBits .f32 0x00000000#32) :=
  (total_add shapeCasts_S1x1664_S1x1x1664 reduces_S1x1x1664_S1 S1_one _ _ (.inl rfl) rfl)

theorem cmin_le (v : FVec Ideal S32x1 .f32) (x : EReal) : x ≤ cmin v ↔ ∀ i, x ≤ v i := total_min shapeCasts_S32x1_S1x32x1 reduces_S1x32x1_S1 S1_one v _ (.inl rfl) rfl x
theorem le_cmax (v : FVec Ideal S32x1 .f32) (x : EReal) : cmax v ≤ x ↔ ∀ i, v i ≤ x := total_max shapeCasts_S32x1_S1x32x1 reduces_S1x32x1_S1 S1_one v _ (.inl rfl) rfl x
theorem cties_eq (v : S32x1.Idx → EReal) (m : EReal) : cties (F := Ideal) v m = ∑ i, Scalar.select (Ideal.cmp .oeq (v i) m) (Ideal.ofBits .f32 0x3F800000#32) (Ideal.ofBits .f32 0x00000000#32) :=
  (total_add shapeCasts_S32x1_S1x32x1 reduces_S1x32x1_S1 S1_one _ _ (.inl rfl) rfl)

/-- A masked entry. -/
theorem mask_top (x m t : EReal) (w : EReal) (hw : w = t) : Scalar.select (Ideal.cmp .oeq x m) w x = if x = m then t else x := by
  rw [hw]; exact select_true (x = m) _ _

theorem two_least {ι : Type} [Fintype ι] [DecidableEq ι] [Nonempty ι] (v : ι → EReal) (a r w tie : EReal) (ha : ∀ x, x ≤ a ↔ ∀ i, x ≤ v i) (hw : w = ⊤)
    (ht : tie = ∑ i, Scalar.select (Ideal.cmp .oeq (v i) a) (Ideal.ofBits .f32 0x3F800000#32) (Ideal.ofBits .f32 0x00000000#32)) (hr : ∀ x, x ≤ r ↔ ∀ i, x ≤ Scalar.select (Ideal.cmp .oeq (v i) a) w (v i)) :
    Lo Finset.univ v a (Scalar.select (Ideal.cmp .oge tie (Ideal.ofBits .f32 0x40000000#32)) a r) := by
  rw [ht, count_sum, select_count]
  exact Lo.count (f := v) (a := a) (t := (⊤ : EReal)) (r := r) (fun x => le_top) ha (fun x => (hr x).trans (forall_congr' fun i => by
    rw [← mask_top (v i) a ⊤ _ hw])) inferInstance

theorem two_most {ι : Type} [Fintype ι] [DecidableEq ι] [Nonempty ι] (v : ι → EReal) (a r w tie : EReal) (ha : ∀ x, a ≤ x ↔ ∀ i, v i ≤ x) (hw : w = ⊥)
    (ht : tie = ∑ i, Scalar.select (Ideal.cmp .oeq (v i) a) (Ideal.ofBits .f32 0x3F800000#32) (Ideal.ofBits .f32 0x00000000#32)) (hr : ∀ x, r ≤ x ↔ ∀ i, Scalar.select (Ideal.cmp .oeq (v i) a) w (v i) ≤ x) :
    Hi Finset.univ v a (Scalar.select (Ideal.cmp .oge tie (Ideal.ofBits .f32 0x40000000#32)) a r) := by
  rw [ht, count_sum, select_count]
  exact Lo.count (α := ERealᵒᵈ) (f := v) (a := a) (t := (⊥ : EReal)) (r := r) (fun x => (bot_le : (⊥ : EReal) ≤ x)) ha (fun x => (hr x).trans (forall_congr' fun i => by
    rw [mask_top (v i) a ⊥ _ hw]; exact Iff.rfl)) inferInstance

instance nonempty_row : Nonempty S1x1664.Idx := ⟨fun a => ⟨0, match a with | 0 => Nat.one_pos | 1 => Nat.succ_pos _⟩⟩
instance nonempty_col : Nonempty S32x1.Idx := ⟨fun a => ⟨0, match a with | 0 => Nat.succ_pos _ | 1 => Nat.one_pos⟩⟩

/-- The least but one of a chunk, and the largest but one, as the first kernel counts them. -/
def rmin2 (v : FVec Ideal S1x1664 .f32) : EReal := Scalar.select (Scalar.cmpf .oge (ties v (rmin v)) (Scalar.ofBits .f32 0x40000000#32)) (rmin v)
  (rmin (select (cmpf .oeq v (broadcast S1x1664 (rmin v))) (broadcast S1x1664 (Scalar.ofBits .f32 0x7F800000#32)) v))
def rmax2 (v : FVec Ideal S1x1664 .f32) : EReal := Scalar.select (Scalar.cmpf .oge (ties v (rmax v)) (Scalar.ofBits .f32 0x40000000#32)) (rmax v)
  (rmax (select (cmpf .oeq v (broadcast S1x1664 (rmax v))) (broadcast S1x1664 (Scalar.ofBits .f32 0xFF800000#32)) v))

/-- A masked vector read at an index. -/
theorem mask_at {s : Shape} (v : FVec Ideal s .f32) (m w : EReal) (i : s.Idx) :
    select (cmpf .oeq v (broadcast s m)) (broadcast s w) v i = Scalar.select (Ideal.cmp .oeq (v i) m) w (v i) := rfl

theorem rmin_mask (v : FVec Ideal S1x1664 .f32) (m w x : EReal) :
    x ≤ rmin (select (cmpf .oeq v (broadcast S1x1664 m)) (broadcast S1x1664 w) v) ↔ ∀ i, x ≤ Scalar.select (Ideal.cmp .oeq (v i) m) w (v i) :=
  (rmin_le _ x).trans (forall_congr' fun i => by rw [mask_at])
theorem rmax_mask (v : FVec Ideal S1x1664 .f32) (m w x : EReal) :
    rmax (select (cmpf .oeq v (broadcast S1x1664 m)) (broadcast S1x1664 w) v) ≤ x ↔ ∀ i, Scalar.select (Ideal.cmp .oeq (v i) m) w (v i) ≤ x :=
  (le_rmax _ x).trans (forall_congr' fun i => by rw [mask_at])

theorem rmin_two (v : FVec Ideal S1x1664 .f32) : Lo Finset.univ v (rmin v) (rmin2 v) :=
  two_least v (rmin v) _ _ _ (rmin_le v) top_word (ties_eq v (rmin v)) (rmin_mask v (rmin v) (Ideal.ofBits .f32 0x7F800000#32))
theorem rmax_two (v : FVec Ideal S1x1664 .f32) : Hi Finset.univ v (rmax v) (rmax2 v) :=
  two_most v (rmax v) _ _ _ (le_rmax v) bot_word (ties_eq v (rmax v)) (rmax_mask v (rmax v) (Ideal.ofBits .f32 0xFF800000#32))

theorem ext4_eq (v : FVec Ideal S1x1664 .f32) : ext4 v = ⟨rmin v, rmin2 v, rmax2 v, rmax v⟩ := rfl

theorem ext4_holds (v : FVec Ideal S1x1664 .f32) : Holds Finset.univ v (ext4 v) := by
  rw [ext4_eq]
  exact ⟨rmin_two v, rmax_two v⟩

/-- The least but one of a column, and the largest but one. -/
theorem cmin_two (v : FVec Ideal S32x1 .f32) : Lo Finset.univ v (cmin v) (cmin2 v) :=
  two_least v (cmin v) _ _ _ (cmin_le v) top_word (cties_eq v (cmin v)) (cmin_le _)
theorem cmax_two (v : FVec Ideal S32x1 .f32) : Hi Finset.univ v (cmax v) (cmax2 v) :=
  two_most v (cmax v) _ _ _ (le_cmax v) bot_word (cties_eq v (cmax v)) (le_cmax _)

/-- Partial results over disjoint sets, gathered. -/
theorem gath_holds {ι : Type} [DecidableEq ι] (S : S32x1.Idx → Finset ι) (hS : ∀ w w', w ≠ w' → Disjoint (S w) (S w')) (f : ι → EReal) (c1 c2 c3 c4 : FVec Ideal S32x1 .f32)
    (h : ∀ w, Holds (S w) f ⟨c1 w, c2 w, c3 w, c4 w⟩) : Holds (Finset.univ.biUnion S) f (gath c1 c2 c3 c4) := by
  refine ⟨?_, ?_⟩
  · exact Lo.biUnion (fun w _ w' _ hw => hS w w' hw) (fun w _ => (h w).lo) (cmin_two c1) (fun x => (cmin_le c2 x).trans (by simp))
  · have k := Lo.biUnion (α := ERealᵒᵈ) (fun w _ w' _ hw => hS w w' hw) (fun w _ => (h w).hi) (cmax_two c4) (n2 := cmax c3) (fun x => (le_cmax c3 x).trans (by simp; exact Iff.rfl))
    exact k

end Cert.Proof.Ext
-- ==== Proof.Scan.lean ====
/-
  At the extended reals: the first kernel's table holds, batch by batch, the extremes of the first 6656 rows' products with the embedding.
-/
module

public import proofs.«01_k».proof.Proof.Ranks
public import Idealize.ShloMosaic.Lib.Pointwise

@[expose] public section

set_option maxRecDepth 16384

noncomputable section

namespace Cert.Proof.Ext

open Cert.KernelIdeal Cert.KernelIdeal.Gen
open Idealize.ShloMosaic

/-- Row `r` of batch `b` times the embedding. -/
def dotAt (x : S8x8192x2048.Idx → EReal) (e : Fin 2048 → EReal) (b r : ℕ) : EReal :=
  ∑ k : Fin 2048, x (ix3 ⟨b % 8, Nat.mod_lt _ (by decide)⟩ ⟨r % 8192, Nat.mod_lt _ (by decide)⟩ k) * e k

theorem pay9_at (x : S8x8192x2048.Idx → EReal) (f : S1x2048.Idx → EReal) (b n : ℕ) (c : Fin 1664) :
    k0_pay9 (F := Ideal) f (xblk (F := Ideal) x b n) (ix2 0 c) = dotAt x (fun k => f (ix2 0 k)) b (n * 1664 + c.val) := by
  pointwise [k0_pay9]
  unfold dotAt
  refine Finset.sum_congr rfl fun k _ => ?_
  rw [mul_comm]
  rfl

theorem chunk_image (n : ℕ) : (Finset.univ.image fun i : S1x1664.Idx => n * 1664 + (i 1).val) = Finset.Ico (n * 1664) ((n + 1) * 1664) := by
  ext r
  simp only [Finset.mem_image, Finset.mem_univ, true_and, Finset.mem_Ico]
  constructor
  · rintro ⟨i, rfl⟩
    have : (i 1).val < 1664 := (i 1).isLt
    omega
  · intro h
    exact ⟨ix2 (0 : Fin 1) ⟨r - n * 1664, by omega⟩, by show n * 1664 + (r - n * 1664) = r; omega⟩

theorem chunk_holds (x : S8x8192x2048.Idx → EReal) (f : S1x2048.Idx → EReal) (b n : ℕ) :
    Holds (Finset.Ico (n * 1664) ((n + 1) * 1664)) (dotAt x (fun k => f (ix2 0 k)) b) (ext4 (k0_pay9 (F := Ideal) f (xblk (F := Ideal) x b n))) := by
  rw [← chunk_image n]
  refine Holds.image (fun i _ j _ h => ?_) ?_
  · have h0 : (i 0).val < 1 := (i 0).isLt
    have h0' : (j 0).val < 1 := (j 0).isLt
    funext a
    match a with
    | 0 => exact Fin.ext (by omega)
    | 1 => exact Fin.ext (by have : n * 1664 + (i 1).val = n * 1664 + (j 1).val := h; omega)
  · have k := ext4_holds (k0_pay9 (F := Ideal) f (xblk (F := Ideal) x b n))
    have e : (k0_pay9 (F := Ideal) f (xblk (F := Ideal) x b n)) = fun i => dotAt x (fun k => f (ix2 0 k)) b (n * 1664 + (i 1).val) := by
      funext i
      have hi : i = ix2 (0 : Fin 1) (i 1) := by
        funext a
        match a with
        | 0 => exact Fin.ext (by have h0 : (i 0).val < 1 := (i 0).isLt; show (i 0).val = 0; omega)
        | 1 => rfl
      exact (congrArg _ hi).trans (pay9_at x f b n (i 1))
    rw [e] at k
    rw [e]
    exact k

theorem tcRow_holds (x : S8x8192x2048.Idx → EReal) (f : S1x2048.Idx → EReal) (b : ℕ) : ∀ n : ℕ,
    Holds (Finset.range (n * 1664)) (dotAt x (fun k => f (ix2 0 k)) b) (tcRow (F := Ideal) x f b n)
  | 0 => by rw [Nat.zero_mul]; exact Holds.empty _
  | n + 1 => by
    have hd : Disjoint (Finset.range (n * 1664)) (Finset.Ico (n * 1664) ((n + 1) * 1664)) := by
      rw [Finset.disjoint_left]; intro r h h'
      rw [Finset.mem_range] at h; rw [Finset.mem_Ico] at h'; omega
    have hu : Finset.range ((n + 1) * 1664) = Finset.range (n * 1664) ∪ Finset.Ico (n * 1664) ((n + 1) * 1664) := by
      ext r; simp only [Finset.mem_range, Finset.mem_union, Finset.mem_Ico]; omega
    rw [hu]
    exact Holds.merge hd (tcRow_holds x f b n) (chunk_holds x f b n)

end Cert.Proof.Ext
-- ==== Proof.Lanes.lean ====
/-
  At the extended reals: a tile's row sum is the row times the embedding, in every lane, and the running extremes it keeps are those of the
  rows it has read.
-/
module

public import proofs.«01_k».proof.Proof.Scan

@[expose] public section

set_option maxRecDepth 16384

noncomputable section

namespace Cert.Proof.Ext

open Cert.KernelIdeal Cert.KernelIdeal.Gen
open Idealize.ShloMosaic

/-- A lane's partner when blocks of 8 (4, 2, 1) lanes are exchanged. -/
def p8 : Fin 16 → Fin 16 := ![8, 9, 10, 11, 12, 13, 14, 15, 0, 1, 2, 3, 4, 5, 6, 7]
def p4 : Fin 16 → Fin 16 := ![4, 5, 6, 7, 0, 1, 2, 3, 12, 13, 14, 15, 8, 9, 10, 11]
def p2 : Fin 16 → Fin 16 := ![2, 3, 0, 1, 6, 7, 4, 5, 10, 11, 8, 9, 14, 15, 12, 13]
def p1 : Fin 16 → Fin 16 := ![1, 0, 3, 2, 5, 4, 7, 6, 9, 8, 11, 10, 13, 12, 15, 14]

theorem sw8_at (v : FVec Ideal S16 .f32) (l : Fin 16) : sw8 v (ix1 l) = (v (ix1 l) + v (ix1 (p8 l)) : EReal) := by
  pointwise [sw8]
  fin_cases l <;> simp [p8]
theorem sw4_at (v : FVec Ideal S16 .f32) (l : Fin 16) : sw4 v (ix1 l) = (v (ix1 l) + v (ix1 (p4 l)) : EReal) := by
  pointwise [sw4]
  fin_cases l <;> simp [p4]
theorem sw2_at (v : FVec Ideal S16 .f32) (l : Fin 16) : sw2 v (ix1 l) = (v (ix1 l) + v (ix1 (p2 l)) : EReal) := by
  pointwise [sw2]
  fin_cases l <;> simp [p2]
theorem sw1_at (v : FVec Ideal S16 .f32) (l : Fin 16) : sw1 v (ix1 l) = (v (ix1 l) + v (ix1 (p1 l)) : EReal) := by
  pointwise [sw1]
  fin_cases l <;> simp [p1]

theorem fly_sum (w : Fin 16 → EReal) (l : Fin 16) :
    (((w l + w (p8 l)) + (w (p4 l) + w (p8 (p4 l)))) + ((w (p2 l) + w (p8 (p2 l))) + (w (p4 (p2 l)) + w (p8 (p4 (p2 l))))))
      + (((w (p1 l) + w (p8 (p1 l))) + (w (p4 (p1 l)) + w (p8 (p4 (p1 l))))) + ((w (p2 (p1 l)) + w (p8 (p2 (p1 l)))) + (w (p4 (p2 (p1 l))) + w (p8 (p4 (p2 (p1 l)))))))
      = ∑ k, w k := by
  have h : ∑ k, w k = w 0 + w 1 + w 2 + w 3 + w 4 + w 5 + w 6 + w 7 + w 8 + w 9 + w 10 + w 11 + w 12 + w 13 + w 14 + w 15 := by
    simp only [Fin.sum_univ_succ, Fin.sum_univ_zero]; simp [add_assoc]
  rw [h]
  fin_cases l <;> simp [p8, p4, p2, p1] <;> abel

theorem bfly_at (v : FVec Ideal S16 .f32) (l : Fin 16) : bfly v (ix1 l) = ∑ k : Fin 16, (v (ix1 k) : EReal) := by
  unfold bfly
  simp only [sw1_at, sw2_at, sw4_at, sw8_at]
  exact fly_sum (fun k => v (ix1 k)) l

/-! ## A row's sum -/

theorem sum_range_blocks (g : ℕ → EReal) (m : ℕ) : ∀ n : ℕ, ∑ i ∈ Finset.range (m * n), g i = ∑ t ∈ Finset.range n, ∑ j ∈ Finset.range m, g (m * t + j)
  | 0 => by simp
  | n + 1 => by rw [Nat.mul_succ, Finset.sum_range_add, sum_range_blocks g m n, Finset.sum_range_succ]

/-- A row's product at column `k`. -/
def prodAt (b : S16x2048.Idx → EReal) (f : S2048.Idx → EReal) (r k : ℕ) : EReal := b (ixX r k) * f (ixF k)

theorem acc_at (b : S16x2048.Idx → EReal) (f : S2048.Idx → EReal) (r dk : ℕ) (l : Fin 16) : ∀ n : ℕ,
    acc (F := Ideal) b f r dk n (ix1 l) = ∑ t ∈ Finset.range n, prodAt b f r (64 * t + 16 * dk + l.val)
  | 0 => zero_word
  | n + 1 => by
    rw [Finset.sum_range_succ, ← acc_at b f r dk l n]
    rfl

theorem rowSum_at (b : S16x2048.Idx → EReal) (f : S2048.Idx → EReal) (r : ℕ) (l : Fin 16) :
    rowSum (F := Ideal) b f r (ix1 l) = ∑ t ∈ Finset.range 32, ∑ dk ∈ Finset.range 4, prodAt b f r (64 * t + (16 * dk + l.val)) := by
  have h : rowSum (F := Ideal) b f r (ix1 l) = ((acc (F := Ideal) b f r 0 32 (ix1 l) + acc (F := Ideal) b f r 1 32 (ix1 l)) + acc (F := Ideal) b f r 2 32 (ix1 l)) + acc (F := Ideal) b f r 3 32 (ix1 l) := rfl
  rw [h]
  simp only [acc_at]
  rw [← Finset.sum_add_distrib, ← Finset.sum_add_distrib, ← Finset.sum_add_distrib]
  refine Finset.sum_congr rfl fun t _ => ?_
  simp [Finset.sum_range_succ, add_assoc]

theorem rowSum_all (b : S16x2048.Idx → EReal) (f : S2048.Idx → EReal) (r : ℕ) (l : Fin 16) :
    bfly (rowSum (F := Ideal) b f r) (ix1 l) = ∑ k ∈ Finset.range 2048, prodAt b f r k := by
  rw [bfly_at]
  simp only [rowSum_at]
  rw [Fin.sum_univ_eq_sum_range (fun l => ∑ t ∈ Finset.range 32, ∑ dk ∈ Finset.range 4, prodAt b f r (64 * t + (16 * dk + l))) 16]
  rw [show 2048 = 64 * 32 from rfl, sum_range_blocks, Finset.sum_comm]
  refine Finset.sum_congr rfl fun t _ => ?_
  rw [show 64 = 16 * 4 from rfl, sum_range_blocks (fun j => prodAt b f r (16 * 4 * t + j)), Finset.sum_comm]

theorem ix16_eq (l : ℕ) : ix16 l = ix1 ⟨l % 16, Nat.mod_lt _ (by decide)⟩ := by
  funext a; match a with | 0 => rfl

/-- A row of a tile's chunk. -/
theorem chunk_row (x : S8x8192x2048.Idx → EReal) (f : S2048.Idx → EReal) (i : grid1.Coords) (g r l : ℕ) (hg : g < 24) (hr : r < 16) :
    bfly (rowSum (F := Ideal) (chunk (F := Ideal) x i g) f r) (ix16 l) = dotAt x (fun k => f (ix1 k)) (g / 3) (row0 i g + r) := by
  rw [ix16_eq, rowSum_all, ← Fin.sum_univ_eq_sum_range (prodAt (chunk (F := Ideal) x i g) f r) 2048]
  unfold dotAt
  refine Finset.sum_congr rfl fun k _ => ?_
  unfold prodAt
  refine congrArg₂ (fun a b : EReal => a * b) ?_ ?_
  · refine congrArg x (funext fun a => ?_)
    match a with
    | 0 => rfl
    | 1 => exact Fin.ext (by show (row0 i g + r % 16) % 8192 = (row0 i g + r) % 8192; rw [Nat.mod_eq_of_lt hr])
    | 2 => exact Fin.ext (by have := k.isLt; show k.val % 2048 % 2048 = k.val; omega)
  · refine congrArg f (funext fun a => ?_)
    match a with
    | 0 => exact Fin.ext (Nat.mod_eq_of_lt k.isLt)

/-! ## The running extremes -/

/-- A lane of the running extremes. -/
def lane (q : Q4 Ideal) (l : ℕ) : E4 Ideal := ⟨q.s1 (ix16 l), q.s2 (ix16 l), q.a2 (ix16 l), q.a1 (ix16 l)⟩

theorem upd_holds {s : Finset ℕ} {D : ℕ → EReal} {q : Q4 Ideal} {v : FVec Ideal S16 .f32} (l i : ℕ) (hi : i ∉ s) (hv : v (ix16 l) = D i) (h : Holds s D (lane q l)) :
    Holds (insert i s) D (lane (upd q v) l) := by
  have h1 := Lo.insert (fun x => (le_top : x ≤ (⊤ : EReal))) i hi h.lo
  have h2 := Lo.insert (α := ERealᵒᵈ) (fun x => (bot_le : (⊥ : EReal) ≤ x)) i hi h.hi
  rw [← hv] at h1 h2
  exact ⟨h1, h2⟩

theorem updN_holds {s : Finset ℕ} {D : ℕ → EReal} {q : Q4 Ideal} (b : S16x2048.Idx → EReal) (f : S2048.Idx → EReal) (l o : ℕ) (hs : ∀ i ∈ s, i < o)
    (hv : ∀ r, r < 16 → bfly (rowSum (F := Ideal) b f r) (ix16 l) = D (o + r)) (h : Holds s D (lane q l)) : ∀ n, n ≤ 16 →
    Holds (s ∪ Finset.Ico o (o + n)) D (lane (updN (F := Ideal) b f q n) l)
  | 0, _ => by
    have e : s ∪ Finset.Ico o (o + 0) = s := by simp
    rw [e]; exact h
  | n + 1, hn => by
    have ih := updN_holds b f l o hs hv h n (by omega)
    have e : s ∪ Finset.Ico o (o + (n + 1)) = insert (o + n) (s ∪ Finset.Ico o (o + n)) := by
      ext r; simp only [Finset.mem_union, Finset.mem_Ico, Finset.mem_insert]; constructor
      · rintro (h | h)
        · exact Or.inr (Or.inl h)
        · by_cases hr : r = o + n
          · exact Or.inl hr
          · exact Or.inr (Or.inr (by omega))
      · rintro (h | h | h)
        · exact Or.inr (by omega)
        · exact Or.inl h
        · exact Or.inr (by omega)
    rw [e]
    refine upd_holds l (o + n) ?_ (hv n (by omega)) ih
    simp only [Finset.mem_union, Finset.mem_Ico]
    rintro (h | h)
    · have := hs _ h; omega
    · omega

end Cert.Proof.Ext
-- ==== Proof.Tiles.lean ====
/-
  At the extended reals: the tiles' table holds the extremes of 48 rows each, and the two tables merged hold those of every row.
-/
module

public import proofs.«01_k».proof.Proof.Lanes

@[expose] public section

set_option maxRecDepth 16384

noncomputable section

namespace Cert.Proof.Ext

open Cert.KernelIdeal Cert.KernelIdeal.Gen
open Idealize.ShloMosaic

/-- A tile's first row. -/
def firstRow (i : grid1.Coords) : ℕ := 96 * (i 1).val + 48 * (i 0).val + 6656

theorem st0_holds (D : ℕ → EReal) (l : ℕ) : Holds ∅ D (lane (st0 (F := Ideal)) l) := Holds.empty D

theorem stAt_holds (x : S8x8192x2048.Idx → EReal) (f : S2048.Idx → EReal) (i : grid1.Coords) (l : ℕ) : ∀ n, n ≤ 24 → ∀ b,
    Holds (Finset.Ico (firstRow i) (firstRow i + 16 * min 3 (n - 3 * b))) (dotAt x (fun k => f (ix1 k)) b) (lane (stAt (F := Ideal) x f i n b) l)
  | 0, _, b => by
    have e : Finset.Ico (firstRow i) (firstRow i + 16 * min 3 (0 - 3 * b)) = ∅ := by simp
    rw [e]; exact st0_holds _ l
  | n + 1, hn, b => by
    have ih := stAt_holds x f i l n (by omega) b
    by_cases hb : b = n / 3
    · have e : stAt (F := Ideal) x f i (n + 1) b = updN (chunk (F := Ideal) x i n) f (stAt (F := Ideal) x f i n b) 16 := if_pos hb
      have h0 : min 3 (n - 3 * b) = n % 3 := by omega
      have h1 : min 3 (n + 1 - 3 * b) = n % 3 + 1 := by omega
      have hr : row0 i n = firstRow i + 16 * (n % 3) := by unfold row0 firstRow; omega
      rw [h0] at ih
      rw [e, h1]
      have k := updN_holds (chunk (F := Ideal) x i n) f l (row0 i n) (D := dotAt x (fun k => f (ix1 k)) b) (fun r hr' => by rw [Finset.mem_Ico] at hr'; omega)
        (fun r hr' => by rw [chunk_row x f i n r l (by omega) hr', hb]) ih 16 (Nat.le_refl _)
      have hu : Finset.Ico (firstRow i) (firstRow i + 16 * (n % 3 + 1)) = Finset.Ico (firstRow i) (firstRow i + 16 * (n % 3)) ∪ Finset.Ico (row0 i n) (row0 i n + 16) := by
        ext r; simp only [Finset.mem_union, Finset.mem_Ico]; omega
      rw [hu]; exact k
    · have e : stAt (F := Ideal) x f i (n + 1) b = stAt (F := Ideal) x f i n b := if_neg hb
      have h1 : min 3 (n + 1 - 3 * b) = min 3 (n - 3 * b) := by omega
      rw [e, h1]; exact ih

theorem tile_holds (x : S8x8192x2048.Idx → EReal) (f : S2048.Idx → EReal) (w b l : ℕ) (hw : w < 32) (hb : b < 8) :
    Holds (Finset.Ico (6656 + 48 * w) (6656 + 48 * w + 48)) (dotAt x (fun k => f (ix1 k)) b) (lane (stAt (F := Ideal) x f (tileOf w) 24 b) l) := by
  have k := stAt_holds x f (tileOf w) l 24 (Nat.le_refl _) b
  have h : firstRow (tileOf w) = 6656 + 48 * w := by
    show 96 * (w / 2 % 16) + 48 * (w % 2) + 6656 = 6656 + 48 * w; omega
  rw [h, show min 3 (24 - 3 * b) = 3 by omega] at k
  exact k

theorem lane_get (q : Q4 Ideal) (j l : ℕ) : q.get j (ix16 l) = (lane q l).get j := by
  match j with
  | 0 => rfl
  | 1 => rfl
  | 2 => rfl
  | _ + 3 => rfl

theorem colN_at (x : S8x8192x2048.Idx → EReal) (f : S2048.Idx → EReal) (b j : ℕ) (hb : b < 8) (hj : j < 4) (w : S32x1.Idx) :
    colN (F := Ideal) (scOut (F := Ideal) x f) (4 * b + j) w = (lane (stAt (F := Ideal) x f (tileOf (w 0).val) 24 b) 0).get j := by
  have hw : (w 0).val < 32 := (w 0).isLt
  have e : colN (F := Ideal) (scOut (F := Ideal) x f) (4 * b + j) w = (stAt (F := Ideal) x f (tileOf (w 0).val) 24 ((4 * b + j) % 32 / 4)).get ((4 * b + j) % 32 % 4) (ix16 ((4 * b + j) % 32)) := rfl
  rw [e, show (4 * b + j) % 32 = 4 * b + j by omega, show (4 * b + j) / 4 = b by omega, show (4 * b + j) % 4 = j by omega, lane_get]
  rw [(tile_holds x f (w 0).val b (4 * b + j) hw hb).unique (tile_holds x f (w 0).val b 0 hw hb)]

theorem gathN_holds (x : S8x8192x2048.Idx → EReal) (f : S2048.Idx → EReal) (b : ℕ) (hb : b < 8) :
    Holds (Finset.Ico 6656 8192) (dotAt x (fun k => f (ix1 k)) b) (gathN (F := Ideal) (scOut (F := Ideal) x f) b) := by
  have k := gath_holds (fun w : S32x1.Idx => Finset.Ico (6656 + 48 * (w 0).val) (6656 + 48 * (w 0).val + 48)) (fun w w' hne => by
      rw [Finset.disjoint_left]; intro r h h'
      rw [Finset.mem_Ico] at h h'
      refine hne (funext fun a => Fin.ext ?_)
      match a with
      | 0 => show (w 0).val = (w' 0).val; omega
      | 1 => have h1 : (w 1).val < 1 := (w 1).isLt
             have h2 : (w' 1).val < 1 := (w' 1).isLt
             show (w 1).val = (w' 1).val; omega)
    (dotAt x (fun k => f (ix1 k)) b) (colN (F := Ideal) (scOut (F := Ideal) x f) (4 * b)) (colN (F := Ideal) (scOut (F := Ideal) x f) (4 * b + 1)) (colN (F := Ideal) (scOut (F := Ideal) x f) (4 * b + 2)) (colN (F := Ideal) (scOut (F := Ideal) x f) (4 * b + 3))
    (fun w => by
      have h0 := colN_at x f b 0 hb (by omega) w
      rw [Nat.add_zero] at h0
      rw [h0, colN_at x f b 1 hb (by omega) w, colN_at x f b 2 hb (by omega) w, colN_at x f b 3 hb (by omega) w]
      exact tile_holds x f (w 0).val b 0 (w 0).isLt hb)
  have e : (Finset.univ.biUnion fun w : S32x1.Idx => Finset.Ico (6656 + 48 * (w 0).val) (6656 + 48 * (w 0).val + 48)) = Finset.Ico 6656 8192 := by
    ext r
    simp only [Finset.mem_biUnion, Finset.mem_univ, true_and, Finset.mem_Ico]
    constructor
    · rintro ⟨w, h⟩
      have hw : (w 0).val < 32 := (w 0).isLt
      omega
    · intro h
      exact ⟨ix2 (⟨(r - 6656) / 48, by omega⟩ : Fin 32) (0 : Fin 1), by show 6656 + 48 * ((r - 6656) / 48) ≤ r; omega, by show r < 6656 + 48 * ((r - 6656) / 48) + 48; omega⟩
  rw [e] at k
  exact k

theorem rowOf_tcTab (x : S8x8192x2048.Idx → EReal) (f : S1x2048.Idx → EReal) (b : ℕ) (hb : b < 8) : rowOf (tcTab (F := Ideal) x f) b = tcRow (F := Ideal) x f b 4 := by
  have e : ∀ j, j < 4 → tcTab (F := Ideal) x f (ixS b j) = (tcRow (F := Ideal) x f b 4).get j := fun j hj => by
    have e0 : (ixS b j 0).val = b := Nat.mod_eq_of_lt hb
    have e1 : (ixS b j 1).val = j := Nat.mod_eq_of_lt hj
    unfold tcTab
    rw [e0, e1]
  unfold rowOf
  rw [e 0 (by omega), e 1 (by omega), e 2 (by omega), e 3 (by omega)]
  rfl

/-- The two tables merged hold every row's extremes. -/
theorem all_holds (x : S8x8192x2048.Idx → EReal) (f : S2048.Idx → EReal) (f' : S1x2048.Idx → EReal) (hf : ∀ k, f' (ix2 0 k) = f (ix1 k)) (b : ℕ) (hb : b < 8) :
    Holds (Finset.range 8192) (dotAt x (fun k => f (ix1 k)) b) ((rowOf (tcTab (F := Ideal) x f') b).merge (gathN (F := Ideal) (scOut (F := Ideal) x f) b)) := by
  rw [rowOf_tcTab x f' b hb]
  have h := tcRow_holds x f' b 4
  simp only [hf] at h
  have hd : Disjoint (Finset.range (4 * 1664)) (Finset.Ico 6656 8192) := by
    rw [Finset.disjoint_left]; intro r h h'
    rw [Finset.mem_range] at h; rw [Finset.mem_Ico] at h'; omega
  have hu : Finset.range 8192 = Finset.range (4 * 1664) ∪ Finset.Ico 6656 8192 := by
    ext r; simp only [Finset.mem_range, Finset.mem_union, Finset.mem_Ico]; omega
  rw [hu]
  exact Holds.merge hd h (gathN_holds x f b hb)

end Cert.Proof.Ext
-- ==== Proof.Head.lean ====
/-
  At the extended reals: the last kernel's three layers and its normalisation, read at an index.
-/
module

public import proofs.«01_k».proof.Proof.MergeBody
public import Idealize.ShloMosaic.Lib.Pointwise

@[expose] public section

set_option maxRecDepth 16384

noncomputable section

namespace Cert.Proof.Ext

open Cert.KernelIdeal Cert.KernelIdeal.Gen
open Idealize.ShloMosaic

/-- A layer before its nonlinearity: `W v + b`. -/
def affine {n p : ℕ} (W : Fin p → Fin n → EReal) (b : Fin p → EReal) (v : Fin n → EReal) (c : Fin p) : EReal := (∑ k : Fin n, v k * W c k) + b c

/-- The three layers of one row of extremes. -/
def logit (W1 : Fin 200 → Fin 4 → EReal) (b1 : Fin 200 → EReal) (W2 : Fin 100 → Fin 200 → EReal) (b2 : Fin 100 → EReal) (W3 : Fin 1 → Fin 100 → EReal) (b3 : Fin 1 → EReal)
    (v : Fin 4 → EReal) : EReal :=
  affine W3 b3 (fun k => Ideal.logistic (affine W2 b2 (fun k => Ideal.logistic (affine W1 b1 v k)) k)) 0

section Kernel
variable (v : FVec Ideal S8x4 .f32) (W1 : FVec Ideal S4x200 .f32) (b1 : FVec Ideal S1x200 .f32) (W2 : FVec Ideal S200x100 .f32) (b2 : FVec Ideal S1x100 .f32) (W3 : FVec Ideal S100x1 .f32) (b3 : FVec Ideal S1x1 .f32)

def hid1 : FVec Ideal S8x200 .f32 := logistic (addf (matmul dot_S8x4_S4x200_S8x200_1_0_0_1_n_n none v (shapeCast S4x200 W1 shapeCasts_S4x200_S4x200) (constant S8x200 .f32 0x00000000#32)) (broadcastTo S8x200 (shapeCast S1x200 b1 shapeCasts_S1x200_S1x200) broadcasts_S1x200_S8x200))
def hid2 (h1 : FVec Ideal S8x200 .f32) : FVec Ideal S8x100 .f32 := logistic (addf (matmul dot_S8x200_S200x100_S8x100_1_0_0_1_n_n none h1 (shapeCast S200x100 W2 shapeCasts_S200x100_S200x100) (constant S8x100 .f32 0x00000000#32)) (broadcastTo S8x100 (shapeCast S1x100 b2 shapeCasts_S1x100_S1x100) broadcasts_S1x100_S8x100))
def out3 (h2 : FVec Ideal S8x100 .f32) : FVec Ideal S8x1 .f32 := addf (matmul dot_S8x100_S100x1_S8x1_1_0_0_1_n_n none h2 (shapeCast S100x1 W3 shapeCasts_S100x1_S100x1) (constant S8x1 .f32 0x00000000#32)) (broadcastTo S8x1 (shapeCast S1x1 b3 shapeCasts_S1x1_S1x1) broadcasts_S1x1_S8x1)
def expo (l : FVec Ideal S8x1 .f32) : FVec Ideal S8x1 .f32 := exp (subf l (shapeCast S8x1 (multiReduction .maximumf [1] S8 l 0xFF800000#32 reduces_S8x1_S8 (.inl rfl) rfl) shapeCasts_S8_S8x1))
def norm (e : FVec Ideal S8x1 .f32) : FVec Ideal S8x1 .f32 := divf e (shapeCast S8x1 (multiReduction .add [1] S8 e 0x00000000#32 reduces_S8x1_S8 (.inl rfl) rfl) shapeCasts_S8_S8x1)

theorem head_eq : head v W1 b1 W2 b2 W3 b3 = norm (expo (out3 W3 b3 (hid2 W2 b2 (hid1 v W1 b1)))) := rfl

theorem hid1_at (r : Fin 8) (c : Fin 200) : hid1 v W1 b1 (ix2 r c) = Ideal.logistic (affine (fun c k => W1 (ix2 k c)) (fun c => b1 (ix2 0 c)) (fun k => v (ix2 r k)) c) := by
  pointwise [hid1]
  rfl
theorem hid2_at (h1 : FVec Ideal S8x200 .f32) (r : Fin 8) (c : Fin 100) : hid2 W2 b2 h1 (ix2 r c) = Ideal.logistic (affine (fun c k => W2 (ix2 k c)) (fun c => b2 (ix2 0 c)) (fun k => h1 (ix2 r k)) c) := by
  pointwise [hid2]
  rfl
theorem out3_at (h2 : FVec Ideal S8x100 .f32) (r : Fin 8) : out3 W3 b3 h2 (ix2 r 0) = affine (fun c k => W3 (ix2 k c)) (fun c => b3 (ix2 0 c)) (fun k => h2 (ix2 r k)) 0 := by
  pointwise [out3]
  rfl
/-- The largest of one value. -/
theorem fold_one (g : Fin 1 → EReal) : Finset.fold max (Ideal.ofBits .f32 0xFF800000#32) g Finset.univ = g 0 := by
  rw [show Ideal.ofBits .f32 0xFF800000#32 = (⊥ : EReal) by simp [Ideal.ofBits, Ideal.ieee], show (Finset.univ : Finset (Fin 1)) = {0} from rfl, Finset.fold_singleton]
  exact max_bot_right _

theorem expo_at (l : FVec Ideal S8x1 .f32) (r : Fin 8) : expo l (ix2 r 0) = Ideal.exp ((l (ix2 r 0) : EReal) - l (ix2 r 0)) := by
  pointwise [expo]
  exact congrArg (fun t : EReal => Ideal.exp (l (ix2 r 0) - t)) (fold_one fun k => l (ix2 r k))
theorem norm_at (e : FVec Ideal S8x1 .f32) (r : Fin 8) : norm e (ix2 r 0) = Ideal.div (e (ix2 r 0)) (e (ix2 r 0)) := by
  pointwise [norm]
  exact congrArg (Ideal.div (e (ix2 r 0))) (Fin.sum_univ_one fun k => (e (ix2 r k) : EReal))

theorem head_at (r : Fin 8) : head v W1 b1 W2 b2 W3 b3 (ix2 r 0)
    = (fun z : EReal => Ideal.div (Ideal.exp (z - z)) (Ideal.exp (z - z))) (logit (fun c k => W1 (ix2 k c)) (fun c => b1 (ix2 0 c)) (fun c k => W2 (ix2 k c)) (fun c => b2 (ix2 0 c)) (fun c k => W3 (ix2 k c)) (fun c => b3 (ix2 0 c)) (fun k => v (ix2 r k))) := by
  rw [head_eq, norm_at, expo_at, out3_at]
  simp only [hid2_at, hid1_at]
  rfl

end Kernel

end Cert.Proof.Ext
-- ==== Proof.RefHead.lean ====
/-
  At the extended reals: the reference's layers and its softmax, read at an index.
-/
module

public import proofs.«01_k».proof.Proof.Head
public import proofs.«01_k».proof.Proof.Gen.ReferenceIdeal.Run

@[expose] public section

set_option maxRecDepth 16384

noncomputable section

namespace Cert.Proof.Ext

open Cert.ReferenceIdeal Cert.ReferenceIdeal.Gen
open Idealize.ShloMosaic

section Reference
variable (W1 : FVec Ideal S200x4 .f32) (b1 : FVec Ideal S200 .f32) (W2 : FVec Ideal S100x200 .f32) (b2 : FVec Ideal S100 .f32) (W3 : FVec Ideal S1x100 .f32) (b3 : FVec Ideal S1 .f32)

/-- The sorted rows' first two and last two entries. -/
def refTab (x : FVec Ideal S8x8192x2048 .f32) (e : FVec Ideal S2048 .f32) : FVec Ideal S8x4 .f32 :=
  concatenate S8x4 1 [⟨S8x2, (extractStridedSlice S8x2 ![0, 0] (Host.sort S8x8192 1 comparator_f32_d1 (Host.dotGeneral dot_S8x8192x2048_S2048_S8x8192_2_0_01_n_n_n none x e)) slices_S8x8192_S8x2_0_0)⟩, ⟨S8x2, (extractStridedSlice S8x2 ![0, 8190] (Host.sort S8x8192 1 comparator_f32_d1 (Host.dotGeneral dot_S8x8192x2048_S2048_S8x8192_2_0_01_n_n_n none x e)) slices_S8x8192_S8x2_0_8190)⟩] concatenates_S8x2_S8x2_S8x4_d1

def rhid1 (v : FVec Ideal S8x4 .f32) : FVec Ideal S8x200 .f32 := Host.divf (broadcastInDim S8x200 ![] bcast_S_S8x200 (constant S_ .f32 0x3F800000#32)) (addf (broadcastInDim S8x200 ![] bcast_S_S8x200 (constant S_ .f32 0x3F800000#32)) (Host.exp (Host.negf (addf (Host.dotGeneral dot_S8x4_S4x200_S8x200_1_0_0_1_n_n none v (transpose S4x200 [1, 0] W1 transposes_S200x4_S4x200_1_0)) (broadcastInDim S8x200 ![0, 1] bcast_S1x200_S8x200_0_1 (broadcastInDim S1x200 ![1] bcast_S200_S1x200_1 b1))))))
def rhid2 (h : FVec Ideal S8x200 .f32) : FVec Ideal S8x100 .f32 := Host.divf (broadcastInDim S8x100 ![] bcast_S_S8x100 (constant S_ .f32 0x3F800000#32)) (addf (broadcastInDim S8x100 ![] bcast_S_S8x100 (constant S_ .f32 0x3F800000#32)) (Host.exp (Host.negf (addf (Host.dotGeneral dot_S8x200_S200x100_S8x100_1_0_0_1_n_n none h (transpose S200x100 [1, 0] W2 transposes_S100x200_S200x100_1_0)) (broadcastInDim S8x100 ![0, 1] bcast_S1x100_S8x100_0_1 (broadcastInDim S1x100 ![1] bcast_S100_S1x100_1 b2))))))
def rout3 (h : FVec Ideal S8x100 .f32) : FVec Ideal S8x1 .f32 := addf (Host.dotGeneral dot_S8x100_S100x1_S8x1_1_0_0_1_n_n none h (transpose S100x1 [1, 0] W3 transposes_S1x100_S100x1_1_0)) (broadcastInDim S8x1 ![0, 1] bcast_S1x1_S8x1_0_1 (broadcastInDim S1x1 ![1] bcast_S1_S1x1_1 b3))
def rexpo (l : FVec Ideal S8x1 .f32) : FVec Ideal S8x1 .f32 := Host.exp (subf l (broadcastInDim S8x1 ![0] bcast_S8_S8x1_0 (maximumf (broadcastInDim S8 ![] bcast_S_S8 (constant S_ .f32 0xFF800000#32)) (Host.reduce FloatOps.maximumf l (constant S_ .f32 0xFF800000#32) reducesTo_S8x1_S8_d1 h_S_))))
def rnorm (e : FVec Ideal S8x1 .f32) : FVec Ideal S8x1 .f32 := Host.divf e (broadcastInDim S8x1 ![0] bcast_S8_S8x1_0 (Host.reduceAdd e (constant S_ .f32 0x00000000#32) reducesTo_S8x1_S8_d1 h_S_))

def refOut (v : FVec Ideal S8x4 .f32) : FVec Ideal S8x1 .f32 := rnorm (rexpo (rout3 W3 b3 (rhid2 W2 b2 (rhid1 W1 b1 v))))

set_option maxRecDepth 32768 in
theorem res_eq (m : (ℓ : Loc nD τ sig) → Buf (Elt Ideal) ℓ) (c : Dev nD) :
    Cert.ReferenceIdeal.Value.res_main_v40 (F := Ideal) m c
      = refOut (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (refTab (m ((c.tc : Thread nD τ).loc main_arg0)) (m ((c.tc : Thread nD τ).loc main_arg1))) := rfl

theorem one_bits : Ideal.ofBits .f32 0x3F800000#32 = (1 : EReal) := by
  rw [show (1 : EReal) = ((1 : ℝ) : EReal) by norm_cast]
  simp [Ideal.ofBits, Ideal.ieee, -EReal.coe_mul]; norm_num
theorem bot_bits : Ideal.ofBits .f32 0xFF800000#32 = (⊥ : EReal) := by simp [Ideal.ofBits, Ideal.ieee]

theorem rhid1_at (v : FVec Ideal S8x4 .f32) (r : Fin 8) (c : Fin 200) : rhid1 W1 b1 v (ix2 r c) = Ideal.logistic (affine (fun c k => W1 (ix2 c k)) (fun c => b1 (ix1 c)) (fun k => v (ix2 r k)) c) := by
  pointwise [rhid1]
  rfl
theorem rhid2_at (h : FVec Ideal S8x200 .f32) (r : Fin 8) (c : Fin 100) : rhid2 W2 b2 h (ix2 r c) = Ideal.logistic (affine (fun c k => W2 (ix2 c k)) (fun c => b2 (ix1 c)) (fun k => h (ix2 r k)) c) := by
  pointwise [rhid2]
  rfl
theorem rout3_at (h : FVec Ideal S8x100 .f32) (r : Fin 8) : rout3 W3 b3 h (ix2 r 0) = affine (fun c k => W3 (ix2 c k)) (fun c => b3 (ix1 c)) (fun k => h (ix2 r k)) 0 := by
  pointwise [rout3]
  rfl
theorem rexpo_at (l : FVec Ideal S8x1 .f32) (r : Fin 8) : rexpo l (ix2 r 0) = Ideal.exp ((l (ix2 r 0) : EReal) - l (ix2 r 0)) := by
  pointwise [rexpo]
  refine congrArg (fun t : EReal => Ideal.exp (l (ix2 r 0) - t)) ?_
  rw [fold_one fun k => l (ix2 r k), bot_bits]
  exact max_bot_left _
theorem rnorm_at (e : FVec Ideal S8x1 .f32) (r : Fin 8) : rnorm e (ix2 r 0) = Ideal.div (e (ix2 r 0)) (e (ix2 r 0)) := by
  pointwise [rnorm]
  exact congrArg (Ideal.div (e (ix2 r 0))) (Fin.sum_univ_one fun k => (e (ix2 r k) : EReal))

theorem refOut_at (v : FVec Ideal S8x4 .f32) (r : Fin 8) : refOut W1 b1 W2 b2 W3 b3 v (ix2 r 0)
    = (fun z : EReal => Ideal.div (Ideal.exp (z - z)) (Ideal.exp (z - z))) (logit (fun c k => W1 (ix2 c k)) (fun c => b1 (ix1 c)) (fun c k => W2 (ix2 c k)) (fun c => b2 (ix1 c)) (fun c k => W3 (ix2 c k)) (fun c => b3 (ix1 c)) (fun k => v (ix2 r k))) := by
  unfold refOut
  rw [rnorm_at, rexpo_at, rout3_at]
  simp only [rhid2_at, rhid1_at]
  rfl

end Reference

end Cert.Proof.Ext
-- ==== Proof.Sorted.lean ====
/-
  At the extended reals: the sorted rows' first two and last two entries are the rows' extremes.
-/
module

public import proofs.«01_k».proof.Proof.RefHead
public import proofs.«01_k».proof.Proof.Scan

@[expose] public section

set_option maxRecDepth 16384

noncomputable section

namespace Cert.Proof.Ext

open Cert.ReferenceIdeal Cert.ReferenceIdeal.Gen
open Idealize.ShloMosaic

theorem select_zero (l : EReal) : Scalar.select (Ideal.cmp .oeq l (Ideal.ofBits .f32 0x00000000#32)) (Ideal.ofBits .f32 0x00000000#32) l = l := by
  refine (select_true (l = Ideal.ofBits .f32 0x00000000#32) _ _).trans ?_
  by_cases h : l = Ideal.ofBits .f32 0x00000000#32
  · rw [if_pos h, h]
  · rw [if_neg h]

theorem select_une (l a b : EReal) : Scalar.select (Ideal.cmp .une l l) a b = b :=
  (select_true (l ≠ l) a b).trans (if_neg fun h => h rfl)

theorem comparator_lt (l r : EReal) : (comparator_f32_d1 (F := Ideal) l r == 1#1) = decide (l < r) := by
  have e : comparator_f32_d1 (F := Ideal) l r = Ideal.cmp .olt
      (Scalar.select (Ideal.cmp .une l l) (Ideal.ofBits .f32 0x7FC00000#32) (Scalar.select (Ideal.cmp .oeq l (Ideal.ofBits .f32 0x00000000#32)) (Ideal.ofBits .f32 0x00000000#32) l))
      (Scalar.select (Ideal.cmp .une r r) (Ideal.ofBits .f32 0x7FC00000#32) (Scalar.select (Ideal.cmp .oeq r (Ideal.ofBits .f32 0x00000000#32)) (Ideal.ofBits .f32 0x00000000#32) r)) := rfl
  rw [e, select_une, select_une, select_zero, select_zero]
  show (BitVec.ofBool (decide (l < r)) == 1#1) = decide (l < r)
  by_cases h : l < r <;> simp [h]

theorem dots_at (x : S8x8192x2048.Idx → EReal) (e : S2048.Idx → EReal) (b : Fin 8) (r : Fin 8192) :
    Host.dotGeneral (F := Ideal) (φ₁ := .f32) (φ₂ := .f32) dot_S8x8192x2048_S2048_S8x8192_2_0_01_n_n_n none x e (ix2 b r) = dotAt x (fun k => e (ix1 k)) b.val r.val := by
  pointwise
  unfold dotAt
  refine Finset.sum_congr rfl fun k _ => congrArg (fun t : EReal => t * e (ix1 k)) (congrArg x (funext fun a => ?_))
  match a with
  | 0 => exact Fin.ext (Nat.mod_eq_of_lt b.isLt).symm
  | 1 => exact Fin.ext (Nat.mod_eq_of_lt r.isLt).symm
  | 2 => rfl

/-- A sorted row's entries. -/
theorem sort_at (X : S8x8192.Idx → EReal) (b : Fin 8) (j : Fin 8192) :
    Host.sort S8x8192 1 (comparator_f32_d1 (F := Ideal)) X (ix2 b j) = X (ix2 b (sortedFrom (fun k k' : Fin 8192 => decide (X (ix2 b k) < X (ix2 b k'))) j)) := by
  have al : ∀ k : Fin 8192, Shape.Idx.along (s := S8x8192) (ix2 b j) 1 k = ix2 b k := fun k => by
    funext a
    match a with
    | 0 => rfl
    | 1 => rfl
  have e : Host.sort S8x8192 1 (comparator_f32_d1 (F := Ideal)) X (ix2 b j)
    = X (Shape.Idx.along (s := S8x8192) (ix2 b j) 1 (sortedFrom (fun k k' : Fin 8192 => comparator_f32_d1 (F := Ideal) (X (Shape.Idx.along (s := S8x8192) (ix2 b j) 1 k)) (X (Shape.Idx.along (s := S8x8192) (ix2 b j) 1 k')) == 1#1) j)) := rfl
  have hf : (fun k k' : Fin 8192 => comparator_f32_d1 (F := Ideal) (X (Shape.Idx.along (s := S8x8192) (ix2 b j) 1 k)) (X (Shape.Idx.along (s := S8x8192) (ix2 b j) 1 k')) == 1#1)
      = fun k k' => decide (X (ix2 b k) < X (ix2 b k')) := by
    funext k k'
    rw [comparator_lt]
    exact congrArg₂ (fun s t => decide (X s < X t)) (al k) (al k')
  exact e.trans ((congrArg X (al _)).trans (congrArg (fun g => X (ix2 b (sortedFrom g j))) hf))

theorem sort_holds (D : Fin 8192 → EReal) :
    Holds Finset.univ D ⟨D (sortedFrom (fun k k' => decide (D k < D k')) ⟨0, by omega⟩), D (sortedFrom (fun k k' => decide (D k < D k')) ⟨1, by omega⟩),
      D (sortedFrom (fun k k' => decide (D k < D k')) ⟨8190, by omega⟩), D (sortedFrom (fun k k' => decide (D k < D k')) ⟨8191, by omega⟩)⟩ := by
  have hb := sortedFrom_bijective fun k k' : Fin 8192 => decide (D k < D k')
  have hm := sortedFrom_mono D
  generalize sortedFrom (fun k k' => decide (D k < D k')) = σ at hb hm ⊢
  have p0 : (0 : ℕ) < 8192 := by omega
  have p1 : (1 : ℕ) < 8192 := by omega
  refine ⟨Lo.sorted σ hb hm p0 p1, ?_⟩
  have h := Lo.sorted (α := ERealᵒᵈ) (f := D) (fun k => σ k.rev) (hb.comp Fin.rev_bijective) (fun i j hij => hm j.rev i.rev (Fin.rev_le_rev.mpr hij)) p0 p1
  have e0 : Fin.rev (⟨0, p0⟩ : Fin 8192) = ⟨8191, by omega⟩ := Fin.ext (by simp)
  have e1 : Fin.rev (⟨1, p1⟩ : Fin 8192) = ⟨8190, by omega⟩ := Fin.ext (by simp)
  rw [e0, e1] at h
  exact h

theorem refTab_at (x : S8x8192x2048.Idx → EReal) (e : S2048.Idx → EReal) (b : Fin 8) :
    Holds (Finset.range 8192) (dotAt x (fun k => e (ix1 k)) b.val) ⟨refTab x e (ix2 b 0), refTab x e (ix2 b 1), refTab x e (ix2 b 2), refTab x e (ix2 b 3)⟩ := by
  have h := sort_holds fun r : Fin 8192 => dotAt x (fun k => e (ix1 k)) b.val r.val
  have hi := Holds.image (e := Fin.val) (f := dotAt x (fun k => e (ix1 k)) b.val) (fun i _ j _ h => Fin.ext h) h
  have hr : (Finset.univ : Finset (Fin 8192)).image Fin.val = Finset.range 8192 := by
    ext r; simp only [Finset.mem_image, Finset.mem_univ, true_and, Finset.mem_range]
    exact ⟨fun ⟨i, hi⟩ => hi ▸ i.isLt, fun h => ⟨⟨r, h⟩, rfl⟩⟩
  rw [hr] at hi
  have s : ∀ j : Fin 8192, Host.sort S8x8192 1 (comparator_f32_d1 (F := Ideal)) (Host.dotGeneral (F := Ideal) (φ₁ := .f32) (φ₂ := .f32) dot_S8x8192x2048_S2048_S8x8192_2_0_01_n_n_n none x e) (ix2 b j)
      = dotAt x (fun k => e (ix1 k)) b.val (sortedFrom (fun k k' : Fin 8192 => decide (dotAt x (fun k => e (ix1 k)) b.val k.val < dotAt x (fun k => e (ix1 k)) b.val k'.val)) j).val := fun j => by
    rw [sort_at]
    simp only [dots_at]
  rw [← s, ← s, ← s, ← s] at hi
  unfold refTab
  generalize Host.sort S8x8192 1 (comparator_f32_d1 (F := Ideal)) (Host.dotGeneral (F := Ideal) (φ₁ := .f32) (φ₂ := .f32) dot_S8x8192x2048_S2048_S8x8192_2_0_01_n_n_n none x e) = X at hi ⊢
  have c : ∀ j : Fin 4, concatenate S8x4 1 [⟨S8x2, extractStridedSlice S8x2 ![0, 0] X slices_S8x8192_S8x2_0_0⟩, ⟨S8x2, extractStridedSlice S8x2 ![0, 8190] X slices_S8x8192_S8x2_0_8190⟩] concatenates_S8x2_S8x2_S8x4_d1 (ix2 b j)
      = X (ix2 b ((![⟨0, by omega⟩, ⟨1, by omega⟩, ⟨8190, by omega⟩, ⟨8191, by omega⟩] : Fin 4 → Fin 8192) j)) := fun j => by
    pointwise
    fin_cases j <;> simp
  have c0 := c 0; have c1 := c 1; have c2 := c 2; have c3 := c 3
  simp only [c0, c1, c2, c3]
  exact hi

end Cert.Proof.Ext
-- ==== Proof.Agree.lean ====
/-
  At the extended reals the kernel's result and the reference's are the same: the algebraic claim.
-/
module

public import proofs.«01_k».proof.Proof.Tiles
public import proofs.«01_k».proof.Proof.Sorted
public import proofs.«01_k».proof.Proof.Frames

@[expose] public section

set_option maxRecDepth 16384

noncomputable section

namespace Cert.Proof.Ext

open Cert.KernelIdeal Cert.KernelIdeal.Gen
open Idealize.ShloMosaic Idealize.ShloMosaic.TcCoe
open Idealize.SL.Sem

/-! ## The two values -/

/-- A row of the merged table is a row of the reference's. -/
theorem rows_agree (x : S8x8192x2048.Idx → EReal) (e : S2048.Idx → EReal) (f : S1x2048.Idx → EReal) (hf : ∀ k, f (ix2 0 k) = e (ix1 k)) (b : Fin 8) (k : Fin 4) :
    ((rowOf (tcTab (F := Ideal) x f) b.val).merge (gathN (F := Ideal) (scOut (F := Ideal) x e) b.val)).get k.val = refTab x e (ix2 b k) := by
  rw [(all_holds x e f hf b.val b.isLt).unique (refTab_at x e b)]
  match k with
  | 0 => rfl
  | 1 => rfl
  | 2 => rfl
  | 3 => rfl

theorem values_agree (x : S8x8192x2048.Idx → EReal) (e : S2048.Idx → EReal) (f : S1x2048.Idx → EReal) (hf : ∀ k, f (ix2 0 k) = e (ix1 k))
    (W1 : S200x4.Idx → EReal) (b1 : S200.Idx → EReal) (W2 : S100x200.Idx → EReal) (b2 : S100.Idx → EReal) (W3 : S1x100.Idx → EReal) (b3 : S1.Idx → EReal)
    (V1 : S4x200.Idx → EReal) (c1 : S1x200.Idx → EReal) (V2 : S200x100.Idx → EReal) (c2 : S1x100.Idx → EReal) (V3 : S100x1.Idx → EReal) (c3 : S1x1.Idx → EReal)
    (h1 : ∀ (c : Fin 200) (k : Fin 4), V1 (ix2 k c) = W1 (ix2 c k)) (g1 : ∀ c : Fin 200, c1 (ix2 0 c) = b1 (ix1 c))
    (h2 : ∀ (c : Fin 100) (k : Fin 200), V2 (ix2 k c) = W2 (ix2 c k)) (g2 : ∀ c : Fin 100, c2 (ix2 0 c) = b2 (ix1 c))
    (h3 : ∀ (c : Fin 1) (k : Fin 100), V3 (ix2 k c) = W3 (ix2 c k)) (g3 : ∀ c : Fin 1, c3 (ix2 0 c) = b3 (ix1 c)) :
    mergeVal (F := Ideal) (tcTab (F := Ideal) x f) (scOut (F := Ideal) x e) V1 c1 V2 c2 V3 c3 = refOut W1 b1 W2 b2 W3 b3 (refTab x e) := by
  funext y
  have hy : y = ix2 (y 0) (0 : Fin 1) := by
    funext a
    match a with
    | 0 => rfl
    | 1 => exact Fin.ext (by have h : (y 1).val < 1 := (y 1).isLt; show (y 1).val = 0; omega)
  rw [hy]
  generalize y 0 = r
  unfold mergeVal
  refine (head_at _ V1 c1 V2 c2 V3 c3 r).trans (Eq.trans ?_ (refOut_at W1 b1 W2 b2 W3 b3 (refTab x e) r).symm)
  have t : (fun k : Fin 4 => ((rowOf (tcTab (F := Ideal) x f) r.val).merge (gathN (F := Ideal) (scOut (F := Ideal) x e) r.val)).get k.val) = fun k => refTab x e (ix2 r k) :=
    funext fun k => rows_agree x e f hf r k
  simp only [h1, g1, h2, g2, h3, g3]
  exact congrArg (fun v : Fin 4 → EReal => (fun z : EReal => Ideal.div (Ideal.exp (z - z)) (Ideal.exp (z - z)))
    (logit (fun c k => W1 (ix2 c k)) (fun c => b1 (ix1 c)) (fun c k => W2 (ix2 c k)) (fun c => b2 (ix1 c)) (fun c k => W3 (ix2 c k)) (fun c => b3 (ix1 c)) v)) t

/-! ## What the last kernel reads -/

section Arrays
variable (m : (ℓ : Loc nD τ sig) → Buf (Elt Ideal) ℓ) (d : Dev nD)

theorem dr_not (b k : Ref sig .tc) (h : b ≠ k) : dr b ∉ ({dr k} : Finset (DevRef τ sig)) := fun hm => h (Proc.devRef_injective _ (Finset.mem_singleton.mp hm))

theorem V7_v0 (k : Fin 2048) : (V7 m d (dr main_v0) : S1x2048.Idx → EReal) (ix2 0 k) = (m (d, dr main_arg1) : S2048.Idx → EReal) (ix1 k) := by
  unfold V7
  rw [hop6.result_of_not_mem _ (dr_not main_v0 main_v6 (by decide)), hop5.result_of_not_mem _ (dr_not main_v0 main_v5 (by decide)), hop4.result_of_not_mem _ (dr_not main_v0 main_v4 (by decide)), hop3.result_of_not_mem _ (dr_not main_v0 main_v3 (by decide)), hop2.result_of_not_mem _ (dr_not main_v0 main_v2 (by decide)), hop1.result_of_not_mem _ (dr_not main_v0 main_v1 (by decide))]
  have h := StableHlo.reshape_result (τ := τ) (Val := Elt Ideal) main_arg1 main_v0 (rfl : (.f32 : EltTy) = .f32) shapeCasts_S2048_S1x2048 (by decide) (by decide) (V0 m d)
  refine (congrFun h (ix2 0 k)).trans ?_
  show shapeCast S1x2048 (m (d, dr main_arg1) : S2048.Idx → EReal) shapeCasts_S2048_S1x2048 (ix2 0 k) = _
  pointwise

theorem V7_v1 (c : Fin 200) (k : Fin 4) : (V7 m d (dr main_v1) : S4x200.Idx → EReal) (ix2 k c) = (m (d, dr main_arg2) : S200x4.Idx → EReal) (ix2 c k) := by
  unfold V7
  rw [hop6.result_of_not_mem _ (dr_not main_v1 main_v6 (by decide)), hop5.result_of_not_mem _ (dr_not main_v1 main_v5 (by decide)), hop4.result_of_not_mem _ (dr_not main_v1 main_v4 (by decide)), hop3.result_of_not_mem _ (dr_not main_v1 main_v3 (by decide)), hop2.result_of_not_mem _ (dr_not main_v1 main_v2 (by decide))]
  have h := StableHlo.unary_result (τ := τ) (Val := Elt Ideal) main_arg2 main_v1 ((transpose S4x200 [1, 0] · transposes_S200x4_S4x200_1_0) : (⟨S200x4, .f32⟩ : BufTy).Contents (Elt Ideal) → (⟨S4x200, .f32⟩ : BufTy).Contents (Elt Ideal)) (by decide) (by decide) (hop0.result (V0 m d))
  rw [hop0.result_of_not_mem _ (dr_not main_arg2 main_v0 (by decide))] at h
  refine (congrFun h (ix2 k c)).trans ?_
  show transpose S4x200 [1, 0] (m (d, dr main_arg2) : S200x4.Idx → EReal) transposes_S200x4_S4x200_1_0 (ix2 k c) = _
  pointwise

theorem V7_v2 (k : Fin 200) : (V7 m d (dr main_v2) : S1x200.Idx → EReal) (ix2 0 k) = (m (d, dr main_arg3) : S200.Idx → EReal) (ix1 k) := by
  unfold V7
  rw [hop6.result_of_not_mem _ (dr_not main_v2 main_v6 (by decide)), hop5.result_of_not_mem _ (dr_not main_v2 main_v5 (by decide)), hop4.result_of_not_mem _ (dr_not main_v2 main_v4 (by decide)), hop3.result_of_not_mem _ (dr_not main_v2 main_v3 (by decide))]
  have h := StableHlo.reshape_result (τ := τ) (Val := Elt Ideal) main_arg3 main_v2 (rfl : (.f32 : EltTy) = .f32) shapeCasts_S200_S1x200 (by decide) (by decide) (hop1.result (hop0.result (V0 m d)))
  rw [hop1.result_of_not_mem _ (dr_not main_arg3 main_v1 (by decide)), hop0.result_of_not_mem _ (dr_not main_arg3 main_v0 (by decide))] at h
  refine (congrFun h (ix2 0 k)).trans ?_
  show shapeCast S1x200 (m (d, dr main_arg3) : S200.Idx → EReal) shapeCasts_S200_S1x200 (ix2 0 k) = _
  pointwise

theorem V7_v3 (c : Fin 100) (k : Fin 200) : (V7 m d (dr main_v3) : S200x100.Idx → EReal) (ix2 k c) = (m (d, dr main_arg4) : S100x200.Idx → EReal) (ix2 c k) := by
  unfold V7
  rw [hop6.result_of_not_mem _ (dr_not main_v3 main_v6 (by decide)), hop5.result_of_not_mem _ (dr_not main_v3 main_v5 (by decide)), hop4.result_of_not_mem _ (dr_not main_v3 main_v4 (by decide))]
  have h := StableHlo.unary_result (τ := τ) (Val := Elt Ideal) main_arg4 main_v3 ((transpose S200x100 [1, 0] · transposes_S100x200_S200x100_1_0) : (⟨S100x200, .f32⟩ : BufTy).Contents (Elt Ideal) → (⟨S200x100, .f32⟩ : BufTy).Contents (Elt Ideal)) (by decide) (by decide) (hop2.result (hop1.result (hop0.result (V0 m d))))
  rw [hop2.result_of_not_mem _ (dr_not main_arg4 main_v2 (by decide)), hop1.result_of_not_mem _ (dr_not main_arg4 main_v1 (by decide)), hop0.result_of_not_mem _ (dr_not main_arg4 main_v0 (by decide))] at h
  refine (congrFun h (ix2 k c)).trans ?_
  show transpose S200x100 [1, 0] (m (d, dr main_arg4) : S100x200.Idx → EReal) transposes_S100x200_S200x100_1_0 (ix2 k c) = _
  pointwise

theorem V7_v4 (k : Fin 100) : (V7 m d (dr main_v4) : S1x100.Idx → EReal) (ix2 0 k) = (m (d, dr main_arg5) : S100.Idx → EReal) (ix1 k) := by
  unfold V7
  rw [hop6.result_of_not_mem _ (dr_not main_v4 main_v6 (by decide)), hop5.result_of_not_mem _ (dr_not main_v4 main_v5 (by decide))]
  have h := StableHlo.reshape_result (τ := τ) (Val := Elt Ideal) main_arg5 main_v4 (rfl : (.f32 : EltTy) = .f32) shapeCasts_S100_S1x100 (by decide) (by decide) (hop3.result (hop2.result (hop1.result (hop0.result (V0 m d)))))
  rw [hop3.result_of_not_mem _ (dr_not main_arg5 main_v3 (by decide)), hop2.result_of_not_mem _ (dr_not main_arg5 main_v2 (by decide)), hop1.result_of_not_mem _ (dr_not main_arg5 main_v1 (by decide)), hop0.result_of_not_mem _ (dr_not main_arg5 main_v0 (by decide))] at h
  refine (congrFun h (ix2 0 k)).trans ?_
  show shapeCast S1x100 (m (d, dr main_arg5) : S100.Idx → EReal) shapeCasts_S100_S1x100 (ix2 0 k) = _
  pointwise

theorem V7_v5 (c : Fin 1) (k : Fin 100) : (V7 m d (dr main_v5) : S100x1.Idx → EReal) (ix2 k c) = (m (d, dr main_arg6) : S1x100.Idx → EReal) (ix2 c k) := by
  unfold V7
  rw [hop6.result_of_not_mem _ (dr_not main_v5 main_v6 (by decide))]
  have h := StableHlo.unary_result (τ := τ) (Val := Elt Ideal) main_arg6 main_v5 ((transpose S100x1 [1, 0] · transposes_S1x100_S100x1_1_0) : (⟨S1x100, .f32⟩ : BufTy).Contents (Elt Ideal) → (⟨S100x1, .f32⟩ : BufTy).Contents (Elt Ideal)) (by decide) (by decide) (hop4.result (hop3.result (hop2.result (hop1.result (hop0.result (V0 m d))))))
  rw [hop4.result_of_not_mem _ (dr_not main_arg6 main_v4 (by decide)), hop3.result_of_not_mem _ (dr_not main_arg6 main_v3 (by decide)), hop2.result_of_not_mem _ (dr_not main_arg6 main_v2 (by decide)), hop1.result_of_not_mem _ (dr_not main_arg6 main_v1 (by decide)), hop0.result_of_not_mem _ (dr_not main_arg6 main_v0 (by decide))] at h
  refine (congrFun h (ix2 k c)).trans ?_
  show transpose S100x1 [1, 0] (m (d, dr main_arg6) : S1x100.Idx → EReal) transposes_S1x100_S100x1_1_0 (ix2 k c) = _
  pointwise
  rw [Subsingleton.elim c 0]

theorem V7_v6 (k : Fin 1) : (V7 m d (dr main_v6) : S1x1.Idx → EReal) (ix2 0 k) = (m (d, dr main_arg7) : S1.Idx → EReal) (ix1 k) := by
  unfold V7
  have h := StableHlo.reshape_result (τ := τ) (Val := Elt Ideal) main_arg7 main_v6 (rfl : (.f32 : EltTy) = .f32) shapeCasts_S1_S1x1 (by decide) (by decide) (hop5.result (hop4.result (hop3.result (hop2.result (hop1.result (hop0.result (V0 m d)))))))
  rw [hop5.result_of_not_mem _ (dr_not main_arg7 main_v5 (by decide)), hop4.result_of_not_mem _ (dr_not main_arg7 main_v4 (by decide)), hop3.result_of_not_mem _ (dr_not main_arg7 main_v3 (by decide)), hop2.result_of_not_mem _ (dr_not main_arg7 main_v2 (by decide)), hop1.result_of_not_mem _ (dr_not main_arg7 main_v1 (by decide)), hop0.result_of_not_mem _ (dr_not main_arg7 main_v0 (by decide))] at h
  refine (congrFun h (ix2 0 k)).trans ?_
  show shapeCast S1x1 (m (d, dr main_arg7) : S1.Idx → EReal) shapeCasts_S1_S1x1 (ix2 0 k) = _
  pointwise
  rw [Subsingleton.elim k 0]

theorem V9_table : V9 m d (dr main_v8) = scOut (F := Ideal) (m (d, dr main_arg0)) (m (d, dr main_arg1)) := Function.update_self ..
theorem V9_old (b : Ref sig .tc) (h8 : dr b ≠ dr main_v8) (h7 : dr b ≠ dr main_v7) : V9 m d (dr b) = V7 m d (dr b) :=
  (Function.update_of_ne h8 ..).trans (Function.update_of_ne h7 ..)
theorem V9_first : V9 m d (dr main_v7) = tcTab (F := Ideal) (V7 m d (dr main_arg0)) (V7 m d (dr main_v0)) :=
  (Function.update_of_ne (by decide) ..).trans (Function.update_self ..)

/-- The kernel's result is the reference's function of the arguments. -/
theorem result_eq : V10 m d (dr main_v9) = refOut (m (d, dr main_arg2)) (m (d, dr main_arg3)) (m (d, dr main_arg4)) (m (d, dr main_arg5)) (m (d, dr main_arg6)) (m (d, dr main_arg7))
    (refTab (m (d, dr main_arg0)) (m (d, dr main_arg1))) := by
  have e : V10 m d (dr main_v9) = mergeVal (F := Ideal) (V9 m d (dr main_v7)) (V9 m d (dr main_v8)) (V9 m d (dr main_v1)) (V9 m d (dr main_v2)) (V9 m d (dr main_v3)) (V9 m d (dr main_v4)) (V9 m d (dr main_v5)) (V9 m d (dr main_v6)) :=
    Function.update_self ..
  rw [e, V9_table, V9_first, V9_old m d main_v1 (by decide) (by decide), V9_old m d main_v2 (by decide) (by decide), V9_old m d main_v3 (by decide) (by decide),
    V9_old m d main_v4 (by decide) (by decide), V9_old m d main_v5 (by decide) (by decide), V9_old m d main_v6 (by decide) (by decide), V7_ne m d main_arg0 (by decide)]
  exact values_agree (m (d, dr main_arg0)) (m (d, dr main_arg1)) (V7 m d (dr main_v0)) (V7_v0 m d) (m (d, dr main_arg2)) (m (d, dr main_arg3)) (m (d, dr main_arg4)) (m (d, dr main_arg5)) (m (d, dr main_arg6)) (m (d, dr main_arg7))
    (V7 m d (dr main_v1)) (V7 m d (dr main_v2)) (V7 m d (dr main_v3)) (V7 m d (dr main_v4)) (V7 m d (dr main_v5)) (V7 m d (dr main_v6))
    (V7_v1 m d) (V7_v2 m d) (V7_v3 m d) (V7_v4 m d) (V7_v5 m d) (V7_v6 m d)

end Arrays

theorem agree : Cert.algebraic_KernelIdeal_ReferenceIdeal := by
  intro m g m' g' _ hargs
  refine ⟨fun c => V10 m c (dr main_v9), (θ_run (Cert.KernelIdeal.defs (F := Ideal)) _ _).mono (fun r h => h.1) (run_end (F := Ideal) m g), ?_⟩
  refine (θ_run (Cert.ReferenceIdeal.defs (F := Ideal)) _ _).mono (fun r h c => ⟨(h c).1.trans ?_, (h c).2⟩) (Cert.ReferenceIdeal.Value.run (F := Ideal) m' g')
  obtain ⟨a0, a1, a2, a3, a4, a5, a6, a7⟩ := hargs c
  rw [res_eq m' c, a0, a1, a2, a3, a4, a5, a6, a7]
  exact (result_eq m c).symm

end Cert.Proof.Ext
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.Ext.frame_kernel, Cert.Proof.Ext.frame_kernelIdeal, Cert.Proof.Ext.frame_referenceIdeal, trivial, Cert.Proof.Ext.agree⟩

end Cert.Proof

end
